-- ==== Defs.lean ====
def Pre_Kernel2 [hPre_pre2 : Cert.Pre_pre2.Facts] (m : (ℓ : Loc Cert.Kernel2.nD Cert.Kernel2.τ Cert.Kernel2.sig) → Buf (Elt Bits) ℓ) : Prop :=
  ∀ c : Dev Cert.Kernel2.nD,
    (Cert.Pre_pre2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_pre2 : Cert.Pre_pre2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pre2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_pre2 : Cert.Pre_pre2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pre2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_pre12 [hPre_pre12 : Cert.Pre_pre12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_pre12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_pre12 [hPre_pre12 : Cert.Pre_pre12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_pre12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def quiescent_Kernel2 [hKernel2 : Cert.Kernel2.Facts] [hPre_pre2 : Cert.Pre_pre2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_pre2 : Cert.Pre_pre2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_pre2 : Cert.Pre_pre2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_pre12 [hKernel12Ideal : Cert.Kernel12Ideal.Facts] [hPre_pre12 : Cert.Pre_pre12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_pre12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_pre12 [hReference12Ideal : Cert.Reference12Ideal.Facts] [hPre_pre12 : Cert.Pre_pre12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_pre12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] [hPre_pre2 : Cert.Pre_pre2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_pre12 [hKernel12Ideal : Cert.Kernel12Ideal.Facts] [hReference12Ideal : Cert.Reference12Ideal.Facts] [hPre_pre12 : Cert.Pre_pre12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_pre12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v120)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v120) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v67) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_pre2 : Cert.Pre_pre2.Facts) (hPre_pre12 : Cert.Pre_pre12.Facts),
    quiescent_Kernel2 (hKernel2 := hKernel2) (hPre_pre2 := hPre_pre2)
    ∧ quiescent_Kernel2Ideal (hKernel2Ideal := hKernel2Ideal) (hPre_pre2 := hPre_pre2)
    ∧ quiescent_Reference2Ideal (hReference2Ideal := hReference2Ideal) (hPre_pre2 := hPre_pre2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_pre12 (hKernel12Ideal := hKernel12Ideal) (hPre_pre12 := hPre_pre12)
    ∧ quiescent_Reference12Ideal (hReference12Ideal := hReference12Ideal)
    ∧ quiescent_Reference12Ideal_pre_pre12 (hReference12Ideal := hReference12Ideal) (hPre_pre12 := hPre_pre12)
    ∧ preserves_Kernel2_Kernel2Ideal
    ∧ algebraic_Kernel2Ideal_Reference2Ideal (hKernel2Ideal := hKernel2Ideal) (hReference2Ideal := hReference2Ideal) (hPre_pre2 := hPre_pre2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_pre12 (hKernel12Ideal := hKernel12Ideal) (hReference12Ideal := hReference12Ideal) (hPre_pre12 := hPre_pre12)
-- ==== Pre_pre12.lean ====
abbrev S32x16 : Shape := ⟨2, ![32, 16]⟩
abbrev S16x16384x512 : Shape := ⟨3, ![16, 16384, 512]⟩
abbrev S16384x512 : Shape := ⟨2, ![16384, 512]⟩
abbrev S16384x2048 : Shape := ⟨2, ![16384, 2048]⟩
abbrev S_ : Shape := ⟨0, ![]⟩
abbrev S8x256 : Shape := ⟨2, ![8, 256]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048x2048 : Shape := ⟨3, ![8, 2048, 2048]⟩
abbrev S16384 : Shape := ⟨1, ![16384]⟩

class Facts : Prop where
  bcast_S_S32x16 : S_.BroadcastsInDim S32x16 (![] : Fin 0 → Fin S32x16.rank)
  reducesTo_S32x16_S_d0_1 : S32x16.ReducesTo [0, 1] S_
  h_S_ : 0 < S_.numel
  bitsLt_bf16_f32 : FTy.bits .bf16 < FTy.bits .f32
  bcast_S_S16x16384x512 : S_.BroadcastsInDim S16x16384x512 (![] : Fin 0 → Fin S16x16384x512.rank)
  reducesTo_S16x16384x512_S_d0_1_2 : S16x16384x512.ReducesTo [0, 1, 2] S_
  bcast_S_S16384x512 : S_.BroadcastsInDim S16384x512 (![] : Fin 0 → Fin S16384x512.rank)
  reducesTo_S16384x512_S_d0_1 : S16384x512.ReducesTo [0, 1] S_
  shapeCasts_S8x256_S2048 : S8x256.ShapeCasts S2048
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S2048x2048_S1x2048x2048_1_2 : S2048x2048.BroadcastsInDim S1x2048x2048 (![1, 2] : Fin 2 → Fin S1x2048x2048.rank)
  shapeCasts_S16384x2048_S8x2048x2048 : S16384x2048.ShapeCasts S8x2048x2048
  bcast_S_S8x2048x2048 : S_.BroadcastsInDim S8x2048x2048 (![] : Fin 0 → Fin S8x2048x2048.rank)
  bcast_S1x2048x2048_S8x2048x2048_0_1_2 : S1x2048x2048.BroadcastsInDim S8x2048x2048 (![0, 1, 2] : Fin 3 → Fin S8x2048x2048.rank)
  reducesTo_S8x2048x2048_S_d0_1_2 : S8x2048x2048.ReducesTo [0, 1, 2] S_
  reducesTo_S16384x2048_S16384_d1 : S16384x2048.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : FVec F S16384x2048 .f32) (main_v14 : IVec S_ 1) (main_v16 : IVec S2048 32) (main_v17 : IVec S1x2048 32) : IVec S_ 1 :=
  let main_v18 : IVec S2048x1 32 := broadcastInDim S2048x1 ![0] bcast_S2048_S2048x1_0 main_v16
  let main_v19 : IVec S2048x2048 32 := broadcastInDim S2048x2048 ![0, 1] bcast_S1x2048_S2048x2048_0_1 main_v17
  let main_v20 : IVec S2048x2048 32 := broadcastInDim S2048x2048 ![0, 1] bcast_S2048x1_S2048x2048_0_1 main_v18
  let main_v21 : IVec S2048x2048 1 := cmpi .sle main_v19 main_v20
  let main_v22 : IVec S1x2048x2048 1 := broadcastInDim S1x2048x2048 ![1, 2] bcast_S2048x2048_S1x2048x2048_1_2 main_v21
  let main_v23 : FVec F S8x2048x2048 .f32 := shapeCast S8x2048x2048 main_arg3 shapeCasts_S16384x2048_S8x2048x2048
  let main_cst_4 : FVec F S_ .f32 := constant S_ .f32 0x00000000#32
  let main_v24 : FVec F S8x2048x2048 .f32 := broadcastInDim S8x2048x2048 ![] bcast_S_S8x2048x2048 main_cst_4
  let main_v25 : IVec S8x2048x2048 1 := cmpf .ole main_v23 main_v24
  let main_v26 : IVec S8x2048x2048 1 := broadcastInDim S8x2048x2048 ![0, 1, 2] bcast_S1x2048x2048_S8x2048x2048_0_1_2 main_v22
  let main_v27 : IVec S8x2048x2048 1 := ori main_v26 main_v25
  let main_c_5 : IVec S_ 1 := constantI S_ 1 1#1
  let main_v28 : IVec S_ 1 := (fun x v => Host.reduce IntOp.andi x v reducesTo_S8x2048x2048_S_d0_1_2 h_S_) main_v27 main_c_5
  let main_v29 : IVec S_ 1 := andi main_v14 main_v28
  let main_cst_6 : FVec F S_ .f32 := constant S_ .f32 0xFF800000#32
  let main_v30 : FVec F S16384 .f32 := (fun x v => Host.reduce FloatOps.maximumf x v reducesTo_S16384x2048_S16384_d1 h_S_) main_arg3 main_cst_6
  let main_cst_7 : FVec F S_ .f32 := constant S_ .f32 0x00000000#32
  let main_v31 : FVec F S16384 .f32 := broadcastInDim S16384 ![] bcast_S_S16384 main_cst_7
  let main_v32 : IVec S16384 1 := cmpf .ogt main_v30 main_v31
  let main_c_8 : IVec S_ 1 := constantI S_ 1 1#1
  let main_v33 : IVec S_ 1 := (fun x v => Host.reduce IntOp.andi x v reducesTo_S16384_S_d0 h_S_) main_v32 main_c_8
  let main_v34 : IVec S_ 1 := andi main_v29 main_v33
  main_v34

def fn {F : FTy → Type} [FloatOps F] (main_arg0 : FVec F S32x16 .f32) (main_arg1 : FVec F S16x16384x512 .bf16) (main_arg2 : FVec F S16384x512 .f32) (main_arg3 : FVec F S16384x2048 .f32) : IVec S_ 1 :=
  let main_v0 : FVec F S32x16 .f32 := Host.absf main_arg0
  let main_cst : FVec F S_ .f32 := constant S_ .f32 0x7F800000#32
  let main_v1 : FVec F S32x16 .f32 := broadcastInDim S32x16 ![] bcast_S_S32x16 main_cst
  let main_v2 : IVec S32x16 1 := cmpf .olt main_v0 main_v1
  let main_c : IVec S_ 1 := constantI S_ 1 1#1
  let main_v3 : IVec S_ 1 := (fun x v => Host.reduce IntOp.andi x v reducesTo_S32x16_S_d0_1 h_S_) main_v2 main_c
  let main_v4 : FVec F S16x16384x512 .f32 := (extf .f32 · bitsLt_bf16_f32) main_arg1
  let main_v5 : FVec F S16x16384x512 .f32 := Host.absf main_v4
  let main_cst_0 : FVec F S_ .f32 := constant S_ .f32 0x7F800000#32
  let main_v6 : FVec F S16x16384x512 .f32 := broadcastInDim S16x16384x512 ![] bcast_S_S16x16384x512 main_cst_0
  let main_v7 : IVec S16x16384x512 1 := cmpf .olt main_v5 main_v6
  let main_c_1 : IVec S_ 1 := constantI S_ 1 1#1
  let main_v8 : IVec S_ 1 := (fun x v => Host.reduce IntOp.andi x v reducesTo_S16x16384x512_S_d0_1_2 h_S_) main_v7 main_c_1
  let main_v9 : IVec S_ 1 := andi main_v3 main_v8
  let main_v10 : FVec F S16384x512 .f32 := Host.absf main_arg2
  let main_cst_2 : FVec F S_ .f32 := constant S_ .f32 0x7F800000#32
  let main_v11 : FVec F S16384x512 .f32 := broadcastInDim S16384x512 ![] bcast_S_S16384x512 main_cst_2
  let main_v12 : IVec S16384x512 1 := cmpf .olt main_v10 main_v11
  let main_c_3 : IVec S_ 1 := constantI S_ 1 1#1
  let main_v13 : IVec S_ 1 := (fun x v => Host.reduce IntOp.andi x v reducesTo_S16384x512_S_d0_1 h_S_) main_v12 main_c_3
  let main_v14 : IVec S_ 1 := andi main_v9 main_v13
  let main_v15 : IVec S8x256 32 := iotaInDim S8x256 32 0
  let main_v16 : IVec S2048 32 := shapeCast S2048 main_v15 shapeCasts_S8x256_S2048
  let main_v17 : IVec S1x2048 32 := broadcastInDim S1x2048 ![1] bcast_S2048_S1x2048_1 main_v16
  fn_part1 (F := F) main_arg3 main_v14 main_v16 main_v17
-- ==== Pre_pre2.lean ====
abbrev S144 : Shape := ⟨1, ![144]⟩
abbrev S1 : Shape := ⟨1, ![1]⟩
abbrev S36864x2048 : Shape := ⟨2, ![36864, 2048]⟩
abbrev S2x16x2048x512 : Shape := ⟨4, ![2, 16, 2048, 512]⟩
abbrev S2x16x512x2048 : Shape := ⟨4, ![2, 16, 512, 2048]⟩
abbrev S_ : Shape := ⟨0, ![]⟩

class Facts : Prop where
  bcast_S_S144 : S_.BroadcastsInDim S144 (![] : Fin 0 → Fin S144.rank)
  reducesTo_S144_S_d0 : S144.ReducesTo [0] S_
  h_S_ : 0 < S_.numel

variable [Facts]

def fn {F : FTy → Type} [FloatOps F] (main_arg0 : IVec S144 32) (main_arg1 : IVec S1 32) (main_arg2 : FVec F S36864x2048 .f32) (main_arg3 : FVec F S2x16x2048x512 .bf16) (main_arg4 : FVec F S2x16x2048x512 .bf16) (main_arg5 : FVec F S2x16x512x2048 .bf16) : IVec S_ 1 :=
  let main_c : IVec S_ 32 := constantI S_ 32 0#32
  let main_v0 : IVec S144 32 := broadcastInDim S144 ![] bcast_S_S144 main_c
  let main_v1 : IVec S144 1 := cmpi .sge main_arg0 main_v0
  let main_c_0 : IVec S_ 32 := constantI S_ 32 16#32
  let main_v2 : IVec S144 32 := broadcastInDim S144 ![] bcast_S_S144 main_c_0
  let main_v3 : IVec S144 1 := cmpi .slt main_arg0 main_v2
  let main_v4 : IVec S144 1 := andi main_v1 main_v3
  let main_c_1 : IVec S_ 1 := constantI S_ 1 1#1
  let main_v5 : IVec S_ 1 := (fun x v => Host.reduce IntOp.andi x v reducesTo_S144_S_d0 h_S_) main_v4 main_c_1
  main_v5
-- ==== Kernel2.lean ====
abbrev S144 : Shape := ⟨1, ![144]⟩
abbrev S1 : Shape := ⟨1, ![1]⟩
abbrev S36864x2048 : Shape := ⟨2, ![36864, 2048]⟩
abbrev S2x16x2048x512 : Shape := ⟨4, ![2, 16, 2048, 512]⟩
abbrev S2x16x512x2048 : Shape := ⟨4, ![2, 16, 512, 2048]⟩
abbrev S256x2048 : Shape := ⟨2, ![256, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 5
  | .vmem => 10
  | .smem => 2
  | _ => 0

abbrev bufTy : (tb : Table) → Fin (tcTables nBuf tb) → BufTy
  | .hbm, ⟨0, _⟩ => ⟨S36864x2048, .f32⟩
  | .hbm, ⟨1, _⟩ => ⟨S2x16x2048x512, .bf16⟩
  | .hbm, ⟨2, _⟩ => ⟨S2x16x2048x512, .bf16⟩
  | .hbm, ⟨3, _⟩ => ⟨S2x16x512x2048, .bf16⟩
  | .hbm, ⟨4, _⟩ => ⟨S36864x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x512x2048, .bf16⟩
  | .local _ .vmem, ⟨7, _⟩ => ⟨S1x1x512x2048, .bf16⟩
  | .local _ .vmem, ⟨8, _⟩ => ⟨S256x2048, .f32⟩
  | .local _ .vmem, ⟨9, _⟩ => ⟨S256x2048, .f32⟩
  | .local _ .smem, ⟨0, _⟩ => ⟨S144, .i32⟩
  | .local _ .smem, ⟨1, _⟩ => ⟨S1, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![144], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S144.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S144 : Shape := ⟨1, ![144]⟩
abbrev S1 : Shape := ⟨1, ![1]⟩
abbrev S36864x2048 : Shape := ⟨2, ![36864, 2048]⟩
abbrev S2x16x2048x512 : Shape := ⟨4, ![2, 16, 2048, 512]⟩
abbrev S2x16x512x2048 : Shape := ⟨4, ![2, 16, 512, 2048]⟩
abbrev S1x16x2048x512 : Shape := ⟨4, ![1, 16, 2048, 512]⟩
abbrev S16x2048x512 : Shape := ⟨3, ![16, 2048, 512]⟩
abbrev S1x16x512x2048 : Shape := ⟨4, ![1, 16, 512, 2048]⟩
abbrev S16x512x2048 : Shape := ⟨3, ![16, 512, 2048]⟩
abbrev S144x1 : Shape := ⟨2, ![144, 1]⟩
abbrev S16 : Shape := ⟨1, ![16]⟩
abbrev S1x16 : Shape := ⟨2, ![1, 16]⟩
abbrev S144x16 : Shape := ⟨2, ![144, 16]⟩
abbrev S144x256x16 : Shape := ⟨3, ![144, 256, 16]⟩
abbrev S36864x16 : Shape := ⟨2, ![36864, 16]⟩
abbrev S16x512x36864 : Shape := ⟨3, ![16, 512, 36864]⟩
abbrev S16x36864x512 : Shape := ⟨3, ![16, 36864, 512]⟩
abbrev S_ : Shape := ⟨0, ![]⟩
abbrev S16x36864x2048 : Shape := ⟨3, ![16, 36864, 2048]⟩
abbrev S16x36864 : Shape := ⟨2, ![16, 36864]⟩
abbrev S16x36864x1 : Shape := ⟨3, ![16, 36864, 1]⟩

abbrev nBuf : Space → Nat
  | .hbm => 51
  | .vmem => 0
  | .smem => 0
  | _ => 0

abbrev bufTy : (tb : Table) → Fin (tcTables nBuf tb) → BufTy
  | .hbm, ⟨0, _⟩ => ⟨S144, .i32⟩
  | .hbm, ⟨1, _⟩ => ⟨S1, .i32⟩
  | .hbm, ⟨2, _⟩ => ⟨S36864x2048, .f32⟩
  | .hbm, ⟨3, _⟩ => ⟨S2x16x2048x512, .bf16⟩
  | .hbm, ⟨4, _⟩ => ⟨S2x16x2048x512, .bf16⟩
  | .hbm, ⟨5, _⟩ => ⟨S2x16x512x2048, .bf16⟩
  | .hbm, ⟨6, _⟩ => ⟨S1x16x2048x512, .bf16⟩
  | .hbm, ⟨7, _⟩ => ⟨S16x2048x512, .bf16⟩
  | .hbm, ⟨8, _⟩ => ⟨S16x2048x512, .f32⟩
  | .hbm, ⟨9, _⟩ => ⟨S1x16x2048x512, .bf16⟩
  | .hbm, ⟨10, _⟩ => ⟨S16x2048x512, .bf16⟩
  | .hbm, ⟨11, _⟩ => ⟨S16x2048x512, .f32⟩
  | .hbm, ⟨12, _⟩ => ⟨S1x16x512x2048, .bf16⟩
  | .hbm, ⟨13, _⟩ => ⟨S16x512x2048, .bf16⟩
  | .hbm, ⟨14, _⟩ => ⟨S16x512x2048, .f32⟩
  | .hbm, ⟨15, _⟩ => ⟨S144x1, .i32⟩
  | .hbm, ⟨16, _⟩ => ⟨S16, .i32⟩
  | .hbm, ⟨17, _⟩ => ⟨S1x16, .i32⟩
  | .hbm, ⟨18, _⟩ => ⟨S144x16, .i32⟩
  | .hbm, ⟨19, _⟩ => ⟨S144x16, .i32⟩
  | .hbm, ⟨20, _⟩ => ⟨S144x16, .i1⟩
  | .hbm, ⟨21, _⟩ => ⟨S144, .i32⟩
  | .hbm, ⟨22, _⟩ => ⟨S144, .i32⟩
  | .hbm, ⟨23, _⟩ => ⟨S144, .i1⟩
  | .hbm, ⟨24, _⟩ => ⟨S144x1, .i1⟩
  | .hbm, ⟨25, _⟩ => ⟨S144x16, .i1⟩
  | .hbm, ⟨26, _⟩ => ⟨S144x16, .i1⟩
  | .hbm, ⟨27, _⟩ => ⟨S144x16, .f32⟩
  | .hbm, ⟨28, _⟩ => ⟨S144x256x16, .f32⟩
  | .hbm, ⟨29, _⟩ => ⟨S36864x16, .f32⟩
  | .hbm, ⟨30, _⟩ => ⟨S16x512x36864, .f32⟩
  | .hbm, ⟨31, _⟩ => ⟨S16x36864x512, .f32⟩
  | .hbm, ⟨32, _⟩ => ⟨S16x512x36864, .f32⟩
  | .hbm, ⟨33, _⟩ => ⟨S16x36864x512, .f32⟩
  | .hbm, ⟨34, _⟩ => ⟨S16x36864x512, .f32⟩
  | .hbm, ⟨35, _⟩ => ⟨S16x36864x512, .f32⟩
  | .hbm, ⟨36, _⟩ => ⟨S_, .f32⟩
  | .hbm, ⟨37, _⟩ => ⟨S16x36864x512, .f32⟩
  | .hbm, ⟨38, _⟩ => ⟨S16x36864x512, .f32⟩
  | .hbm, ⟨39, _⟩ => ⟨S_, .f32⟩
  | .hbm, ⟨40, _⟩ => ⟨S16x36864x512, .f32⟩
  | .hbm, ⟨41, _⟩ => ⟨S16x36864x512, .f32⟩
  | .hbm, ⟨42, _⟩ => ⟨S16x36864x512, .f32⟩
  | .hbm, ⟨43, _⟩ => ⟨S16x36864x512, .f32⟩
  | .hbm, ⟨44, _⟩ => ⟨S16x36864x2048, .f32⟩
  | .hbm, ⟨45, _⟩ => ⟨S16x36864, .f32⟩
  | .hbm, ⟨46, _⟩ => ⟨S16x36864x1, .f32⟩
  | .hbm, ⟨47, _⟩ => ⟨S16x36864x2048, .f32⟩
  | .hbm, ⟨48, _⟩ => ⟨S16x36864x2048, .f32⟩
  | .hbm, ⟨49, _⟩ => ⟨S_, .f32⟩
  | .hbm, ⟨50, _⟩ => ⟨S36864x2048, .f32⟩
  | _, _ => ⟨S144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Kernel3.lean ====
abbrev S16384x2048 : Shape := ⟨2, ![16384, 2048]⟩
abbrev S2048x6144 : Shape := ⟨2, ![2048, 6144]⟩
abbrev S6x16384x1024 : Shape := ⟨3, ![6, 16384, 1024]⟩
abbrev S512x2048 : Shape := ⟨2, ![512, 2048]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S6x16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .f32⟩
  | .local _ .vmem, ⟨5, _⟩ => ⟨S1x512x1024, .f32⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x6144 : Shape := ⟨2, ![2048, 6144]⟩
abbrev S16384x6144 : Shape := ⟨2, ![16384, 6144]⟩
abbrev S16384x6x1024 : Shape := ⟨3, ![16384, 6, 1024]⟩
abbrev S6x16384x1024 : Shape := ⟨3, ![6, 16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S16384x2048, .f32⟩
  | .hbm, ⟨3, _⟩ => ⟨S16384x6144, .f32⟩
  | .hbm, ⟨4, _⟩ => ⟨S16384x6x1024, .f32⟩
  | .hbm, ⟨5, _⟩ => ⟨S6x16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S256x1x2048 : Shape := ⟨3, ![256, 1, 2048]⟩
abbrev S512x2048 : Shape := ⟨2, ![512, 2048]⟩
abbrev S2048x1024 : Shape := ⟨2, ![2048, 1024]⟩
abbrev S8x1x1024 : Shape := ⟨3, ![8, 1, 1024]⟩
abbrev S512x1024 : Shape := ⟨2, ![512, 1024]⟩
abbrev S8x64x1024 : Shape := ⟨3, ![8, 64, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S256x1x2048, .f32⟩
  | .hbm, ⟨3, _⟩ => ⟨S16384x2048, .f32⟩
  | .hbm, ⟨4, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S8x1x1024, .f32⟩
  | .local _ .vmem, ⟨5, _⟩ => ⟨S8x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x2048 : Shape := ⟨2, ![16384, 2048]⟩
abbrev S2048x2048 : Shape := ⟨2, ![2048, 2048]⟩
abbrev S256x1x2048 : Shape := ⟨3, ![256, 1, 2048]⟩
abbrev S256x2048 : Shape := ⟨2, ![256, 2048]⟩
abbrev S256x64x2048 : Shape := ⟨3, ![256, 64, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S256x1x2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S256x2048, .f32⟩
  | .hbm, ⟨7, _⟩ => ⟨S256x64x2048, .f32⟩
  | .hbm, ⟨8, _⟩ => ⟨S16384x2048, .f32⟩
  | .hbm, ⟨9, _⟩ => ⟨S16384x2048, .f32⟩
  | .hbm, ⟨10, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S16384x512 : Shape := ⟨2, ![16384, 512]⟩
abbrev S512x2048 : Shape := ⟨2, ![512, 2048]⟩
abbrev S16384x2048 : Shape := ⟨2, ![16384, 2048]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x512, .bf16⟩
  | .hbm, ⟨1, _⟩ => ⟨S512x2048, .f32⟩
  | .hbm, ⟨2, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x512 : Shape := ⟨2, ![16384, 512]⟩
abbrev S512x2048 : Shape := ⟨2, ![512, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x2048, .f32⟩
  | .hbm, ⟨2, _⟩ => ⟨S16384x512, .f32⟩
  | .hbm, ⟨3, _⟩ => ⟨S16384x2048, .f32⟩
  | .hbm, ⟨4, _⟩ => ⟨S16384x2048, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S16384x2048 : Shape := ⟨2, ![16384, 2048]⟩
abbrev S512x16x128 : Shape := ⟨3, ![512, 16, 128]⟩
abbrev S16x128x512 : Shape := ⟨3, ![16, 128, 512]⟩
abbrev S16x16384x512 : Shape := ⟨3, ![16, 16384, 512]⟩
abbrev S2048x128 : Shape := ⟨2, ![2048, 128]⟩
abbrev S1x128x512 : Shape := ⟨3, ![1, 128, 512]⟩
abbrev S1x2048x512 : Shape := ⟨3, ![1, 2048, 512]⟩
abbrev S128x512 : Shape := ⟨2, ![128, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S512x16x128, .f32⟩
  | .hbm, ⟨2, _⟩ => ⟨S16x128x512, .f32⟩
  | .hbm, ⟨3, _⟩ => ⟨S16x16384x512, .bf16⟩
  | .local _ .vmem, ⟨0, _⟩ => ⟨S2048x128, .bf16⟩
  | .local _ .vmem, ⟨1, _⟩ => ⟨S2048x128, .bf16⟩
  | .local _ .vmem, ⟨2, _⟩ => ⟨S1x128x512, .f32⟩
  | .local _ .vmem, ⟨3, _⟩ => ⟨S1x128x512, .f32⟩
  | .local _ .vmem, ⟨4, _⟩ => ⟨S1x2048x512, .bf16⟩
  | .local _ .vmem, ⟨5, _⟩ => ⟨S1x2048x512, .bf16⟩
  | .local _ .vmem, ⟨6, _⟩ => ⟨S128x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x2048 : Shape := ⟨2, ![16384, 2048]⟩
abbrev S512x16x128 : Shape := ⟨3, ![512, 16, 128]⟩
abbrev S16384x16x128 : Shape := ⟨3, ![16384, 16, 128]⟩
abbrev S16x16384x512 : Shape := ⟨3, ![16, 16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S512x16x128, .f32⟩
  | .hbm, ⟨2, _⟩ => ⟨S16384x2048, .f32⟩
  | .hbm, ⟨3, _⟩ => ⟨S16384x16x128, .f32⟩
  | .hbm, ⟨4, _⟩ => ⟨S16x16384x512, .f32⟩
  | .hbm, ⟨5, _⟩ => ⟨S16x16384x512, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S16x16384x512 : Shape := ⟨3, ![16, 16384, 512]⟩
abbrev S512x16x128 : Shape := ⟨3, ![512, 16, 128]⟩
abbrev S16x512x128 : Shape := ⟨3, ![16, 512, 128]⟩
abbrev S16384x2048 : Shape := ⟨2, ![16384, 2048]⟩
abbrev S1x2048x512 : Shape := ⟨3, ![1, 2048, 512]⟩
abbrev S1x512x128 : Shape := ⟨3, ![1, 512, 128]⟩
abbrev S2048x128 : Shape := ⟨2, ![2048, 128]⟩
abbrev S512x128 : Shape := ⟨2, ![512, 128]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S16x16384x512, .bf16⟩
  | .hbm, ⟨1, _⟩ => ⟨S512x16x128, .f32⟩
  | .hbm, ⟨2, _⟩ => ⟨S16x512x128, .f32⟩
  | .hbm, ⟨3, _⟩ => ⟨S16384x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x512x128, .f32⟩
  | .local _ .vmem, ⟨3, _⟩ => ⟨S1x512x128, .f32⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | _, _ => ⟨S16x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16x16384x512 : Shape := ⟨3, ![16, 16384, 512]⟩
abbrev S512x16x128 : Shape := ⟨3, ![512, 16, 128]⟩
abbrev S16x128x16384 : Shape := ⟨3, ![16, 128, 16384]⟩
abbrev S16384x16x128 : Shape := ⟨3, ![16384, 16, 128]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16x16384x512, .bf16⟩
  | .hbm, ⟨1, _⟩ => ⟨S512x16x128, .f32⟩
  | .hbm, ⟨2, _⟩ => ⟨S16x16384x512, .f32⟩
  | .hbm, ⟨3, _⟩ => ⟨S16x128x16384, .f32⟩
  | .hbm, ⟨4, _⟩ => ⟨S16384x16x128, .f32⟩
  | .hbm, ⟨5, _⟩ => ⟨S16384x2048, .f32⟩
  | .hbm, ⟨6, _⟩ => ⟨S16384x2048, .bf16⟩
  | _, _ => ⟨S16x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S16384x2048 : Shape := ⟨2, ![16384, 2048]⟩
abbrev S2048x1168 : Shape := ⟨2, ![2048, 1168]⟩
abbrev S_ : Shape := ⟨0, ![]⟩
abbrev S2048x1280 : Shape := ⟨2, ![2048, 1280]⟩
abbrev S16384x1280 : Shape := ⟨2, ![16384, 1280]⟩
abbrev S512x2048 : Shape := ⟨2, ![512, 2048]⟩
abbrev S512x1280 : Shape := ⟨2, ![512, 1280]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x1168, .f32⟩
  | .hbm, ⟨2, _⟩ => ⟨S_, .i32⟩
  | .hbm, ⟨3, _⟩ => ⟨S_, .f32⟩
  | .hbm, ⟨4, _⟩ => ⟨S2048x1280, .f32⟩
  | .hbm, ⟨5, _⟩ => ⟨S16384x1280, .f32⟩
  | .local _ .vmem, ⟨0, _⟩ => ⟨S512x2048, .bf16⟩
  | .local _ .vmem, ⟨1, _⟩ => ⟨S512x2048, .bf16⟩
  | .local _ .vmem, ⟨2, _⟩ => ⟨S2048x1280, .f32⟩
  | .local _ .vmem, ⟨3, _⟩ => ⟨S512x1280, .f32⟩
  | .local _ .vmem, ⟨4, _⟩ => ⟨S512x1280, .f32⟩
  | .local _ .vmem, ⟨5, _⟩ => ⟨S2048x1280, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x2048 : Shape := ⟨2, ![16384, 2048]⟩
abbrev S2048x1168 : Shape := ⟨2, ![2048, 1168]⟩
abbrev S16384x1168 : Shape := ⟨2, ![16384, 1168]⟩
abbrev S_ : Shape := ⟨0, ![]⟩
abbrev S16384x1280 : Shape := ⟨2, ![16384, 1280]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1168, .f32⟩
  | .hbm, ⟨2, _⟩ => ⟨S16384x2048, .f32⟩
  | .hbm, ⟨3, _⟩ => ⟨S16384x1168, .f32⟩
  | .hbm, ⟨4, _⟩ => ⟨S_, .i32⟩
  | .hbm, ⟨5, _⟩ => ⟨S_, .f32⟩
  | .hbm, ⟨6, _⟩ => ⟨S16384x1280, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel9.lean ====
abbrev S16384x2048 : Shape := ⟨2, ![16384, 2048]⟩
abbrev S2048 : Shape := ⟨1, ![2048]⟩
abbrev S256x1x2048 : Shape := ⟨3, ![256, 1, 2048]⟩
abbrev S1x2048 : Shape := ⟨2, ![1, 2048]⟩
abbrev S256x2048 : Shape := ⟨2, ![256, 2048]⟩
abbrev S4x1x2048 : Shape := ⟨3, ![4, 1, 2048]⟩
abbrev S256 : Shape := ⟨1, ![256]⟩
abbrev S256x1 : Shape := ⟨2, ![256, 1]⟩
abbrev S4x64x2048 : Shape := ⟨3, ![4, 64, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S256x1x2048, .f32⟩
  | .hbm, ⟨3, _⟩ => ⟨S256x1x2048, .f32⟩
  | .hbm, ⟨4, _⟩ => ⟨S1x2048, .f32⟩
  | .hbm, ⟨5, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S4x1x2048, .f32⟩
  | .local _ .vmem, ⟨4, _⟩ => ⟨S4x1x2048, .f32⟩
  | .local _ .vmem, ⟨5, _⟩ => ⟨S4x1x2048, .f32⟩
  | .local _ .vmem, ⟨6, _⟩ => ⟨S4x1x2048, .f32⟩
  | .local _ .vmem, ⟨7, _⟩ => ⟨S256x2048, .bf16⟩
  | .local _ .vmem, ⟨8, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S16384x2048 : Shape := ⟨2, ![16384, 2048]⟩
abbrev S2048 : Shape := ⟨1, ![2048]⟩
abbrev S256x1x2048 : Shape := ⟨3, ![256, 1, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S256x2048 : Shape := ⟨2, ![256, 2048]⟩
abbrev S256x64x2048 : Shape := ⟨3, ![256, 64, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S256x1x2048, .f32⟩
  | .hbm, ⟨3, _⟩ => ⟨S256x1x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S256x2048, .f32⟩
  | .hbm, ⟨21, _⟩ => ⟨S256x64x2048, .f32⟩
  | .hbm, ⟨22, _⟩ => ⟨S16384x2048, .f32⟩
  | .hbm, ⟨23, _⟩ => ⟨S256x2048, .f32⟩
  | .hbm, ⟨24, _⟩ => ⟨S256x64x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel10.lean ====
abbrev S16384x2048 : Shape := ⟨2, ![16384, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel11.lean ====
abbrev S16384x1280 : Shape := ⟨2, ![16384, 1280]⟩
abbrev S512 : Shape := ⟨1, ![512]⟩
abbrev S1x512 : Shape := ⟨2, ![1, 512]⟩
abbrev S16384x512 : Shape := ⟨2, ![16384, 512]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1280, .f32⟩
  | .hbm, ⟨1, _⟩ => ⟨S512, .f32⟩
  | .hbm, ⟨2, _⟩ => ⟨S1x512, .f32⟩
  | .hbm, ⟨3, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x512, .f32⟩
  | .local _ .vmem, ⟨4, _⟩ => ⟨S256x512, .f32⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S16384x1280 : Shape := ⟨2, ![16384, 1280]⟩
abbrev S512 : Shape := ⟨1, ![512]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S16384x1280, .f32⟩
  | .hbm, ⟨1, _⟩ => ⟨S512, .f32⟩
  | .hbm, ⟨2, _⟩ => ⟨S16384x512, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x512, .f32⟩
  | .hbm, ⟨15, _⟩ => ⟨S16384x512, .f32⟩
  | .hbm, ⟨16, _⟩ => ⟨S1x512, .f32⟩
  | .hbm, ⟨17, _⟩ => ⟨S16384x512, .f32⟩
  | .hbm, ⟨18, _⟩ => ⟨S16384x512, .f32⟩
  | _, _ => ⟨S16384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S32x16 : Shape := ⟨2, ![32, 16]⟩
abbrev S16x16384x512 : Shape := ⟨3, ![16, 16384, 512]⟩
abbrev S16384x512 : Shape := ⟨2, ![16384, 512]⟩
abbrev S16384x2048 : Shape := ⟨2, ![16384, 2048]⟩
abbrev S_ : Shape := ⟨0, ![]⟩
abbrev S1 : Shape := ⟨1, ![1]⟩
abbrev S1x1 : Shape := ⟨2, ![1, 1]⟩
abbrev S1x16 : Shape := ⟨2, ![1, 16]⟩
abbrev S16 : Shape := ⟨1, ![16]⟩
abbrev S16x1x1 : Shape := ⟨3, ![16, 1, 1]⟩
abbrev S256 : Shape := ⟨1, ![256]⟩
abbrev S4x64 : Shape := ⟨2, ![4, 64]⟩
abbrev S1x1x256 : Shape := ⟨3, ![1, 1, 256]⟩
abbrev S4x64x1 : Shape := ⟨3, ![4, 64, 1]⟩
abbrev S4x64x256 : Shape := ⟨3, ![4, 64, 256]⟩
abbrev S4x64x256x1 : Shape := ⟨4, ![4, 64, 256, 1]⟩
abbrev S32 : Shape := ⟨1, ![32]⟩
abbrev S1x1x1x32 : Shape := ⟨4, ![1, 1, 1, 32]⟩
abbrev S4x64x256x32 : Shape := ⟨4, ![4, 64, 256, 32]⟩
abbrev S16x4x64x256 : Shape := ⟨4, ![16, 4, 64, 256]⟩
abbrev S4x16x64x256 : Shape := ⟨4, ![4, 16, 64, 256]⟩
abbrev S16x64x512 : Shape := ⟨3, ![16, 64, 512]⟩
abbrev S2048x512 : Shape := ⟨2, ![2048, 512]⟩
abbrev S64x2048 : Shape := ⟨2, ![64, 2048]⟩
abbrev S1x16x64x256 : Shape := ⟨4, ![1, 16, 64, 256]⟩
abbrev S1024x512 : Shape := ⟨2, ![1024, 512]⟩
abbrev S256x512 : Shape := ⟨2, ![256, 512]⟩
abbrev S64x256 : Shape := ⟨2, ![64, 256]⟩
abbrev S16x64x256 : Shape := ⟨3, ![16, 64, 256]⟩
abbrev S1024x256 : Shape := ⟨2, ![1024, 256]⟩
abbrev S1x64x256 : Shape := ⟨3, ![1, 64, 256]⟩
abbrev S16x64 : Shape := ⟨2, ![16, 64]⟩
abbrev S16x64x1 : Shape := ⟨3, ![16, 64, 1]⟩
abbrev S512x512 : Shape := ⟨2, ![512, 512]⟩
abbrev S64x512 : Shape := ⟨2, ![64, 512]⟩
abbrev S1x64x512 : Shape := ⟨3, ![1, 64, 512]⟩
abbrev S768x512 : Shape := ⟨2, ![768, 512]⟩
abbrev S64x768 : Shape := ⟨2, ![64, 768]⟩
abbrev S1024x768 : Shape := ⟨2, ![1024, 768]⟩
abbrev S16x64x768 : Shape := ⟨3, ![16, 64, 768]⟩
abbrev S1x64x768 : Shape := ⟨3, ![1, 64, 768]⟩
abbrev S64x1024 : Shape := ⟨2, ![64, 1024]⟩
abbrev S1024x1024 : Shape := ⟨2, ![1024, 1024]⟩
abbrev S16x64x1024 : Shape := ⟨3, ![16, 64, 1024]⟩
abbrev S1x64x1024 : Shape := ⟨3, ![1, 64, 1024]⟩
abbrev S1280x512 : Shape := ⟨2, ![1280, 512]⟩
abbrev S64x1280 : Shape := ⟨2, ![64, 1280]⟩
abbrev S1024x1280 : Shape := ⟨2, ![1024, 1280]⟩
abbrev S16x64x1280 : Shape := ⟨3, ![16, 64, 1280]⟩
abbrev S1x64x1280 : Shape := ⟨3, ![1, 64, 1280]⟩
abbrev S1536x512 : Shape := ⟨2, ![1536, 512]⟩
abbrev S64x1536 : Shape := ⟨2, ![64, 1536]⟩
abbrev S1024x1536 : Shape := ⟨2, ![1024, 1536]⟩
abbrev S16x64x1536 : Shape := ⟨3, ![16, 64, 1536]⟩
abbrev S1x64x1536 : Shape := ⟨3, ![1, 64, 1536]⟩

abbrev nBuf : Space → Nat
  | .hbm => 166
  | .vmem => 13
  | .smem => 0
  | _ => 0

abbrev hbmTy0_0 (i : Nat) : BufTy := match i % 128 with
  | 0 => ⟨S32x16, .f32⟩
  | 1 => ⟨S16x16384x512, .bf16⟩
  | 2 => ⟨S16384x512, .f32⟩
  | 3 => ⟨S16384x2048, .f32⟩
  | 4 => ⟨S_, .i32⟩
  | 5 => ⟨S1, .i32⟩
  | 6 => ⟨S1, .i32⟩
  | 7 => ⟨S_, .i32⟩
  | 8 => ⟨S1, .i32⟩
  | 9 => ⟨S1, .i32⟩
  | 10 => ⟨S1, .f32⟩
  | 11 => ⟨S_, .f32⟩
  | 12 => ⟨S1, .f32⟩
  | 13 => ⟨S1, .f32⟩
  | 14 => ⟨S1, .f32⟩
  | 15 => ⟨S_, .f32⟩
  | 16 => ⟨S1, .f32⟩
  | 17 => ⟨S1, .f32⟩
  | 18 => ⟨S_, .f32⟩
  | 19 => ⟨S1, .f32⟩
  | 20 => ⟨S1, .f32⟩
  | 21 => ⟨S1, .i32⟩
  | 22 => ⟨S_, .i32⟩
  | 23 => ⟨S1, .i32⟩
  | 24 => ⟨S1, .i32⟩
  | 25 => ⟨S_, .i32⟩
  | 26 => ⟨S1, .i32⟩
  | 27 => ⟨S1, .i32⟩
  | 28 => ⟨S_, .i32⟩
  | 29 => ⟨S1, .i32⟩
  | 30 => ⟨S1, .i1⟩
  | 31 => ⟨S_, .i32⟩
  | 32 => ⟨S_, .i32⟩
  | 33 => ⟨S1, .i32⟩
  | 34 => ⟨S1, .i32⟩
  | 35 => ⟨S1, .i32⟩
  | 36 => ⟨S_, .i32⟩
  | 37 => ⟨S1, .i32⟩
  | 38 => ⟨S1, .i1⟩
  | 39 => ⟨S1, .i32⟩
  | 40 => ⟨S1, .i32⟩
  | 41 => ⟨S1, .i32⟩
  | 42 => ⟨S_, .i32⟩
  | 43 => ⟨S1, .i32⟩
  | 44 => ⟨S1, .i1⟩
  | 45 => ⟨S_, .i32⟩
  | 46 => ⟨S1, .i32⟩
  | 47 => ⟨S1, .i32⟩
  | 48 => ⟨S1, .i32⟩
  | 49 => ⟨S1x1, .i32⟩
  | 50 => ⟨S1x16, .f32⟩
  | 51 => ⟨S16, .f32⟩
  | 52 => ⟨S16x1x1, .f32⟩
  | 53 => ⟨S256, .i32⟩
  | 54 => ⟨S4x64, .i32⟩
  | 55 => ⟨S256, .i32⟩
  | 56 => ⟨S_, .i32⟩
  | 57 => ⟨S256, .i32⟩
  | 58 => ⟨S256, .i32⟩
  | 59 => ⟨S1x1x256, .i32⟩
  | 60 => ⟨S4x64x1, .i32⟩
  | 61 => ⟨S4x64x256, .i32⟩
  | 62 => ⟨S4x64x256, .i32⟩
  | 63 => ⟨S4x64x256, .i32⟩
  | 64 => ⟨S4x64x256, .i32⟩
  | 65 => ⟨S_, .i32⟩
  | 66 => ⟨S4x64x256, .i32⟩
  | 67 => ⟨S4x64x256, .i32⟩
  | 68 => ⟨S4x64x256, .f32⟩
  | 69 => ⟨S_, .f32⟩
  | 70 => ⟨S4x64x256, .f32⟩
  | 71 => ⟨S4x64x256, .f32⟩
  | 72 => ⟨S4x64x256, .f32⟩
  | 73 => ⟨S_, .f32⟩
  | 74 => ⟨S4x64x256, .f32⟩
  | 75 => ⟨S4x64x256, .f32⟩
  | 76 => ⟨S_, .f32⟩
  | 77 => ⟨S4x64x256, .f32⟩
  | 78 => ⟨S4x64x256, .f32⟩
  | 79 => ⟨S4x64x256, .i32⟩
  | 80 => ⟨S_, .i32⟩
  | 81 => ⟨S4x64x256, .i32⟩
  | 82 => ⟨S4x64x256, .i32⟩
  | 83 => ⟨S_, .i32⟩
  | 84 => ⟨S4x64x256, .i32⟩
  | 85 => ⟨S4x64x256, .i32⟩
  | 86 => ⟨S_, .i32⟩
  | 87 => ⟨S4x64x256, .i32⟩
  | 88 => ⟨S4x64x256, .i1⟩
  | 89 => ⟨S_, .i32⟩
  | 90 => ⟨S_, .i32⟩
  | 91 => ⟨S4x64x256, .i32⟩
  | 92 => ⟨S4x64x256, .i32⟩
  | 93 => ⟨S4x64x256, .i32⟩
  | 94 => ⟨S_, .i32⟩
  | 95 => ⟨S4x64x256, .i32⟩
  | 96 => ⟨S4x64x256, .i1⟩
  | 97 => ⟨S4x64x256, .i32⟩
  | 98 => ⟨S4x64x256, .i32⟩
  | 99 => ⟨S4x64x256, .i32⟩
  | 100 => ⟨S4x64x256x1, .i32⟩
  | 101 => ⟨S32, .i32⟩
  | 102 => ⟨S1x1x1x32, .i32⟩
  | 103 => ⟨S4x64x256x32, .i32⟩
  | 104 => ⟨S4x64x256x32, .i32⟩
  | 105 => ⟨S4x64x256x32, .i1⟩
  | 106 => ⟨S4x64x256x32, .f32⟩
  | 107 => ⟨S16x4x64x256, .f32⟩
  | 108 => ⟨S4x16x64x256, .f32⟩
  | 109 => ⟨S256, .i32⟩
  | 110 => ⟨S4x64, .i32⟩
  | 111 => ⟨S256, .i32⟩
  | 112 => ⟨S_, .i32⟩
  | 113 => ⟨S256, .i32⟩
  | 114 => ⟨S256, .i32⟩
  | 115 => ⟨S1x1x256, .i32⟩
  | 116 => ⟨S4x64x1, .i32⟩
  | 117 => ⟨S4x64x256, .i32⟩
  | 118 => ⟨S4x64x256, .i32⟩
  | 119 => ⟨S4x64x256, .i32⟩
  | 120 => ⟨S4x64x256, .i32⟩
  | 121 => ⟨S_, .i32⟩
  | 122 => ⟨S4x64x256, .i32⟩
  | 123 => ⟨S4x64x256, .i32⟩
  | 124 => ⟨S4x64x256, .f32⟩
  | 125 => ⟨S_, .f32⟩
  | 126 => ⟨S4x64x256, .f32⟩
  | 127 => ⟨S4x64x256, .f32⟩
  | _ => ⟨S32x16, .f32⟩

abbrev hbmTy0_1 (i : Nat) : BufTy := match i % 128 with
  | 0 => ⟨S4x64x256, .f32⟩
  | 1 => ⟨S_, .f32⟩
  | 2 => ⟨S4x64x256, .f32⟩
  | 3 => ⟨S4x64x256, .f32⟩
  | 4 => ⟨S_, .f32⟩
  | 5 => ⟨S4x64x256, .f32⟩
  | 6 => ⟨S4x64x256, .f32⟩
  | 7 => ⟨S4x64x256, .i32⟩
  | 8 => ⟨S_, .i32⟩
  | 9 => ⟨S4x64x256, .i32⟩
  | 10 => ⟨S4x64x256, .i32⟩
  | 11 => ⟨S_, .i32⟩
  | 12 => ⟨S4x64x256, .i32⟩
  | 13 => ⟨S4x64x256, .i32⟩
  | 14 => ⟨S_, .i32⟩
  | 15 => ⟨S4x64x256, .i32⟩
  | 16 => ⟨S4x64x256, .i1⟩
  | 17 => ⟨S_, .i32⟩
  | 18 => ⟨S_, .i32⟩
  | 19 => ⟨S4x64x256, .i32⟩
  | 20 => ⟨S4x64x256, .i32⟩
  | 21 => ⟨S4x64x256, .i32⟩
  | 22 => ⟨S_, .i32⟩
  | 23 => ⟨S4x64x256, .i32⟩
  | 24 => ⟨S4x64x256, .i1⟩
  | 25 => ⟨S4x64x256, .i32⟩
  | 26 => ⟨S4x64x256, .i32⟩
  | 27 => ⟨S4x64x256, .i32⟩
  | 28 => ⟨S4x64x256x1, .i32⟩
  | 29 => ⟨S32, .i32⟩
  | 30 => ⟨S1x1x1x32, .i32⟩
  | 31 => ⟨S4x64x256x32, .i32⟩
  | 32 => ⟨S4x64x256x32, .i32⟩
  | 33 => ⟨S4x64x256x32, .i1⟩
  | 34 => ⟨S4x64x256x32, .f32⟩
  | 35 => ⟨S16x4x64x256, .f32⟩
  | 36 => ⟨S4x16x64x256, .f32⟩
  | 37 => ⟨S16x16384x512, .bf16⟩
  | _ => ⟨S32x16, .f32⟩

abbrev hbmTy (i : Nat) : BufTy := match i / 128 with
  | 0 => hbmTy0_0 i
  | 1 => hbmTy0_1 i
  | _ => ⟨S32x16, .f32⟩

abbrev bufTy : (tb : Table) → Fin (tcTables nBuf tb) → BufTy
  | .hbm, ⟨i, _⟩ => hbmTy i
  | .local _ .vmem, ⟨0, _⟩ => ⟨S16x1x1, .f32⟩
  | .local _ .vmem, ⟨1, _⟩ => ⟨S16x64x512, .bf16⟩
  | .local _ .vmem, ⟨2, _⟩ => ⟨S16x64x512, .bf16⟩
  | .local _ .vmem, ⟨3, _⟩ => ⟨S2048x512, .f32⟩
  | .local _ .vmem, ⟨4, _⟩ => ⟨S2048x512, .f32⟩
  | .local _ .vmem, ⟨5, _⟩ => ⟨S64x2048, .f32⟩
  | .local _ .vmem, ⟨6, _⟩ => ⟨S64x2048, .f32⟩
  | .local _ .vmem, ⟨7, _⟩ => ⟨S1x16x64x256, .f32⟩
  | .local _ .vmem, ⟨8, _⟩ => ⟨S1x16x64x256, .f32⟩
  | .local _ .vmem, ⟨9, _⟩ => ⟨S1x16x64x256, .f32⟩
  | .local _ .vmem, ⟨10, _⟩ => ⟨S1x16x64x256, .f32⟩
  | .local _ .vmem, ⟨11, _⟩ => ⟨S16x64x512, .bf16⟩
  | .local _ .vmem, ⟨12, _⟩ => ⟨S16x64x512, .bf16⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_c_7 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_8 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_9 : Ref sig .tc := ⟨.hbm, 42, rfl⟩
abbrev main_v25 : Ref sig .tc := ⟨.hbm, 43, rfl⟩
abbrev main_v26 : Ref sig .tc := ⟨.hbm, 44, rfl⟩
abbrev main_c_10 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_16 : Ref sig .tc := ⟨.hbm, 80, rfl⟩
abbrev main_v56 : Ref sig .tc := ⟨.hbm, 81, rfl⟩
abbrev main_v57 : Ref sig .tc := ⟨.hbm, 82, rfl⟩
abbrev main_c_17 : Ref sig .tc := ⟨.hbm, 83, rfl⟩
abbrev main_v58 : Ref sig .tc := ⟨.hbm, 84, rfl⟩
abbrev main_v59 : Ref sig .tc := ⟨.hbm, 85, rfl⟩
abbrev main_c_18 : Ref sig .tc := ⟨.hbm, 86, rfl⟩
abbrev main_v60 : Ref sig .tc := ⟨.hbm, 87, rfl⟩
abbrev main_v61 : Ref sig .tc := ⟨.hbm, 88, rfl⟩
abbrev main_c_19 : Ref sig .tc := ⟨.hbm, 89, rfl⟩
abbrev main_c_20 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_21 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_22 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_23 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_24 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_25 : Ref sig .tc := ⟨.hbm, 129, rfl⟩
abbrev main_v94 : Ref sig .tc := ⟨.hbm, 130, rfl⟩
abbrev main_v95 : Ref sig .tc := ⟨.hbm, 131, rfl⟩
abbrev main_cst_26 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_27 : Ref sig .tc := ⟨.hbm, 136, rfl⟩
abbrev main_v99 : Ref sig .tc := ⟨.hbm, 137, rfl⟩
abbrev main_v100 : Ref sig .tc := ⟨.hbm, 138, rfl⟩
abbrev main_c_28 : Ref sig .tc := ⟨.hbm, 139, rfl⟩
abbrev main_v101 : Ref sig .tc := ⟨.hbm, 140, rfl⟩
abbrev main_v102 : Ref sig .tc := ⟨.hbm, 141, rfl⟩
abbrev main_c_29 : Ref sig .tc := ⟨.hbm, 142, rfl⟩
abbrev main_v103 : Ref sig .tc := ⟨.hbm, 143, rfl⟩
abbrev main_v104 : Ref sig .tc := ⟨.hbm, 144, rfl⟩
abbrev main_c_30 : Ref sig .tc := ⟨.hbm, 145, rfl⟩
abbrev main_c_31 : Ref sig .tc := ⟨.hbm, 146, rfl⟩
abbrev main_call4_v0 : Ref sig .tc := ⟨.hbm, 147, rfl⟩
abbrev main_call4_v1 : Ref sig .tc := ⟨.hbm, 148, rfl⟩
abbrev main_v105 : Ref sig .tc := ⟨.hbm, 149, rfl⟩
abbrev main_c_32 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c64_i32 : BitVec 32 := 64#32
  let v2 : BitVec 32 := Scalar.muli arg1 c64_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c256_i32 : BitVec 32 := 256#32
  let c0_i32_3 : BitVec 32 := 0#32
  let v9 : BitVec 1 := Scalar.cmpi .sgt c256_i32 c0_i32_3
  let v10 : BitVec 32 := Scalar.extui v9
  let c0_i32_4 : BitVec 32 := 0#32
  let v11 : BitVec 1 := Scalar.cmpi .slt c256_i32 c0_i32_4
  let v12 : BitVec 32 := Scalar.extui v11
  let v13 : BitVec 32 := Scalar.subi v10 v12
  let v14 : BitVec 1 := Scalar.cmpi .ne v8 v13
  let v15 : BitVec 32 := Scalar.remsi v2 c256_i32
  let c0_i32_5 : BitVec 32 := 0#32
  let v16 : BitVec 1 := Scalar.cmpi .ne v15 c0_i32_5
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq v19 c0_i32_6
  let v21 : BitVec 32 := Scalar.extui v20
  let c0_i32_7 : BitVec 32 := 0#32
  let v22 : BitVec 1 := Scalar.cmpi .ne v21 c0_i32_7
  v22

def k0_cond2 (i : grid0.Coords) : BitVec 1 :=
  let arg1 : BitVec 32 := BitVec.ofNat 32 (i 1).val
  let c64_i32_8 : BitVec 32 := 64#32
  let v23 : BitVec 32 := Scalar.muli arg1 c64_i32_8
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c256_i32_9 : BitVec 32 := 256#32
  let c0_i32_12 : BitVec 32 := 0#32
  let v30 : BitVec 1 := Scalar.cmpi .sgt c256_i32_9 c0_i32_12
  let v31 : BitVec 32 := Scalar.extui v30
  let c0_i32_13 : BitVec 32 := 0#32
  let v32 : BitVec 1 := Scalar.cmpi .slt c256_i32_9 c0_i32_13
  let v33 : BitVec 32 := Scalar.extui v32
  let v34 : BitVec 32 := Scalar.subi v31 v33
  let v35 : BitVec 1 := Scalar.cmpi .ne v29 v34
  let v36 : BitVec 32 := Scalar.remsi v23 c256_i32_9
  let c0_i32_14 : BitVec 32 := 0#32
  let v37 : BitVec 1 := Scalar.cmpi .ne v36 c0_i32_14
  let v38 : BitVec 1 := Scalar.andi v35 v37
  let v24 : BitVec 32 := Scalar.divsi v23 c256_i32_9
  let c1_i32_15 : BitVec 32 := 1#32
  let v39 : BitVec 32 := Scalar.subi v24 c1_i32_15
  let v40 : BitVec 32 := Scalar.select v38 v39 v24
  let c1_i32_16 : BitVec 32 := 1#32
  let v41 : BitVec 1 := Scalar.cmpi .eq v40 c1_i32_16
  let v42 : BitVec 32 := Scalar.extui v41
  let c0_i32_17 : BitVec 32 := 0#32
  let v43 : BitVec 1 := Scalar.cmpi .ne v42 c0_i32_17
  v43

def k0_cond3 (i : grid0.Coords) : BitVec 1 :=
  let arg1 : BitVec 32 := BitVec.ofNat 32 (i 1).val
  let c64_i32_18 : BitVec 32 := 64#32
  let v44 : BitVec 32 := Scalar.muli arg1 c64_i32_18
  let c0_i32_20 : BitVec 32 := 0#32
  let v46 : BitVec 1 := Scalar.cmpi .sgt v44 c0_i32_20
  let v47 : BitVec 32 := Scalar.extui v46
  let c0_i32_21 : BitVec 32 := 0#32
  let v48 : BitVec 1 := Scalar.cmpi .slt v44 c0_i32_21
  let v49 : BitVec 32 := Scalar.extui v48
  let v50 : BitVec 32 := Scalar.subi v47 v49
  let c256_i32_19 : BitVec 32 := 256#32
  let c0_i32_22 : BitVec 32 := 0#32
  let v51 : BitVec 1 := Scalar.cmpi .sgt c256_i32_19 c0_i32_22
  let v52 : BitVec 32 := Scalar.extui v51
  let c0_i32_23 : BitVec 32 := 0#32
  let v53 : BitVec 1 := Scalar.cmpi .slt c256_i32_19 c0_i32_23
  let v54 : BitVec 32 := Scalar.extui v53
  let v55 : BitVec 32 := Scalar.subi v52 v54
  let v56 : BitVec 1 := Scalar.cmpi .ne v50 v55
  let v57 : BitVec 32 := Scalar.remsi v44 c256_i32_19
  let c0_i32_24 : BitVec 32 := 0#32
  let v58 : BitVec 1 := Scalar.cmpi .ne v57 c0_i32_24
  let v59 : BitVec 1 := Scalar.andi v56 v58
  let v45 : BitVec 32 := Scalar.divsi v44 c256_i32_19
  let c1_i32_25 : BitVec 32 := 1#32
  let v60 : BitVec 32 := Scalar.subi v45 c1_i32_25
  let v61 : BitVec 32 := Scalar.select v59 v60 v45
  let c2_i32 : BitVec 32 := 2#32
  let v62 : BitVec 1 := Scalar.cmpi .eq v61 c2_i32
  let v63 : BitVec 32 := Scalar.extui v62
  let c0_i32_26 : BitVec 32 := 0#32
  let v64 : BitVec 1 := Scalar.cmpi .ne v63 c0_i32_26
  v64

def k0_cond4 (i : grid0.Coords) : BitVec 1 :=
  let arg1 : BitVec 32 := BitVec.ofNat 32 (i 1).val
  let c64_i32_27 : BitVec 32 := 64#32
  let v65 : BitVec 32 := Scalar.muli arg1 c64_i32_27
  let c0_i32_29 : BitVec 32 := 0#32
  let v67 : BitVec 1 := Scalar.cmpi .sgt v65 c0_i32_29
  let v68 : BitVec 32 := Scalar.extui v67
  let c0_i32_30 : BitVec 32 := 0#32
  let v69 : BitVec 1 := Scalar.cmpi .slt v65 c0_i32_30
  let v70 : BitVec 32 := Scalar.extui v69
  let v71 : BitVec 32 := Scalar.subi v68 v70
  let c256_i32_28 : BitVec 32 := 256#32
  let c0_i32_31 : BitVec 32 := 0#32
  let v72 : BitVec 1 := Scalar.cmpi .sgt c256_i32_28 c0_i32_31
  let v73 : BitVec 32 := Scalar.extui v72
  let c0_i32_32 : BitVec 32 := 0#32
  let v74 : BitVec 1 := Scalar.cmpi .slt c256_i32_28 c0_i32_32
  let v75 : BitVec 32 := Scalar.extui v74
  let v76 : BitVec 32 := Scalar.subi v73 v75
  let v77 : BitVec 1 := Scalar.cmpi .ne v71 v76
  let v78 : BitVec 32 := Scalar.remsi v65 c256_i32_28
  let c0_i32_33 : BitVec 32 := 0#32
  let v79 : BitVec 1 := Scalar.cmpi .ne v78 c0_i32_33
  let v80 : BitVec 1 := Scalar.andi v77 v79
  let v66 : BitVec 32 := Scalar.divsi v65 c256_i32_28
  let c1_i32_34 : BitVec 32 := 1#32
  let v81 : BitVec 32 := Scalar.subi v66 c1_i32_34
  let v82 : BitVec 32 := Scalar.select v80 v81 v66
  let c3_i32 : BitVec 32 := 3#32
  let v83 : BitVec 1 := Scalar.cmpi .eq v82 c3_i32
  let v84 : BitVec 32 := Scalar.extui v83
  let c0_i32_35 : BitVec 32 := 0#32
  let v85 : BitVec 1 := Scalar.cmpi .ne v84 c0_i32_35
  v85

def k0_cond5 (i : grid0.Coords) : BitVec 1 :=
  let arg1 : BitVec 32 := BitVec.ofNat 32 (i 1).val
  let c64_i32_36 : BitVec 32 := 64#32
  let v86 : BitVec 32 := Scalar.muli arg1 c64_i32_36
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c256_i32_37 : BitVec 32 := 256#32
  let c0_i32_40 : BitVec 32 := 0#32
  let v93 : BitVec 1 := Scalar.cmpi .sgt c256_i32_37 c0_i32_40
  let v94 : BitVec 32 := Scalar.extui v93
  let c0_i32_41 : BitVec 32 := 0#32
  let v95 : BitVec 1 := Scalar.cmpi .slt c256_i32_37 c0_i32_41
  let v96 : BitVec 32 := Scalar.extui v95
  let v97 : BitVec 32 := Scalar.subi v94 v96
  let v98 : BitVec 1 := Scalar.cmpi .ne v92 v97
  let v99 : BitVec 32 := Scalar.remsi v86 c256_i32_37
  let c0_i32_42 : BitVec 32 := 0#32
  let v100 : BitVec 1 := Scalar.cmpi .ne v99 c0_i32_42
  let v101 : BitVec 1 := Scalar.andi v98 v100
  let v87 : BitVec 32 := Scalar.divsi v86 c256_i32_37
  let c1_i32_43 : BitVec 32 := 1#32
  let v102 : BitVec 32 := Scalar.subi v87 c1_i32_43
  let v103 : BitVec 32 := Scalar.select v101 v102 v87
  let c4_i32 : BitVec 32 := 4#32
  let v104 : BitVec 1 := Scalar.cmpi .eq v103 c4_i32
  let v105 : BitVec 32 := Scalar.extui v104
  let c0_i32_44 : BitVec 32 := 0#32
  let v106 : BitVec 1 := Scalar.cmpi .ne v105 c0_i32_44
  v106

def k0_cond6 (i : grid0.Coords) : BitVec 1 :=
  let arg1 : BitVec 32 := BitVec.ofNat 32 (i 1).val
  let c64_i32_45 : BitVec 32 := 64#32
  let v107 : BitVec 32 := Scalar.muli arg1 c64_i32_45
  let c0_i32_47 : BitVec 32 := 0#32
  let v109 : BitVec 1 := Scalar.cmpi .sgt v107 c0_i32_47
  let v110 : BitVec 32 := Scalar.extui v109
  let c0_i32_48 : BitVec 32 := 0#32
  let v111 : BitVec 1 := Scalar.cmpi .slt v107 c0_i32_48
  let v112 : BitVec 32 := Scalar.extui v111
  let v113 : BitVec 32 := Scalar.subi v110 v112
  let c256_i32_46 : BitVec 32 := 256#32
  let c0_i32_49 : BitVec 32 := 0#32
  let v114 : BitVec 1 := Scalar.cmpi .sgt c256_i32_46 c0_i32_49
  let v115 : BitVec 32 := Scalar.extui v114
  let c0_i32_50 : BitVec 32 := 0#32
  let v116 : BitVec 1 := Scalar.cmpi .slt c256_i32_46 c0_i32_50
  let v117 : BitVec 32 := Scalar.extui v116
  let v118 : BitVec 32 := Scalar.subi v115 v117
  let v119 : BitVec 1 := Scalar.cmpi .ne v113 v118
  let v120 : BitVec 32 := Scalar.remsi v107 c256_i32_46
  let c0_i32_51 : BitVec 32 := 0#32
  let v121 : BitVec 1 := Scalar.cmpi .ne v120 c0_i32_51
  let v122 : BitVec 1 := Scalar.andi v119 v121
  let v108 : BitVec 32 := Scalar.divsi v107 c256_i32_46
  let c1_i32_52 : BitVec 32 := 1#32
  let v123 : BitVec 32 := Scalar.subi v108 c1_i32_52
  let v124 : BitVec 32 := Scalar.select v122 v123 v108
  let c5_i32 : BitVec 32 := 5#32
  let v125 : BitVec 1 := Scalar.cmpi .eq v124 c5_i32
  let v126 : BitVec 32 := Scalar.extui v125
  let c0_i32_53 : BitVec 32 := 0#32
  let v127 : BitVec 1 := Scalar.cmpi .ne v126 c0_i32_53
  v127

def k0_cond7 (i : grid0.Coords) : BitVec 1 :=
  let arg1 : BitVec 32 := BitVec.ofNat 32 (i 1).val
  let c64_i32_54 : BitVec 32 := 64#32
  let v128 : BitVec 32 := Scalar.muli arg1 c64_i32_54
  let c0_i32_56 : BitVec 32 := 0#32
  let v130 : BitVec 1 := Scalar.cmpi .sgt v128 c0_i32_56
  let v131 : BitVec 32 := Scalar.extui v130
  let c0_i32_57 : BitVec 32 := 0#32
  let v132 : BitVec 1 := Scalar.cmpi .slt v128 c0_i32_57
  let v133 : BitVec 32 := Scalar.extui v132
  let v134 : BitVec 32 := Scalar.subi v131 v133
  let c256_i32_55 : BitVec 32 := 256#32
  let c0_i32_58 : BitVec 32 := 0#32
  let v135 : BitVec 1 := Scalar.cmpi .sgt c256_i32_55 c0_i32_58
  let v136 : BitVec 32 := Scalar.extui v135
  let c0_i32_59 : BitVec 32 := 0#32
  let v137 : BitVec 1 := Scalar.cmpi .slt c256_i32_55 c0_i32_59
  let v138 : BitVec 32 := Scalar.extui v137
  let v139 : BitVec 32 := Scalar.subi v136 v138
  let v140 : BitVec 1 := Scalar.cmpi .ne v134 v139
  let v141 : BitVec 32 := Scalar.remsi v128 c256_i32_55
  let c0_i32_60 : BitVec 32 := 0#32
  let v142 : BitVec 1 := Scalar.cmpi .ne v141 c0_i32_60
  let v143 : BitVec 1 := Scalar.andi v140 v142
  let v129 : BitVec 32 := Scalar.divsi v128 c256_i32_55
  let c1_i32_61 : BitVec 32 := 1#32
  let v144 : BitVec 32 := Scalar.subi v129 c1_i32_61
  let v145 : BitVec 32 := Scalar.select v143 v144 v129
  let c6_i32 : BitVec 32 := 6#32
  let v146 : BitVec 1 := Scalar.cmpi .eq v145 c6_i32
  let v147 : BitVec 32 := Scalar.extui v146
  let c0_i32_62 : BitVec 32 := 0#32
  let v148 : BitVec 1 := Scalar.cmpi .ne v147 c0_i32_62
  v148

def k0_cond8 (i : grid0.Coords) : BitVec 1 :=
  let arg1 : BitVec 32 := BitVec.ofNat 32 (i 1).val
  let c64_i32_63 : BitVec 32 := 64#32
  let v149 : BitVec 32 := Scalar.muli arg1 c64_i32_63
  let c0_i32_65 : BitVec 32 := 0#32
  let v151 : BitVec 1 := Scalar.cmpi .sgt v149 c0_i32_65
  let v152 : BitVec 32 := Scalar.extui v151
  let c0_i32_66 : BitVec 32 := 0#32
  let v153 : BitVec 1 := Scalar.cmpi .slt v149 c0_i32_66
  let v154 : BitVec 32 := Scalar.extui v153
  let v155 : BitVec 32 := Scalar.subi v152 v154
  let c256_i32_64 : BitVec 32 := 256#32
  let c0_i32_67 : BitVec 32 := 0#32
  let v156 : BitVec 1 := Scalar.cmpi .sgt c256_i32_64 c0_i32_67
  let v157 : BitVec 32 := Scalar.extui v156
  let c0_i32_68 : BitVec 32 := 0#32
  let v158 : BitVec 1 := Scalar.cmpi .slt c256_i32_64 c0_i32_68
  let v159 : BitVec 32 := Scalar.extui v158
  let v160 : BitVec 32 := Scalar.subi v157 v159
  let v161 : BitVec 1 := Scalar.cmpi .ne v155 v160
  let v162 : BitVec 32 := Scalar.remsi v149 c256_i32_64
  let c0_i32_69 : BitVec 32 := 0#32
  let v163 : BitVec 1 := Scalar.cmpi .ne v162 c0_i32_69
  let v164 : BitVec 1 := Scalar.andi v161 v163
  let v150 : BitVec 32 := Scalar.divsi v149 c256_i32_64
  let c1_i32_70 : BitVec 32 := 1#32
  let v165 : BitVec 32 := Scalar.subi v150 c1_i32_70
  let v166 : BitVec 32 := Scalar.select v164 v165 v150
  let c7_i32 : BitVec 32 := 7#32
  let v167 : BitVec 1 := Scalar.cmpi .eq v166 c7_i32
  let v168 : BitVec 32 := Scalar.extui v167
  let c0_i32_71 : BitVec 32 := 0#32
  let v169 : BitVec 1 := Scalar.cmpi .ne v168 c0_i32_71
  v169

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  let c0_i32_6 : BitVec 32 := 0#32
  ![v9.toNat, c0_i32_3.toNat, c0_i32_4.toNat, c0_i32_5.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  let c0_i32_6 : BitVec 32 := 0#32
  ![v9.toNat, c0_i32_3.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 1 → Memref sig .tc .vmem S16x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S16x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S32x16 : Shape := ⟨2, ![32, 16]⟩
abbrev S16x16384x512 : Shape := ⟨3, ![16, 16384, 512]⟩
abbrev S16384x512 : Shape := ⟨2, ![16384, 512]⟩
abbrev S16384x2048 : Shape := ⟨2, ![16384, 2048]⟩
abbrev S2048 : Shape := ⟨1, ![2048]⟩
abbrev S16x8x2048x512 : Shape := ⟨4, ![16, 8, 2048, 512]⟩
abbrev S8x2048x512 : Shape := ⟨3, ![8, 2048, 512]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S2048x2048x16 : Shape := ⟨3, ![2048, 2048, 16]⟩
abbrev S16x2048x2048 : Shape := ⟨3, ![16, 2048, 2048]⟩
abbrev S8x2048x16x2048 : Shape := ⟨4, ![8, 2048, 16, 2048]⟩
abbrev S16x8x2048x2048 : Shape := ⟨4, ![16, 8, 2048, 2048]⟩
abbrev S16x1x2048x2048 : Shape := ⟨4, ![16, 1, 2048, 2048]⟩
abbrev S8x2048x2048 : Shape := ⟨3, ![8, 2048, 2048]⟩
abbrev S1x8x2048x2048 : Shape := ⟨4, ![1, 8, 2048, 2048]⟩
abbrev S16x8x2048 : Shape := ⟨3, ![16, 8, 2048]⟩
abbrev S16x8x2048x1 : Shape := ⟨4, ![16, 8, 2048, 1]⟩
abbrev S8x512x16x2048 : Shape := ⟨4, ![8, 512, 16, 2048]⟩

abbrev nBuf : Space → Nat
  | .hbm => 95
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S16x16384x512, .bf16⟩
  | .hbm, ⟨2, _⟩ => ⟨S16384x512, .f32⟩
  | .hbm, ⟨3, _⟩ => ⟨S16384x2048, .f32⟩
  | .hbm, ⟨4, _⟩ => ⟨S2048, .i32⟩
  | .hbm, ⟨5, _⟩ => ⟨S16x16384x512, .f32⟩
  | .hbm, ⟨6, _⟩ => ⟨S16x8x2048x512, .f32⟩
  | .hbm, ⟨7, _⟩ => ⟨S8x2048x512, .f32⟩
  | .hbm, ⟨8, _⟩ => ⟨S2048x1, .i32⟩
  | .hbm, ⟨9, _⟩ => ⟨S1x2048, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S_, .i32⟩
  | .hbm, ⟨33, _⟩ => ⟨S2048x2048, .i32⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i1⟩
  | .hbm, ⟨38, _⟩ => ⟨S_, .i32⟩
  | .hbm, ⟨39, _⟩ => ⟨S_, .i32⟩
  | .hbm, ⟨40, _⟩ => ⟨S2048x2048, .i32⟩
  | .hbm, ⟨41, _⟩ => ⟨S2048x2048, .i32⟩
  | .hbm, ⟨42, _⟩ => ⟨S2048x2048, .i32⟩
  | .hbm, ⟨43, _⟩ => ⟨S_, .i32⟩
  | .hbm, ⟨44, _⟩ => ⟨S2048x2048, .i32⟩
  | .hbm, ⟨45, _⟩ => ⟨S2048x2048, .i1⟩
  | .hbm, ⟨46, _⟩ => ⟨S2048x2048, .i32⟩
  | .hbm, ⟨47, _⟩ => ⟨S2048x2048, .i32⟩
  | .hbm, ⟨48, _⟩ => ⟨S2048x2048, .i32⟩
  | .hbm, ⟨49, _⟩ => ⟨S_, .i32⟩
  | .hbm, ⟨50, _⟩ => ⟨S2048x2048, .i32⟩
  | .hbm, ⟨51, _⟩ => ⟨S2048x2048, .i1⟩
  | .hbm, ⟨52, _⟩ => ⟨S_, .i32⟩
  | .hbm, ⟨53, _⟩ => ⟨S2048x2048, .i32⟩
  | .hbm, ⟨54, _⟩ => ⟨S2048x2048, .i32⟩
  | .hbm, ⟨55, _⟩ => ⟨S2048x2048, .i32⟩
  | .hbm, ⟨56, _⟩ => ⟨S2048x2048x1, .i32⟩
  | .hbm, ⟨57, _⟩ => ⟨S2048x2048x16, .f32⟩
  | .hbm, ⟨58, _⟩ => ⟨S16x2048x2048, .f32⟩
  | .hbm, ⟨59, _⟩ => ⟨S8x2048x16x2048, .f32⟩
  | .hbm, ⟨60, _⟩ => ⟨S16x8x2048x2048, .f32⟩
  | .hbm, ⟨61, _⟩ => ⟨S_, .f32⟩
  | .hbm, ⟨62, _⟩ => ⟨S16x8x2048x2048, .f32⟩
  | .hbm, ⟨63, _⟩ => ⟨S16x8x2048x2048, .f32⟩
  | .hbm, ⟨64, _⟩ => ⟨S16x1x2048x2048, .f32⟩
  | .hbm, ⟨65, _⟩ => ⟨S16x8x2048x2048, .f32⟩
  | .hbm, ⟨66, _⟩ => ⟨S16x8x2048x2048, .f32⟩
  | .hbm, ⟨67, _⟩ => ⟨S8x2048x2048, .f32⟩
  | .hbm, ⟨68, _⟩ => ⟨S1x8x2048x2048, .f32⟩
  | .hbm, ⟨69, _⟩ => ⟨S_, .f32⟩
  | .hbm, ⟨70, _⟩ => ⟨S1x8x2048x2048, .f32⟩
  | .hbm, ⟨71, _⟩ => ⟨S1x8x2048x2048, .i1⟩
  | .hbm, ⟨72, _⟩ => ⟨S_, .f32⟩
  | .hbm, ⟨73, _⟩ => ⟨S_, .f32⟩
  | .hbm, ⟨74, _⟩ => ⟨S16x8x2048x2048, .i1⟩
  | .hbm, ⟨75, _⟩ => ⟨S16x8x2048x2048, .f32⟩
  | .hbm, ⟨76, _⟩ => ⟨S16x8x2048x2048, .f32⟩
  | .hbm, ⟨77, _⟩ => ⟨S_, .f32⟩
  | .hbm, ⟨78, _⟩ => ⟨S16x8x2048, .f32⟩
  | .hbm, ⟨79, _⟩ => ⟨S_, .f32⟩
  | .hbm, ⟨80, _⟩ => ⟨S16x8x2048, .f32⟩
  | .hbm, ⟨81, _⟩ => ⟨S16x8x2048, .f32⟩
  | .hbm, ⟨82, _⟩ => ⟨S16x8x2048x1, .f32⟩
  | .hbm, ⟨83, _⟩ => ⟨S16x8x2048x2048, .f32⟩
  | .hbm, ⟨84, _⟩ => ⟨S16x8x2048x2048, .f32⟩
  | .hbm, ⟨85, _⟩ => ⟨S16x8x2048x2048, .f32⟩
  | .hbm, ⟨86, _⟩ => ⟨S_, .f32⟩
  | .hbm, ⟨87, _⟩ => ⟨S16x8x2048, .f32⟩
  | .hbm, ⟨88, _⟩ => ⟨S16x8x2048x1, .f32⟩
  | .hbm, ⟨89, _⟩ => ⟨S16x8x2048x2048, .f32⟩
  | .hbm, ⟨90, _⟩ => ⟨S16x8x2048x2048, .f32⟩
  | .hbm, ⟨91, _⟩ => ⟨S8x512x16x2048, .f32⟩
  | .hbm, ⟨92, _⟩ => ⟨S16x8x2048x512, .f32⟩
  | .hbm, ⟨93, _⟩ => ⟨S16x16384x512, .f32⟩
  | .hbm, ⟨94, _⟩ => ⟨S16x16384x512, .bf16⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_c_6 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Proof.ExpertsBodyIdeal.lean ====
/- The run of the expert kernel, for every table of experts whose entries name an expert: each tile of rows is
   either valid (its number is below the count the second table holds), when the body stores the expert's
   output, or not, when it stores zeros. The two conditions the body tests exclude each other, so exactly one
   of the two stores happens. From the body's triple in the two cases: the pipeline's run, its frame, and what
   the result array holds. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call is entered: as launched, the call being the whole program. -/
abbrev V (c : Dev nD) (b : Ref sig .tc) : Buf (Elt F) ((c : Thread nD τ).loc b) := m ((c : Thread nD τ).loc b)

/-- The program is the call alone. -/
theorem main_is_call (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents when the call is entered. -/
def tbl : pre0.Contents (Elt F) := fun j => V m (0 : Dev nD) (pre0.ref j)

/-- Every device holds the tables' contents (there is one device). -/
theorem tbl_of_dev (c : Dev nD) (j : Fin 2) : V m c (pre0.ref j) = tbl m j := by
  obtain rfl : c = 0 := Subsingleton.elim _ _; rfl

/-- The tables are admissible: the expert each tile names has its weights inside the weight arrays. -/
abbrev Ok : Prop := ok0 (F := F) (tbl m)

/-- The tables as admissible contents. -/
abbrev adm (hO : Ok m) : (pcfg0 (F := F)).Adm := ⟨tbl m, hO⟩

/-- The pipeline at those tables. -/
abbrev cfgM (hO : Ok m) : Pipeline.Cfg sig Λ₀ := cfg0 (adm m hO)

/-- The table of experts and the count of valid tiles, as the body is handed them. -/
abbrev tabE : Memref sig .tc .smem S144 .i32 := Memref.whole main_arg0
abbrev tabN : Memref sig .tc .smem S1 .i32 := Memref.whole main_arg1

/-- A table's contents type, and the table held at half the share at `f`. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The tables' halves the body is handed, one by one. -/
theorem tables_eq (c : Dev nD) : (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, for any proof data over the launched arrays whose body leaves it in place. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data over the launched arrays whose body leaves it in place. -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data over the launched arrays whose body leaves it in place. -/
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data over the launched arrays whose body leaves it in place. -/
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The word the body reads its branches from: the count of valid tiles. -/
abbrev nvWord {c : Dev nD} (xt1 : TabBuf (F := F) c tabN) : BitVec 32 :=
  tabN.view.readAt (Elt F) (Rect.unit (s := S1) ![0] S1.size inb_S1_S1_0).toLoadRect xt1 (Shape.Idx.first (numel1_S1.symm ▸ Nat.one_pos))

/-- "The tile's number is below the count" and "is at least the count" exclude each other, -/
theorem second_not_of_first (i : grid0.Coords) (v : BitVec 32) (h : k0_cond1 i v = 1#1) : ¬ k0_cond2 i v = 1#1 := by
  revert h
  unfold k0_cond1 k0_cond2 Scalar.cmpi Scalar.extui
  simp only [WordCmp.cmpi_slt_eq, WordCmp.cmpi_sge_eq]
  generalize (BitVec.ofNat 32 (i 0).val).toInt = a
  generalize v.toInt = b
  by_cases hab : a < b
  · intro _; rw [decide_eq_false (not_le.mpr hab)]; decide
  · intro h; rw [decide_eq_false hab] at h; exact absurd h (by decide)

/-- and one of them holds. -/
theorem second_of_not_first (i : grid0.Coords) (v : BitVec 32) (h : ¬ k0_cond1 i v = 1#1) : k0_cond2 i v = 1#1 := by
  revert h
  unfold k0_cond1 k0_cond2 Scalar.cmpi Scalar.extui
  simp only [WordCmp.cmpi_slt_eq, WordCmp.cmpi_sge_eq]
  generalize (BitVec.ofNat 32 (i 0).val).toInt = a
  generalize v.toInt = b
  by_cases hab : a < b
  · intro h; rw [decide_eq_true hab] at h; exact absurd (by decide) h
  · intro _; rw [decide_eq_true (not_lt.mp hab)]; decide

/-- Each window's current staging buffer at point `t`, and that it is a whole buffer. -/
abbrev stg0 (hO : Ok m) (t : Fin (cfgM m hO).N) : Memref sig .tc .vmem S256x2048 .f32 := spec0_0.stage ((cfgM m hO).slots t 0)
abbrev stgw0 (hO : Ok m) (t : Fin (cfgM m hO).N) : (stg0 m hO t).IsWhole := hstage0_0 (((cfgM m hO).slots t 0).cast nbuf0_0)
abbrev stg1 (hO : Ok m) (t : Fin (cfgM m hO).N) : Memref sig .tc .vmem S1x1x2048x512 .bf16 := spec0_1.stage ((cfgM m hO).slots t 1)
abbrev stgw1 (hO : Ok m) (t : Fin (cfgM m hO).N) : (stg1 m hO t).IsWhole := hstage0_1 (((cfgM m hO).slots t 1).cast nbuf0_1)
abbrev stg2 (hO : Ok m) (t : Fin (cfgM m hO).N) : Memref sig .tc .vmem S1x1x2048x512 .bf16 := spec0_2.stage ((cfgM m hO).slots t 2)
abbrev stgw2 (hO : Ok m) (t : Fin (cfgM m hO).N) : (stg2 m hO t).IsWhole := hstage0_2 (((cfgM m hO).slots t 2).cast nbuf0_2)
abbrev stg3 (hO : Ok m) (t : Fin (cfgM m hO).N) : Memref sig .tc .vmem S1x1x512x2048 .bf16 := spec0_3.stage ((cfgM m hO).slots t 3)
abbrev stgw3 (hO : Ok m) (t : Fin (cfgM m hO).N) : (stg3 m hO t).IsWhole := hstage0_3 (((cfgM m hO).slots t 3).cast nbuf0_3)
abbrev stg4 (hO : Ok m) (t : Fin (cfgM m hO).N) : Memref sig .tc .vmem S256x2048 .f32 := spec0_4.stage ((cfgM m hO).slots t 4)
abbrev stgw4 (hO : Ok m) (t : Fin (cfgM m hO).N) : (stg4 m hO t).IsWhole := hstage0_4 (((cfgM m hO).slots t 4).cast nbuf0_4)

/-- One staging buffer of the output window, through which its contents are stated. -/
abbrev outView : View sig .tc .vmem S256x2048 .f32 := (Memref.whole cc0_stg4_0 : Memref sig .tc .vmem S256x2048 .f32).view

/-- The kernel body at point `t`, on the buffers the pipeline calls it with. -/
abbrev bodyAt (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- The output window is written back at every point. -/
theorem flush_out (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

set_option maxHeartbeats 1000000 in
/-- What the body's stores leave in the output's staging buffer when the tile is valid, with the proof that
    the body runs to it, leaving its inputs and the tables as they were. -/
noncomputable def runValid (c : Dev nD) (i : grid0.Coords) (arg3 : Memref sig .tc .vmem S256x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S256x2048 .f32) (harg7 : arg7.IsWhole)
    (x0 : Vec F S256x2048 .f32) (x1 : Vec F S1x1x2048x512 .bf16) (x2 : Vec F S1x1x2048x512 .bf16) (x3 : Vec F S1x1x512x2048 .bf16) (xt0 : TabBuf (F := F) c tabE) (xt1 : TabBuf (F := F) c tabN) (hc0 :  k0_cond1 i (nvWord xt1) = 1#1) (hc1 : ¬ k0_cond2 i (nvWord xt1) = 1#1) :
    { L4 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tabPt c tabE xt0 ∗ tabPt c tabN xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tabPt c tabE xt0 ∗ tabPt c tabN xt1) -∗ K ⟨⟩))
          ⊢ wp frame (wpE (defs₀ (F := F)) Variants.none c none) E (cc0_moe_experts i tabE (Memref.isWhole_whole _) tabN (Memref.isWhole_whole _) arg3 harg3 arg4 harg4 arg5 harg5 arg6 harg6 arg7 harg7) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option maxHeartbeats 1000000 in
/-- What the body's stores leave in the output's staging buffer when the tile is not valid, with the proof that
    the body runs to it, leaving its inputs and the tables as they were. -/
noncomputable def runIdle (c : Dev nD) (i : grid0.Coords) (arg3 : Memref sig .tc .vmem S256x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S256x2048 .f32) (harg7 : arg7.IsWhole)
    (x0 : Vec F S256x2048 .f32) (x1 : Vec F S1x1x2048x512 .bf16) (x2 : Vec F S1x1x2048x512 .bf16) (x3 : Vec F S1x1x512x2048 .bf16) (xt0 : TabBuf (F := F) c tabE) (xt1 : TabBuf (F := F) c tabN) (hc0 : ¬ k0_cond1 i (nvWord xt1) = 1#1) (hc1 :  k0_cond2 i (nvWord xt1) = 1#1) :
    { L4 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tabPt c tabE xt0 ∗ tabPt c tabN xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tabPt c tabE xt0 ∗ tabPt c tabN xt1) -∗ K ⟨⟩))
          ⊢ wp frame (wpE (defs₀ (F := F)) Variants.none c none) E (cc0_moe_experts i tabE (Memref.isWhole_whole _) tabN (Memref.isWhole_whole _) arg3 harg3 arg4 harg4 arg5 harg5 arg6 harg6 arg7 harg7) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Kernel2Ideal.Experts

end
-- ==== Proof.ExpertsRunIdeal.lean ====
/- From the body's triple to the run of the whole call: what each tile leaves, the pipeline's proof data, its body
   obligation, the launch, and the frame — for every table of experts whose entries name an expert. -/
module

public import proofs.«01_k».proof.Proof.ExpertsBodyIdeal

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of a valid tile cover its output block. -/
theorem coverValid (c : Dev nD) (i : grid0.Coords) (arg3 : Memref sig .tc .vmem S256x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S256x2048 .f32) (harg7 : arg7.IsWhole)
    (x0 : Vec F S256x2048 .f32) (x1 : Vec F S1x1x2048x512 .bf16) (x2 : Vec F S1x1x2048x512 .bf16) (x3 : Vec F S1x1x512x2048 .bf16) (xt0 : TabBuf (F := F) c tabE) (xt1 : TabBuf (F := F) c tabN) (hc0 :  k0_cond1 i (nvWord xt1) = 1#1) (hc1 : ¬ k0_cond2 i (nvWord xt1) = 1#1) (y : S256x2048.Idx) :
    ∃ pc ∈ (runValid c i arg3 harg3 arg4 harg4 arg5 harg5 arg6 harg6 arg7 harg7 x0 x1 x2 x3 xt0 xt1 hc0 hc1).1, y ∈ pc.1.set :=
  View.cover_of_tiledL (runValid c i arg3 harg3 arg4 harg4 arg5 harg5 arg6 harg6 arg7 harg7 x0 x1 x2 x3 xt0 xt1 hc0 hc1).1 S256x2048.size (by sl_kernel_rfl) y

/-- What a valid tile leaves in its output block. -/
def outValid (c : Dev nD) (i : grid0.Coords) (arg3 : Memref sig .tc .vmem S256x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S256x2048 .f32) (harg7 : arg7.IsWhole)
    (x0 : Vec F S256x2048 .f32) (x1 : Vec F S1x1x2048x512 .bf16) (x2 : Vec F S1x1x2048x512 .bf16) (x3 : Vec F S1x1x512x2048 .bf16) (xt0 : TabBuf (F := F) c tabE) (xt1 : TabBuf (F := F) c tabN) (hc0 :  k0_cond1 i (nvWord xt1) = 1#1) (hc1 : ¬ k0_cond2 i (nvWord xt1) = 1#1) : Vec F S256x2048 .f32 :=
  outView.read (Elt F) (outView.writes (Elt F) outView.junk (runValid c i arg3 harg3 arg4 harg4 arg5 harg5 arg6 harg6 arg7 harg7 x0 x1 x2 x3 xt0 xt1 hc0 hc1).1)

/-- The stores of a not valid tile cover its output block. -/
theorem coverIdle (c : Dev nD) (i : grid0.Coords) (arg3 : Memref sig .tc .vmem S256x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S256x2048 .f32) (harg7 : arg7.IsWhole)
    (x0 : Vec F S256x2048 .f32) (x1 : Vec F S1x1x2048x512 .bf16) (x2 : Vec F S1x1x2048x512 .bf16) (x3 : Vec F S1x1x512x2048 .bf16) (xt0 : TabBuf (F := F) c tabE) (xt1 : TabBuf (F := F) c tabN) (hc0 : ¬ k0_cond1 i (nvWord xt1) = 1#1) (hc1 :  k0_cond2 i (nvWord xt1) = 1#1) (y : S256x2048.Idx) :
    ∃ pc ∈ (runIdle c i arg3 harg3 arg4 harg4 arg5 harg5 arg6 harg6 arg7 harg7 x0 x1 x2 x3 xt0 xt1 hc0 hc1).1, y ∈ pc.1.set :=
  View.cover_of_tiledL (runIdle c i arg3 harg3 arg4 harg4 arg5 harg5 arg6 harg6 arg7 harg7 x0 x1 x2 x3 xt0 xt1 hc0 hc1).1 S256x2048.size (by sl_kernel_rfl) y

/-- What a not valid tile leaves in its output block. -/
def outIdle (c : Dev nD) (i : grid0.Coords) (arg3 : Memref sig .tc .vmem S256x2048 .f32) (harg3 : arg3.IsWhole) (arg4 : Memref sig .tc .vmem S1x1x2048x512 .bf16) (harg4 : arg4.IsWhole) (arg5 : Memref sig .tc .vmem S1x1x2048x512 .bf16) (harg5 : arg5.IsWhole) (arg6 : Memref sig .tc .vmem S1x1x512x2048 .bf16) (harg6 : arg6.IsWhole) (arg7 : Memref sig .tc .vmem S256x2048 .f32) (harg7 : arg7.IsWhole)
    (x0 : Vec F S256x2048 .f32) (x1 : Vec F S1x1x2048x512 .bf16) (x2 : Vec F S1x1x2048x512 .bf16) (x3 : Vec F S1x1x512x2048 .bf16) (xt0 : TabBuf (F := F) c tabE) (xt1 : TabBuf (F := F) c tabN) (hc0 : ¬ k0_cond1 i (nvWord xt1) = 1#1) (hc1 :  k0_cond2 i (nvWord xt1) = 1#1) : Vec F S256x2048 .f32 :=
  outView.read (Elt F) (outView.writes (Elt F) outView.junk (runIdle c i arg3 harg3 arg4 harg4 arg5 harg5 arg6 harg6 arg7 harg7 x0 x1 x2 x3 xt0 xt1 hc0 hc1).1)

/-- What the tile at point `t` leaves in its output block: the case the count selects. -/
def leaves (hO : Ok m) (c : Dev nD) (t : Fin (cfgM m hO).N) : Vec F S256x2048 .f32 :=
  if h0 : k0_cond1 (grid0.coords t) (nvWord (c := c) (tbl m 1)) = 1#1 then
    outValid c (grid0.coords t) (stg0 m hO t) (stgw0 m hO t) (stg1 m hO t) (stgw1 m hO t) (stg2 m hO t) (stgw2 m hO t) (stg3 m hO t) (stgw3 m hO t) (stg4 m hO t) (stgw4 m hO t) (iblk m hO c 0 t) (iblk m hO c 1 t) (iblk m hO c 2 t) (iblk m hO c 3 t) (tbl m 0) (tbl m 1) h0 (second_not_of_first _ _ h0)
  else
    outIdle c (grid0.coords t) (stg0 m hO t) (stgw0 m hO t) (stg1 m hO t) (stgw1 m hO t) (stg2 m hO t) (stgw2 m hO t) (stg3 m hO t) (stgw3 m hO t) (stg4 m hO t) (stgw4 m hO t) (iblk m hO c 0 t) (iblk m hO c 1 t) (iblk m hO c 2 t) (iblk m hO c 3 t) (tbl m 0) (tbl m 1) h0 (second_of_not_first _ _ h0)

/-- `leaves` at a valid tile, -/
theorem leavesValid (hO : Ok m) (c : Dev nD) (t : Fin (cfgM m hO).N) (h0 : k0_cond1 (grid0.coords t) (nvWord (c := c) (tbl m 1)) = 1#1) :
    leaves m hO c t = outValid c (grid0.coords t) (stg0 m hO t) (stgw0 m hO t) (stg1 m hO t) (stgw1 m hO t) (stg2 m hO t) (stgw2 m hO t) (stg3 m hO t) (stgw3 m hO t) (stg4 m hO t) (stgw4 m hO t) (iblk m hO c 0 t) (iblk m hO c 1 t) (iblk m hO c 2 t) (iblk m hO c 3 t) (tbl m 0) (tbl m 1) h0 (second_not_of_first _ _ h0) := by
  unfold leaves; exact (dif_pos h0).trans rfl

/-- and at one that is not. -/
theorem leavesIdle (hO : Ok m) (c : Dev nD) (t : Fin (cfgM m hO).N) (h0 : ¬ k0_cond1 (grid0.coords t) (nvWord (c := c) (tbl m 1)) = 1#1) :
    leaves m hO c t = outIdle c (grid0.coords t) (stg0 m hO t) (stgw0 m hO t) (stg1 m hO t) (stgw1 m hO t) (stg2 m hO t) (stgw2 m hO t) (stg3 m hO t) (stgw3 m hO t) (stg4 m hO t) (stgw4 m hO t) (iblk m hO c 0 t) (iblk m hO c 1 t) (iblk m hO c 2 t) (iblk m hO c 3 t) (tbl m 0) (tbl m 1) h0 (second_of_not_first _ _ h0) := by
  unfold leaves; exact (dif_neg h0).trans rfl

/-- The pipeline's proof data on core `c`: the arrays as launched; each input left at its block, the output at
    `leaves`; the tables' halves kept; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => leaves m hO c t
  Φ _ := iprop(Pipeline.ΦA spec0 c ∗ Pipeline.ΦT pre0 (tbl m) c)
  q _ := fullShare
  owed _ := 0

/-- The proof data's arrays are the launched ones. -/
theorem A_eq (hO : Ok m) (c : Dev nD) (w : Fin (cfgM m hO).W) : (dats m hO 0 c).A w = V m c (Pipeline.arrRef spec0 w) := by
  dsimp only [dats]

/-- What the body leaves, window by window. -/
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = leaves m hO c t := by dsimp only [dats]; try rfl

/-- Each input's staging buffer holds its block at every point. -/
theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t))

set_option maxHeartbeats 800000 in
/-- The body at any point: one of the two cases' runs. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tbl m) c) from rfl, tables_eq]
  by_cases h0 : k0_cond1 (grid0.coords t) (nvWord (c := c) (tbl m 1)) = 1#1
  · rw [leavesValid m hO c t h0]
    unfold outValid
    iintro ⟨⟨HΦ, ⟨HT0, HT1⟩⟩, Ho, ⟨%d0, H0⟩, ⟨%d1, H1⟩, ⟨%d2, H2⟩, ⟨%d3, H3⟩, ⟨%d4, H4⟩⟩
    iapply ((runValid c (grid0.coords t) _ _ _ _ _ _ _ _ _ _ (iblk m hO c 0 t) (iblk m hO c 1 t) (iblk m hO c 2 t) (iblk m hO c 3 t) (tbl m 0) (tbl m 1) h0 (second_not_of_first _ _ h0)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverValid c _ _ _ _ _ _ _ _ _ _ _ _ _ _ _ _ _ _ _)
  · rw [leavesIdle m hO c t h0]
    unfold outIdle
    iintro ⟨⟨HΦ, ⟨HT0, HT1⟩⟩, Ho, ⟨%d0, H0⟩, ⟨%d1, H1⟩, ⟨%d2, H2⟩, ⟨%d3, H3⟩, ⟨%d4, H4⟩⟩
    iapply ((runIdle c (grid0.coords t) _ _ _ _ _ _ _ _ _ _ (iblk m hO c 0 t) (iblk m hO c 1 t) (iblk m hO c 2 t) (iblk m hO c 3 t) (tbl m 0) (tbl m 1) h0 (second_of_not_first _ _ h0)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverIdle c _ _ _ _ _ _ _ _ _ _ _ _ _ _ _ _ _ _ _)

/-- The body table's row at point `t` is the body there. -/
theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The output's buffer is left at `leaves` whether or not its window counts as idle at the point, since every
    point writes it back. -/
theorem handed_back (hO : Ok m) (c : Dev nD) (t : Fin (cfgM m hO).N) (b : Bool) (X Y : sProp 𝕄) :
    (match b with
      | true => match ((cfgM m hO).win 4).flush t with
        | false => X
        | true => Y
      | false => Y) = Y := by
  rw [flush_out]; cases b <;> rfl

/-- The pipeline's body obligation, at every point. -/
theorem body_obligation (hO : Ok m) (c : Dev nD) : BodyObligation (dats (F := F) m hO 0 c) (defs₀ (F := F)) Variants.none () Set.univ := fun t => by
  rw [bigSep_W0, bigSep_W0, row_eq m hO]
  refine triple_restated (sound_body m hO c t) rfl .rfl fun _ => ?_
  refine BIBase.Entails.of_eq ?_
  unfold bodyPost
  exact congrArg (fun Z : sProp 𝕄 => iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ Z)) (handed_back m hO c t ((cfgM m hO).idle 4 ((cfgM m hO).grid.coords t)) _ _).symm

set_option backward.isDefEq.respectTransparency.types false in
/-- The launch: every execution ends with the arrays at what the pipeline computes and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := main_is_call m Variants.none) (hA := A_eq m hO) (hpf := tbl_of_dev m)
    (hΦ := fun _ _ => rfl)

/-- The run: the result array is what the pipeline's write-backs leave in it, the arguments are unchanged, and
    every counter is at zero. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 4 (cfgM m hO).N ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5)) ∧
      r.2.sem = fun _ => 0) :=
  (θ_run defs _ _).mono (fun _ h => ⟨fun c => ⟨(h.1 c).1 4,
      ((h.1 c).2 main_arg0 (by decide : main_arg0 ∈ Pipeline.restRefs sig spec0)),
      ((h.1 c).2 main_arg1 (by decide : main_arg1 ∈ Pipeline.restRefs sig spec0)),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_main_quiescent m ρ hO)

/-- The frame: the arguments end unchanged and every counter is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5)) ∧
      r.2.sem = fun _ => 0) :=
  (θ_run defs _ _).mono (fun _ h => ⟨fun c => (h.1 c).2, h.2⟩) (run m ρ hO)

end Cert.Kernel2Ideal.Experts

end
-- ==== Proof.ExpertsTablesIdeal.lean ====
/- The precondition read: every entry of the table of experts names one of the sixteen experts, so each tile's weight
   blocks lie inside the weight arrays. -/
module

public import proofs.«01_k».proof.Defs
public import proofs.«01_k».proof.Proof.ExpertsBodyIdeal
public import proofs.«01_k».proof.Proof.Gen.Pre_pre2
public import Idealize.ShloMosaic.Lib.ReduceAll
public import Idealize.ShloMosaic.Lib.Affine
public import Idealize.ShloMosaic.Lib.ValueIdx

@[expose] public section

set_option maxRecDepth 16384

noncomputable section

namespace Cert.Kernel2Ideal.Experts

open Idealize.ShloMosaic Idealize.ShloMosaic.TcCoe Idealize.ShloMosaic.ValueIdx
open Cert.Kernel2Ideal Cert.Kernel2Ideal.Gen

/-- A word that compares, signed, at least 0 and below 16 is a number below 16. -/
theorem word_lt (v : BitVec 32) (e : IntOp.andi (IntOp.cmpi .sge v 0#32) (IntOp.cmpi .slt v 16#32) = 1#1) : v.toNat < 16 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide,
    decide_eq_true_eq, BitVec.toInt_eq_toNat_cond, BitVec.toNat_ofNat, Nat.reducePow, Nat.reduceMod] at e
  omega

/-- The precondition bounds every entry of the table of experts. -/
theorem entry_lt (m : (ℓ : Loc nD τ sig) → Buf (Elt Ideal) ℓ) (h : Cert.Pre_Kernel2Ideal m) (j : S144.Idx) :
    (tbl m 0 j : BitVec 32).toNat < 16 := by
  have e := congrFun (h 0) ValueIdx.ix0
  dsimp only [Cert.Pre_pre2.fn] at e
  have : Subsingleton (Cert.Pre_pre2.S_).Idx := ⟨fun a b => funext fun k => k.elim0⟩
  exact word_lt _ (Host.reduce_andi_all _ _ _ _ _ e j)

variable {F : FTy → Type} [FloatOps F]

/-- The table's element an index map reads at a point is the one its coordinate names. -/
theorem table_at (pf : pre0.Contents (Elt F)) (i : grid0.Coords) :
    pf.at 0 (Rect.unit (s := S144) ![(Scalar.indexCast (BitVec.ofNat 32 (i 0).val)).toNat] S1.size (k0_off1_inb i)) numel1_S1
      = pf 0 (ix1 (⟨(i 0).val, (i 0).isLt⟩ : Fin 144)) := by
  unfold Pipeline.Prefetch.Contents.at
  refine congrArg (pf 0) (funext fun a => Fin.ext ?_)
  match a with
  | ⟨0, _⟩ =>
    have hi : (i 0).val < 144 := (i 0).isLt
    have hx : ∀ x : S1.Idx, (BitVec.ofNat 32 (i 0).val).toNat + 1 * (x 0).val = (i 0).val := fun x => by
      have := (x 0).isLt
      have h1 : (x 0).val < 1 := this
      rw [BitVec.toNat_ofNat, Nat.mod_eq_of_lt (by omega)]; omega
    exact hx _

/-- The expert of the tile at a point, as the table has it. -/
abbrev expertAt (pf : pre0.Contents (Elt F)) (i : grid0.Coords) : Nat :=
  (pf 0 (ix1 (⟨(i 0).val, (i 0).isLt⟩ : Fin 144)) : BitVec 32).toNat

/-- The three weight windows' index maps: the expert's block of layer 0. -/
theorem block_gate (pf : pre0.Contents (Elt F)) (i : grid0.Coords) :
    cc0_transform_1 k0_off1_inb numel1_S1 pf i = ![0, expertAt pf i, 0, 0] := by
  unfold cc0_transform_1; dsimp only; rw [table_at]; rfl
theorem block_up (pf : pre0.Contents (Elt F)) (i : grid0.Coords) :
    cc0_transform_2 k0_off1_inb numel1_S1 pf i = ![0, expertAt pf i, 0, 0] := by
  unfold cc0_transform_2; dsimp only; rw [table_at]; rfl
theorem block_down (pf : pre0.Contents (Elt F)) (i : grid0.Coords) :
    cc0_transform_3 k0_off1_inb numel1_S1 pf i = ![0, expertAt pf i, 0, 0] := by
  unfold cc0_transform_3; dsimp only; rw [table_at]; rfl

/-- An expert's block of up- or gate-weights is inside its array, -/
theorem inside_up {e : Nat} (he : e < 16) : ∀ a, ((![0, e, 0, 0] : Fin 4 → Nat) a + 1) * S1x1x2048x512.size a ≤ S2x16x2048x512.size a := fun a => match a with
  | ⟨0, _⟩ => by show (0 + 1) * 1 ≤ 2; omega
  | ⟨1, _⟩ => by show (e + 1) * 1 ≤ 16; omega
  | ⟨2, _⟩ => by show (0 + 1) * 2048 ≤ 2048; omega
  | ⟨3, _⟩ => by show (0 + 1) * 512 ≤ 512; omega

/-- and its block of down-weights is. -/
theorem inside_down {e : Nat} (he : e < 16) : ∀ a, ((![0, e, 0, 0] : Fin 4 → Nat) a + 1) * S1x1x512x2048.size a ≤ S2x16x512x2048.size a := fun a => match a with
  | ⟨0, _⟩ => by show (0 + 1) * 1 ≤ 2; omega
  | ⟨1, _⟩ => by show (e + 1) * 1 ≤ 16; omega
  | ⟨2, _⟩ => by show (0 + 1) * 512 ≤ 512; omega
  | ⟨3, _⟩ => by show (0 + 1) * 2048 ≤ 2048; omega

/-- Tables whose entries name an expert are admissible. -/
theorem ok_of_lt (pf : pre0.Contents (Elt F)) (h : ∀ j : S144.Idx, (pf 0 j : BitVec 32).toNat < 16) : ok0 pf := by
  refine ⟨fun i => ?_, fun i => ?_, fun i => ?_⟩
  · exact ⟨(block_gate pf i).symm ▸ inside_up (h _), .inr (Affine.block_words_dvd (of_decide_eq_true rfl) (by decide))⟩
  · exact ⟨(block_up pf i).symm ▸ inside_up (h _), .inr (Affine.block_words_dvd (of_decide_eq_true rfl) (by decide))⟩
  · exact ⟨(block_down pf i).symm ▸ inside_down (h _), .inr (Affine.block_words_dvd (of_decide_eq_true rfl) (by decide))⟩

/-- The precondition makes the launch memory's tables admissible. -/
theorem ok_of_pre (m : (ℓ : Loc nD τ sig) → Buf (Elt Ideal) ℓ) (h : Cert.Pre_Kernel2Ideal m) : Ok (F := Ideal) m :=
  ok_of_lt _ (entry_lt m h)

end Cert.Kernel2Ideal.Experts

end
-- ==== Proof.ExpertsSpec.lean ====
/- What the routed experts compute, in plain mathematics over the extended reals: for a row of its tile's expert, the
   gated two-layer network silu(x·Wg) * (x·Wu), times Wd; rows of tiles beyond the count of valid tiles are zero. -/
module

public import Idealize.ShloMosaic.Lib.Pointwise
public import Idealize.ShloMosaic.PureOps.Ideal.Laws

@[expose] public section

noncomputable section

namespace Layer.Experts

open Idealize.ShloMosaic

/-- The rows, the up- and gate-weights, the down-weights, the table of experts, and the count of valid tiles. -/
abbrev Rows : Type := (⟨2, ![36864, 2048]⟩ : Shape).Idx → EReal
abbrev UpWeights : Type := (⟨4, ![2, 16, 2048, 512]⟩ : Shape).Idx → EReal
abbrev DownWeights : Type := (⟨4, ![2, 16, 512, 2048]⟩ : Shape).Idx → EReal
abbrev Table : Type := (⟨1, ![144]⟩ : Shape).Idx → BitVec 32
abbrev Count : Type := (⟨1, ![1]⟩ : Shape).Idx → BitVec 32

/-- Row `r` times column `f` of expert `e`'s weights in layer 0. -/
def proj (x : Rows) (w : UpWeights) (e : Fin 16) (r : Fin 36864) (f : Fin 512) : EReal :=
  ∑ k : Fin 2048, x (ix2 r k) * w (ix4 0 e k f)

/-- The gated hidden unit: silu of the gate projection, times the up projection. -/
def hidden (x : Rows) (wg wu : UpWeights) (e : Fin 16) (r : Fin 36864) (f : Fin 512) : EReal :=
  Ideal.div (proj x wg e r f) (1 + Ideal.exp (-proj x wg e r f)) * proj x wu e r f

/-- Expert `e`'s output for row `r`. -/
def output (x : Rows) (wg wu : UpWeights) (wd : DownWeights) (e : Fin 16) (r : Fin 36864) (d : Fin 2048) : EReal :=
  ∑ f : Fin 512, hidden x wg wu e r f * wd (ix4 0 e f d)

/-- The tile a row lies in. -/
def tile (r : Fin 36864) : Fin 144 := ⟨r.val / 256, by have := r.isLt; omega⟩

/-- A tile is valid when its number is below the count. -/
def Valid (nv : Count) (t : Fin 144) : Prop := (BitVec.ofNat 32 t.val).toInt < (nv (ix1 0)).toInt

instance (nv : Count) (t : Fin 144) : Decidable (Valid nv t) := by unfold Valid; infer_instance

/-- The expert of a tile. -/
def expert (te : Table) (t : Fin 144) : Fin 16 := Fin.ofNat 16 (te (ix1 t)).toNat

/-- The whole result. -/
def result (te : Table) (nv : Count) (x : Rows) (wg wu : UpWeights) (wd : DownWeights) (r : Fin 36864) (d : Fin 2048) : EReal :=
  if Valid nv (tile r) then output x wg wu wd (expert te (tile r)) r d else 0

end Layer.Experts

end
-- ==== Proof.ExpertsValue.lean ====
/- What the expert kernel's result array holds: at every entry, `Layer.Experts.result` of the arguments. -/
module

public import proofs.«01_k».proof.Proof.ExpertsRunIdeal
public import proofs.«01_k».proof.Proof.ExpertsTablesIdeal
public import proofs.«01_k».proof.Proof.ExpertsSpec
public import Idealize.ShloMosaic.Lib.Pointwise
public import Idealize.ShloMosaic.Lib.Pipeline.Value
public import Idealize.ShloMosaic.Lib.Pipeline.ValueKit
public import Idealize.ShloMosaic.Lib.WordCmp
public import Idealize.ShloMosaic.PureOps.Ideal.Laws

@[expose] public section

set_option maxRecDepth 16384

noncomputable section

namespace Cert.Kernel2Ideal.Experts

open Idealize.ShloMosaic Idealize.ShloMosaic.TcCoe
open Cert.Kernel2Ideal Cert.Kernel2Ideal.Gen
open Layer.Experts (Rows UpWeights DownWeights)

variable (m : (ℓ : Loc nD τ sig) → Buf (Elt Ideal) ℓ)

/-- What a valid tile stores, at an entry, from its blocks. -/
theorem stored_apply (x : Vec Ideal S256x2048 .f32) (wg wu : Vec Ideal S1x1x2048x512 .bf16) (wd : Vec Ideal S1x1x512x2048 .bf16) (p : Fin 256) (d : Fin 2048) :
    k0_pay1 (F := Ideal) x wg wu wd (ix2 p d) =
      ∑ f : Fin 512, (Ideal.div (∑ k : Fin 2048, x (ix2 p k) * wg (ix4 0 0 k f)) (1 + Ideal.exp (0 - ∑ k : Fin 2048, x (ix2 p k) * wg (ix4 0 0 k f)))
        * ∑ k : Fin 2048, x (ix2 p k) * wu (ix4 0 0 k f)) * wd (ix4 0 0 f d) := by
  unfold k0_pay1
  pointwise

/-- What an invalid tile stores: zero. -/
theorem stored_zero (p : Fin 256) (d : Fin 2048) : k0_pay2 (F := Ideal) (ix2 p d) = 0 := by
  unfold k0_pay2
  pointwise

/-- A valid tile leaves that store's value of its blocks in its output block, -/
theorem leaves_valid (hO : Ok m) (c : Dev nD) (t : Fin (cfgM m hO).N) (h0 : k0_cond1 (grid0.coords t) (nvWord (c := c) (tbl m 1)) = 1#1) :
    leaves m hO c t = k0_pay1 (iblk m hO c 0 t) (iblk m hO c 1 t) (iblk m hO c 2 t) (iblk m hO c 3 t) := by
  rw [leavesValid m hO c t h0]
  unfold outValid runValid
  dsimp only
  simp (disch := decide) only [View.read_writes_junk_eq_canon, View.canon_cons_unit_lit', View.ld_unit_lit', View.readAt_eq_ld]
  exact congr (congr (congr (congrArg (k0_pay1 (F := Ideal)) ((stgw0 m hO t).read_unread _)) ((stgw1 m hO t).read_unread _)) ((stgw2 m hO t).read_unread _)) ((stgw3 m hO t).read_unread _)

/-- and an invalid one zeros. -/
theorem leaves_idle (hO : Ok m) (c : Dev nD) (t : Fin (cfgM m hO).N) (h0 : ¬ k0_cond1 (grid0.coords t) (nvWord (c := c) (tbl m 1)) = 1#1) :
    leaves m hO c t = k0_pay2 (F := Ideal) := by
  rw [leavesIdle m hO c t h0]
  unfold outIdle runIdle
  dsimp only
  simp (disch := decide) only [View.read_writes_junk_eq_canon, View.canon_cons_unit_lit', View.ld_unit_lit', View.readAt_eq_ld, Memref.IsWhole.read_unread]

/-- The point's one grid coordinate is its number. -/
theorem coord_eq : ∀ t : Fin grid0.N, ((grid0.coords t) 0).val = t.val := by decide +kernel

/-- The row of the arrays that row `p` of tile `t` is. -/
abbrev rowOf (t : Fin 144) (p : Fin 256) : Fin 36864 := ⟨t.val * 256 + p.val, by have := t.isLt; have := p.isLt; omega⟩

/-- A tile's block of rows, at an entry. -/
theorem rows_block (hO : Ok m) (c : Dev nD) (t : Fin (cfgM m hO).N) (p : Fin 256) (k : Fin 2048) :
    iblk m hO c 0 t (ix2 p k) = m ((c : Thread nD τ).loc main_arg2) (ix2 (rowOf t p) k) := by
  refine congrArg (m ((c : Thread nD τ).loc main_arg2)) (funext fun a => Fin.ext ?_)
  have e := coord_eq t
  match a with
  | ⟨0, _⟩ => show (BitVec.ofNat 32 ((grid0.coords t) 0).val).toNat * 256 + 1 * p.val = t.val * 256 + p.val
              rw [e, BitVec.toNat_ofNat, Nat.mod_eq_of_lt (by have : t.val < 144 := t.isLt; omega)]; omega
  | ⟨1, _⟩ => show 0 * 2048 + 1 * k.val = k.val
              omega

/-- The tile's expert at a point, from the table. -/
abbrev exAt (t : Fin 144) : Fin 16 := Layer.Experts.expert (m (((0 : Dev nD) : Thread nD τ).loc main_arg0)) t

/-- It is the number the index maps read. -/
theorem exAt_val (h : ∀ j : S144.Idx, (tbl m 0 j : BitVec 32).toNat < 16) (t : Fin grid0.N) :
    expertAt (tbl m) (grid0.coords t) = (exAt m t).val := by
  have hx := h (ix1 (n0 := 144) t)
  have : (ValueIdx.ix1 (⟨((grid0.coords t) 0).val, ((grid0.coords t) 0).isLt⟩ : Fin 144)) = ix1 (n0 := 144) t := by
    rw [← ix1_eq_valueIdx]; exact congrArg ix1 (Fin.ext (coord_eq t))
  unfold expertAt exAt Layer.Experts.expert
  rw [this]
  exact (Nat.mod_eq_of_lt hx).symm

/-- A tile's block of gate-weights, -/
theorem gate_block (hO : Ok m) (h : ∀ j : S144.Idx, (tbl m 0 j : BitVec 32).toNat < 16) (c : Dev nD) (t : Fin (cfgM m hO).N) (k : Fin 2048) (f : Fin 512) :
    iblk m hO c 1 t (ix4 0 0 k f) = m ((c : Thread nD τ).loc main_arg3) (ix4 0 (exAt m t) k f) := by
  refine congrArg (m ((c : Thread nD τ).loc main_arg3)) (funext fun a => Fin.ext ?_)
  have e := block_gate (tbl m) (grid0.coords t)
  have ev := exAt_val m h t
  match a with
  | ⟨0, _⟩ => show cc0_transform_1 k0_off1_inb numel1_S1 (tbl m) (grid0.coords t) 0 * 1 + 1 * 0 = 0
              rw [e]; rfl
  | ⟨1, _⟩ => show cc0_transform_1 k0_off1_inb numel1_S1 (tbl m) (grid0.coords t) 1 * 1 + 1 * 0 = (exAt m t).val
              rw [e, ← ev]; show expertAt (tbl m) (grid0.coords t) * 1 + 1 * 0 = _; omega
  | ⟨2, _⟩ => show cc0_transform_1 k0_off1_inb numel1_S1 (tbl m) (grid0.coords t) 2 * 2048 + 1 * k.val = k.val
              rw [e]; show 0 * 2048 + 1 * k.val = k.val; omega
  | ⟨3, _⟩ => show cc0_transform_1 k0_off1_inb numel1_S1 (tbl m) (grid0.coords t) 3 * 512 + 1 * f.val = f.val
              rw [e]; show 0 * 512 + 1 * f.val = f.val; omega

/-- of up-weights, -/
theorem up_block (hO : Ok m) (h : ∀ j : S144.Idx, (tbl m 0 j : BitVec 32).toNat < 16) (c : Dev nD) (t : Fin (cfgM m hO).N) (k : Fin 2048) (f : Fin 512) :
    iblk m hO c 2 t (ix4 0 0 k f) = m ((c : Thread nD τ).loc main_arg4) (ix4 0 (exAt m t) k f) := by
  refine congrArg (m ((c : Thread nD τ).loc main_arg4)) (funext fun a => Fin.ext ?_)
  have e := block_up (tbl m) (grid0.coords t)
  have ev := exAt_val m h t
  match a with
  | ⟨0, _⟩ => show cc0_transform_2 k0_off1_inb numel1_S1 (tbl m) (grid0.coords t) 0 * 1 + 1 * 0 = 0
              rw [e]; rfl
  | ⟨1, _⟩ => show cc0_transform_2 k0_off1_inb numel1_S1 (tbl m) (grid0.coords t) 1 * 1 + 1 * 0 = (exAt m t).val
              rw [e, ← ev]; show expertAt (tbl m) (grid0.coords t) * 1 + 1 * 0 = _; omega
  | ⟨2, _⟩ => show cc0_transform_2 k0_off1_inb numel1_S1 (tbl m) (grid0.coords t) 2 * 2048 + 1 * k.val = k.val
              rw [e]; show 0 * 2048 + 1 * k.val = k.val; omega
  | ⟨3, _⟩ => show cc0_transform_2 k0_off1_inb numel1_S1 (tbl m) (grid0.coords t) 3 * 512 + 1 * f.val = f.val
              rw [e]; show 0 * 512 + 1 * f.val = f.val; omega

/-- and of down-weights: its expert's, in layer 0. -/
theorem down_block (hO : Ok m) (h : ∀ j : S144.Idx, (tbl m 0 j : BitVec 32).toNat < 16) (c : Dev nD) (t : Fin (cfgM m hO).N) (f : Fin 512) (d : Fin 2048) :
    iblk m hO c 3 t (ix4 0 0 f d) = m ((c : Thread nD τ).loc main_arg5) (ix4 0 (exAt m t) f d) := by
  refine congrArg (m ((c : Thread nD τ).loc main_arg5)) (funext fun a => Fin.ext ?_)
  have e := block_down (tbl m) (grid0.coords t)
  have ev := exAt_val m h t
  match a with
  | ⟨0, _⟩ => show cc0_transform_3 k0_off1_inb numel1_S1 (tbl m) (grid0.coords t) 0 * 1 + 1 * 0 = 0
              rw [e]; rfl
  | ⟨1, _⟩ => show cc0_transform_3 k0_off1_inb numel1_S1 (tbl m) (grid0.coords t) 1 * 1 + 1 * 0 = (exAt m t).val
              rw [e, ← ev]; show expertAt (tbl m) (grid0.coords t) * 1 + 1 * 0 = _; omega
  | ⟨2, _⟩ => show cc0_transform_3 k0_off1_inb numel1_S1 (tbl m) (grid0.coords t) 2 * 512 + 1 * f.val = f.val
              rw [e]; show 0 * 512 + 1 * f.val = f.val; omega
  | ⟨3, _⟩ => show cc0_transform_3 k0_off1_inb numel1_S1 (tbl m) (grid0.coords t) 3 * 2048 + 1 * d.val = d.val
              rw [e]; show 0 * 2048 + 1 * d.val = d.val; omega

/-- The condition the body tests is the tile being valid. -/
theorem cond_iff (t : Fin grid0.N) :
    k0_cond1 (grid0.coords t) (nvWord (c := (0 : Dev nD)) (tbl m 1)) = 1#1 ↔ Layer.Experts.Valid (m (((0 : Dev nD) : Thread nD τ).loc main_arg1)) t := by
  have hw : nvWord (c := (0 : Dev nD)) (tbl m 1) = m (((0 : Dev nD) : Thread nD τ).loc main_arg1) (ix1 (0 : Fin 1)) := by
    refine congrArg (m (((0 : Dev nD) : Thread nD τ).loc main_arg1)) (funext fun a => ?_)
    exact Fin.ext (by
      match a with
      | ⟨0, h⟩ => exact Nat.lt_one_iff.mp (Fin.isLt _))
  rw [hw]
  unfold k0_cond1 Scalar.cmpi Scalar.extui Layer.Experts.Valid
  rw [coord_eq t]
  simp only [WordCmp.cmpi_slt_eq]
  generalize (BitVec.ofNat 32 t.val).toInt = a
  generalize (m (((0 : Dev nD) : Thread nD τ).loc main_arg1) (ix1 (0 : Fin 1)) : BitVec 32).toInt = b
  by_cases hab : a < b
  · rw [decide_eq_true hab]; exact ⟨fun _ => hab, fun _ => by decide⟩
  · rw [decide_eq_false hab]; exact ⟨fun h => absurd h (by decide), fun h => absurd h hab⟩

/-- What the result array is shown to hold. -/
def value (c : Dev nD) : Buf (Elt Ideal) ((c : Thread nD τ).loc main_v0) := fun i =>
  Layer.Experts.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

/-- What tile `t` leaves, at an entry, is that value at the entry's place in the array. -/
theorem leaves_apply (hO : Ok m) (h : ∀ j : S144.Idx, (tbl m 0 j : BitVec 32).toNat < 16) (t : Fin (cfgM m hO).N) (p : Fin 256) (d : Fin 2048) :
    leaves m hO 0 t (ix2 p d) = value m 0 (ix2 (rowOf t p) d) := by
  have ht : Layer.Experts.tile (rowOf t p) = t := Fin.ext (by
    show (t.val * 256 + p.val) / 256 = t.val
    have := p.isLt; omega)
  show _ = Layer.Experts.result _ _ _ _ _ _ (rowOf t p) d
  unfold Layer.Experts.result
  rw [ht]
  by_cases h0 : k0_cond1 (grid0.coords t) (nvWord (c := (0 : Dev nD)) (tbl m 1)) = 1#1
  · rw [leaves_valid m hO 0 t h0, if_pos ((cond_iff m t).mp h0)]
    refine (stored_apply _ _ _ _ p d).trans ?_
    unfold Layer.Experts.output Layer.Experts.hidden Layer.Experts.proj
    simp only [rows_block, gate_block m hO h, up_block m hO h, down_block m hO h, zero_sub]
  · rw [leaves_idle m hO 0 t h0, if_neg (fun hv => h0 ((cond_iff m t).mpr hv))]
    exact stored_zero p d

/-- The place in the result array of an entry of tile `t`'s block. -/
theorem out_emb (hO : Ok m) (t : Fin (cfgM m hO).N) (p : Fin 256) (d : Fin 2048) :
    (((cfgM m hO).win 4).blk t).view.emb (ix2 p d) = (ix2 (rowOf t p) d : S36864x2048.Idx) := by
  refine funext fun a => Fin.ext ?_
  have e := coord_eq t
  match a with
  | ⟨0, _⟩ => show (BitVec.ofNat 32 ((grid0.coords t) 0).val).toNat * 256 + 1 * p.val = t.val * 256 + p.val
              rw [e, BitVec.toNat_ofNat, Nat.mod_eq_of_lt (by have : t.val < 144 := t.isLt; omega)]; omega
  | ⟨1, _⟩ => show 0 * 2048 + 1 * d.val = d.val
              omega

/-- Every entry of the result array is in its tile's block. -/
theorem covered (hO : Ok m) (i : S36864x2048.Idx) :
    ∃ t : Fin (cfgM m hO).N, ((cfgM m hO).win 4).flush t = true ∧ i ∈ (((cfgM m hO).win 4).blk t).view.set := by
  have h0 : (i 0).val < 36864 := (i 0).isLt
  have h1 : (i 1).val < 2048 := (i 1).isLt
  let t : Fin grid0.N := ⟨(i 0).val / 256, by show (i 0).val / 256 < 144; omega⟩
  refine ⟨t, flush_out _ t, ?_⟩
  have : i = (((cfgM m hO).win 4).blk t).view.emb (ix2 (⟨(i 0).val % 256, Nat.mod_lt _ (by decide)⟩ : Fin 256) (⟨(i 1).val, h1⟩ : Fin 2048)) := by
    rw [out_emb]
    refine funext fun a => Fin.ext ?_
    match a with
    | ⟨0, _⟩ => show (i 0).val = (i 0).val / 256 * 256 + (i 0).val % 256; omega
    | ⟨1, _⟩ => rfl
  rw [this]
  exact View.emb_mem_set _ _

/-- The result array at the end of the run. -/
theorem final (hO : Ok m) (h : ∀ j : S144.Idx, (tbl m 0 j : BitVec 32).toNat < 16) :
    (dats m hO 0 0).arrAt 4 (cfgM m hO).N = value m 0 := by
  refine (dats m hO 0 0).arrAt_eq_of_emb 4 (value m 0) (fun t _ (y : S256x2048.Idx) => ?_) (covered m hO)
  show (dats m hO 0 0).after 4 t y = value m 0 ((((cfgM m hO).win 4).blk t).view.emb y)
  obtain ⟨p, d, rfl⟩ : ∃ (p : Fin 256) (d : Fin 2048), y = ix2 p d := ⟨y 0, y 1, eq_ix2 y⟩
  rw [after4, leaves_apply m hO h, out_emb]

end Cert.Kernel2Ideal.Experts

end
-- ==== Proof.ExpertsReference.lean ====
/- What the reference of the experts computes: at every entry, `Layer.Experts.result` of the arguments. The reference
   runs every row through every expert and adds the outputs up, each times its gate: 1 where the expert is the row's
   tile's and the tile is valid, 0 elsewhere. -/
module

public import proofs.«01_k».proof.Proof.Gen.Reference2Ideal.Read
public import proofs.«01_k».proof.Proof.ExpertsSpec
public import Idealize.ShloMosaic.Lib.Pointwise
public import Idealize.ShloMosaic.Lib.WordCmp
public import Idealize.ShloMosaic.Lib.IdealHost

@[expose] public section

set_option maxRecDepth 16384

noncomputable section

namespace Cert.Reference2Ideal.Experts

open Idealize.ShloMosaic Idealize.ShloMosaic.TcCoe
open Cert.Reference2Ideal Cert.Reference2Ideal.Gen Cert.Reference2Ideal.Read
open Layer.Experts (Rows UpWeights DownWeights Count)

/-- Layer 0's gate-weights, as the reference slices them out, -/
theorem gate_weights (w : UpWeights) (e : Fin 16) (k : Fin 2048) (f : Fin 512) :
    val_main_v2 (F := Ideal) w (ix3 e k f) = w (ix4 0 e k f) := by
  rw [val_main_v2_apply, val_main_v1_apply, val_main_v0_apply]
  show w _ = w _
  have he := e.isLt; have hk := k.isLt; have hf := f.isLt
  refine congrArg w (funext fun a => Fin.ext ?_)
  match a with
  | ⟨0, _⟩ => rfl
  | ⟨1, _⟩ => show ((e.val * 2048 + k.val) * 512 + f.val) / 1048576 % 16 = e.val; omega
  | ⟨2, _⟩ => show ((e.val * 2048 + k.val) * 512 + f.val) / 512 % 2048 = k.val; omega
  | ⟨3, _⟩ => show ((e.val * 2048 + k.val) * 512 + f.val) % 512 = f.val; omega

/-- its up-weights, -/
theorem up_weights (w : UpWeights) (e : Fin 16) (k : Fin 2048) (f : Fin 512) :
    val_main_v5 (F := Ideal) w (ix3 e k f) = w (ix4 0 e k f) := by
  rw [val_main_v5_apply, val_main_v4_apply, val_main_v3_apply]
  show w _ = w _
  have he := e.isLt; have hk := k.isLt; have hf := f.isLt
  refine congrArg w (funext fun a => Fin.ext ?_)
  match a with
  | ⟨0, _⟩ => rfl
  | ⟨1, _⟩ => show ((e.val * 2048 + k.val) * 512 + f.val) / 1048576 % 16 = e.val; omega
  | ⟨2, _⟩ => show ((e.val * 2048 + k.val) * 512 + f.val) / 512 % 2048 = k.val; omega
  | ⟨3, _⟩ => show ((e.val * 2048 + k.val) * 512 + f.val) % 512 = f.val; omega

/-- and its down-weights. -/
theorem down_weights (w : DownWeights) (e : Fin 16) (f : Fin 512) (d : Fin 2048) :
    val_main_v8 (F := Ideal) w (ix3 e f d) = w (ix4 0 e f d) := by
  rw [val_main_v8_apply, val_main_v7_apply, val_main_v6_apply]
  show w _ = w _
  have he := e.isLt; have hd := d.isLt; have hf := f.isLt
  refine congrArg w (funext fun a => Fin.ext ?_)
  match a with
  | ⟨0, _⟩ => rfl
  | ⟨1, _⟩ => show ((e.val * 512 + f.val) * 2048 + d.val) / 1048576 % 16 = e.val; omega
  | ⟨2, _⟩ => show ((e.val * 512 + f.val) * 2048 + d.val) / 2048 % 512 = f.val; omega
  | ⟨3, _⟩ => show ((e.val * 512 + f.val) * 2048 + d.val) % 2048 = d.val; omega

/-- The gate projection of every row by every expert, -/
theorem gate_proj (x : Rows) (w : UpWeights) (e : Fin 16) (r : Fin 36864) (f : Fin 512) :
    val_main_v25 (F := Ideal) x w (ix3 e r f) = Layer.Experts.proj x w e r f := by
  rw [val_main_v25_apply, val_main_v24_apply]
  refine Finset.sum_congr rfl fun k _ => ?_
  rw [show lidx_main_v24 (idx_main_v25 (ix3 e r f)) k = ix3 e k f from funext fun a => by
      match a with | ⟨0, _⟩ => rfl | ⟨1, _⟩ => rfl | ⟨2, _⟩ => rfl,
    show ridx_main_v24 (idx_main_v25 (ix3 e r f)) k = ix2 r k from funext fun a => by
      match a with | ⟨0, _⟩ => rfl | ⟨1, _⟩ => rfl, gate_weights, mul_comm]

/-- and the up projection. -/
theorem up_proj (x : Rows) (w : UpWeights) (e : Fin 16) (r : Fin 36864) (f : Fin 512) :
    val_main_v27 (F := Ideal) x w (ix3 e r f) = Layer.Experts.proj x w e r f := by
  rw [val_main_v27_apply, val_main_v26_apply]
  refine Finset.sum_congr rfl fun k _ => ?_
  rw [show lidx_main_v26 (idx_main_v27 (ix3 e r f)) k = ix3 e k f from funext fun a => by
      match a with | ⟨0, _⟩ => rfl | ⟨1, _⟩ => rfl | ⟨2, _⟩ => rfl,
    show ridx_main_v26 (idx_main_v27 (ix3 e r f)) k = ix2 r k from funext fun a => by
      match a with | ⟨0, _⟩ => rfl | ⟨1, _⟩ => rfl, up_weights, mul_comm]

/-- One plus an exponential is not zero. -/
theorem one_add_exp_ne (a : EReal) : 1 + Ideal.exp a ≠ 0 := by
  have h : 0 ≤ Ideal.exp a := by
    induction a using EReal.rec with
    | bot => exact le_of_eq Ideal.exp_bot.symm
    | coe a => rw [Ideal.exp_coe]; exact EReal.coe_nonneg.mpr (Real.exp_pos a).le
    | top => rw [Ideal.exp_top]; exact le_top
  have : (0 : EReal) < 1 + Ideal.exp a := lt_of_lt_of_le zero_lt_one (le_add_of_nonneg_right h)
  exact this.ne'

/-- The silu the reference takes, `a * (1 / (1 + exp (-a)))`, is the quotient `a / (1 + exp (-a))`. -/
theorem silu_eq (a : EReal) : a * Ideal.div 1 (1 + Ideal.exp (-a)) = Ideal.div a (1 + Ideal.exp (-a)) := by
  unfold Ideal.div
  rw [if_neg (one_add_exp_ne _), if_neg (one_add_exp_ne _), one_mul]

/-- The gated hidden unit. -/
theorem hidden_unit (x : Rows) (wg wu : UpWeights) (e : Fin 16) (r : Fin 36864) (f : Fin 512) :
    val_main_v29 (F := Ideal) x wg wu (ix3 e r f) = Layer.Experts.hidden x wg wu e r f := by
  rw [val_main_v29_apply, val_main_v28_apply, val_main_call0_v5_apply, val_main_call0_v4_apply, val_main_call0_cst_0_apply,
    val_main_call0_v3_apply, val_main_call0_v2_apply, val_main_call0_cst_apply, val_main_call0_v1_apply, val_main_call0_v0_apply,
    gate_proj, up_proj]
  show Layer.Experts.proj x wg e r f * Ideal.div (Ideal.ofBits .f32 0x3F800000#32) (Ideal.ofBits .f32 0x3F800000#32 + Ideal.exp (-Layer.Experts.proj x wg e r f)) * Layer.Experts.proj x wu e r f = _
  rw [Ideal.ofBits_one_f32, silu_eq]
  rfl

/-- Every expert's output for every row. -/
theorem expert_output (x : Rows) (wg wu : UpWeights) (wd : DownWeights) (e : Fin 16) (r : Fin 36864) (d : Fin 2048) :
    val_main_v30 (F := Ideal) x wg wu wd (ix3 e r d) = Layer.Experts.output x wg wu wd e r d := by
  rw [val_main_v30_apply]
  refine Finset.sum_congr rfl fun f _ => ?_
  rw [show lidx_main_v30 (ix3 e r d) f = ix3 e r f from funext fun a => by
      match a with | ⟨0, _⟩ => rfl | ⟨1, _⟩ => rfl | ⟨2, _⟩ => rfl,
    show ridx_main_v30 (ix3 e r d) f = ix3 e f d from funext fun a => by
      match a with | ⟨0, _⟩ => rfl | ⟨1, _⟩ => rfl | ⟨2, _⟩ => rfl, hidden_unit, down_weights]

/-- The gate of an expert for a row, as a word: the expert is named for the row's tile, and the tile is valid. -/
theorem gate_word (te : Layer.Experts.Table) (nv : Count) (e : Fin 16) (r : Fin 36864) (d : Fin 2048) :
    val_main_v33 (F := Ideal) te nv (ix3 e r d)
      = FloatOps.uitofp (F := Ideal) .f32 (IntOp.andi (IntOp.cmpi .eq (te (ix1 (Layer.Experts.tile r))) (BitVec.ofNat 32 e.val))
          (IntOp.cmpi .slt (BitVec.ofNat 32 (Layer.Experts.tile r).val) (nv (ix1 0)))) := by
  rw [val_main_v33_apply, val_main_v32_apply, val_main_v31_apply, val_main_v23_apply, val_main_v22_apply]
  have hr := r.isLt; have he := e.isLt
  rw [show idx_main_v22 (idx_main_v23 (idx_main_v31 (idx_main_v32 (idx_main_v33 (ix3 e r d))))) = ix2 (Layer.Experts.tile r) e from
    funext fun a => Fin.ext (by
      match a with
      | ⟨0, _⟩ => show (r.val * 16 + e.val) / 4096 = r.val / 256; omega
      | ⟨1, _⟩ => show (r.val * 16 + e.val) % 16 = e.val; omega)]
  rw [val_main_v21_apply, val_main_v20_apply, val_main_v19_apply, val_main_v18_apply, val_main_v17_apply, val_main_v16_apply, val_main_v15_apply,
    val_main_v14_apply, val_main_v13_apply, val_main_v12_apply, val_main_v11_apply, val_main_v10_apply, val_main_v9_apply]
  have h1 : idx_main_v9 (idx_main_v12 (ix2 (Layer.Experts.tile r) e)) = ix1 (Layer.Experts.tile r) := funext fun a => by
    match a with | ⟨0, _⟩ => rfl
  have h2 : idx_main_v16 (idx_main_v18 (idx_main_v19 (ix2 (Layer.Experts.tile r) e))) = ix1 (0 : Fin 1) := funext fun a => by
    match a with | ⟨0, _⟩ => rfl
  rw [h1, h2]
  rfl

/-- The float of a bit that is set, -/
theorem float_one : FloatOps.uitofp (F := Ideal) .f32 (IntOp.andi (BitVec.ofBool true) (BitVec.ofBool true)) = (1 : EReal) := by
  show (((1#1 : BitVec 1).toNat : ℝ) : EReal) = 1
  norm_num

/-- and of one that is not. -/
theorem float_zero {b : BitVec 1} (h : b = 0#1) : FloatOps.uitofp (F := Ideal) .f32 b = (0 : EReal) := by
  subst h
  show (((0#1 : BitVec 1).toNat : ℝ) : EReal) = 0
  norm_num

/-- So the gate is 1 for the row's tile's expert when the tile is valid, and 0 otherwise. -/
theorem gate_eq (te : Layer.Experts.Table) (nv : Count) (h : ∀ t, (te t).toNat < 16) (e : Fin 16) (r : Fin 36864) (d : Fin 2048) :
    val_main_v33 (F := Ideal) te nv (ix3 e r d)
      = if Layer.Experts.expert te (Layer.Experts.tile r) = e ∧ Layer.Experts.Valid nv (Layer.Experts.tile r) then (1 : EReal) else 0 := by
  rw [gate_word]
  have ht := h (ix1 (Layer.Experts.tile r))
  have hE : (Layer.Experts.expert te (Layer.Experts.tile r) = e) ↔ te (ix1 (Layer.Experts.tile r)) = BitVec.ofNat 32 e.val := by
    unfold Layer.Experts.expert
    generalize te (ix1 (Layer.Experts.tile r)) = v at ht
    have he := e.isLt
    constructor
    · rintro rfl
      apply BitVec.eq_of_toNat_eq
      rw [BitVec.toNat_ofNat]
      show v.toNat = v.toNat % 16 % 2 ^ 32
      omega
    · rintro rfl
      apply Fin.ext
      show (BitVec.ofNat 32 e.val).toNat % 16 = e.val
      rw [BitVec.toNat_ofNat]; omega
  rw [WordCmp.cmpi_eq_eq, WordCmp.cmpi_slt_eq]
  by_cases h1 : te (ix1 (Layer.Experts.tile r)) = BitVec.ofNat 32 e.val <;> by_cases h2 : Layer.Experts.Valid nv (Layer.Experts.tile r)
  · rw [if_pos ⟨hE.mpr h1, h2⟩, decide_eq_true h1, show decide (_ < _) = true from decide_eq_true h2]; exact float_one
  · rw [if_neg fun h => h2 h.2, decide_eq_true h1, show decide (_ < _) = false from decide_eq_false h2]; exact float_zero rfl
  · rw [if_neg fun h => h1 (hE.mp h.1), decide_eq_false h1, show decide (_ < _) = true from decide_eq_true h2]; exact float_zero rfl
  · rw [if_neg fun h => h1 (hE.mp h.1), decide_eq_false h1, show decide (_ < _) = false from decide_eq_false h2]; exact float_zero rfl

/-- The reference's result. -/
theorem result_eq (te : Layer.Experts.Table) (nv : Count) (x : Rows) (wg wu : UpWeights) (wd : DownWeights) (h : ∀ t, (te t).toNat < 16) (r : Fin 36864) (d : Fin 2048) :
    val_main_v35 (F := Ideal) te nv x wg wu wd (ix2 r d) = Layer.Experts.result te nv x wg wu wd r d := by
  rw [val_main_v35_apply]
  have hi : ∀ e : Fin 16, idx_main_v35 (ix2 r d) e = ix3 e r d := fun e => funext fun a => by
    match a with | ⟨0, _⟩ => rfl | ⟨1, _⟩ => rfl | ⟨2, _⟩ => rfl
  have hz : val_main_cst (F := Ideal) (Shape.Idx.first h_S_) = 0 := Ideal.ofBits_zero_f32
  rw [hz, zero_add]
  have term : ∀ e : Fin 16, val_main_v34 (F := Ideal) te nv x wg wu wd (idx_main_v35 (ix2 r d) e)
      = (if Layer.Experts.expert te (Layer.Experts.tile r) = e ∧ Layer.Experts.Valid nv (Layer.Experts.tile r) then (1 : EReal) else 0) * Layer.Experts.output x wg wu wd e r d := fun e => by
    rw [hi, val_main_v34_apply, gate_eq te nv h, expert_output]; rfl
  rw [Finset.sum_congr rfl fun e _ => term e]
  unfold Layer.Experts.result
  by_cases hv : Layer.Experts.Valid nv (Layer.Experts.tile r)
  · rw [if_pos hv, Finset.sum_eq_single (Layer.Experts.expert te (Layer.Experts.tile r))]
    · rw [if_pos ⟨rfl, hv⟩, one_mul]
    · intro e _ hne; rw [if_neg fun h => hne h.1.symm, zero_mul]
    · intro hn; exact absurd (Finset.mem_univ _) hn
  · rw [if_neg hv]
    refine Finset.sum_eq_zero fun e _ => ?_
    rw [if_neg fun h => hv h.2, zero_mul]

end Cert.Reference2Ideal.Experts

end
-- ==== Proof.ExpertsClaims.lean ====
/- The claims about the experts, each from the modules before: the frames from the runs, the precondition giving the
   table's entries; the value claim from the kernel's and the reference's results, which are one function of the arguments. -/
module

public import proofs.«01_k».proof.Defs
public import proofs.«01_k».proof.Proof.ExpertsRunIdeal
public import proofs.«01_k».proof.Proof.ExpertsRunBits
public import proofs.«01_k».proof.Proof.ExpertsTablesIdeal
public import proofs.«01_k».proof.Proof.ExpertsTablesBits
public import proofs.«01_k».proof.Proof.ExpertsValue
public import proofs.«01_k».proof.Proof.ExpertsReference
public import proofs.«01_k».proof.Proof.Gen.Reference2Ideal.Run

@[expose] public section

set_option maxRecDepth 16384

noncomputable section

namespace Cert.Proof.Experts

open Idealize.ShloMosaic Idealize.SL.Sem Idealize.ShloMosaic.TcCoe

/-- The kernel's frame on the words: it runs, its arguments are unchanged, and the counters end at zero. -/
theorem frame_kernel : Cert.quiescent_Kernel2 := fun m ρ h => Cert.Kernel2.Experts.frame m ρ (Cert.Kernel2.Experts.ok_of_pre m h)

/-- The kernel's frame on the extended reals. -/
theorem frame_ideal : Cert.quiescent_Kernel2Ideal := fun m ρ h => Cert.Kernel2Ideal.Experts.frame m ρ (Cert.Kernel2Ideal.Experts.ok_of_pre m h)

/-- The reference's frame: it is a line of operations, no one of them writing an argument, and has no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

open Cert.Reference2Ideal Cert.Reference2Ideal.Read in
/-- The reference's result array, from a memory whose table names experts: the layer's experts of the arguments. -/
theorem reference_result (m : (ℓ : Loc nD τ sig) → Buf (Elt Ideal) ℓ) (c : Dev nD)
    (h : ∀ t, ((m ((c.tc : Thread nD τ).loc main_arg0) : Layer.Experts.Table) t).toNat < 16) :
    val_main_v35 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      = fun i => Layer.Experts.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (i 0) (i 1) :=
  funext fun i => (congrArg _ (eq_ix2 i)).trans (Cert.Reference2Ideal.Experts.result_eq _ _ _ _ _ _ h (i 0) (i 1))

/-- The value claim: kernel and reference end with equal results. -/
theorem equal_results : Cert.algebraic_Kernel2Ideal_Reference2Ideal := fun m ρ m' ρ' h hag => by
  have hk := Cert.Kernel2Ideal.Experts.entry_lt m h
  refine ⟨fun c => Cert.Kernel2Ideal.Experts.value m c,
    (θ_run Cert.Kernel2Ideal.defs _ _).mono (fun r hr c => ?_) (Cert.Kernel2Ideal.Experts.run m ρ (Cert.Kernel2Ideal.Experts.ok_of_pre m h)),
    (θ_run Cert.Reference2Ideal.defs _ _).mono (fun r hr c => ?_) (Cert.Reference2Ideal.Value.run (F := Ideal) m' ρ')⟩
  · obtain rfl : c = 0 := Subsingleton.elim _ _
    exact ⟨(hr.1 0).1.trans (Cert.Kernel2Ideal.Experts.final m _ hk), (hr.1 0).2⟩
  · obtain rfl : c = 0 := Subsingleton.elim _ _
    refine ⟨((hr 0).1.trans (Cert.Reference2Ideal.Read.val_main_v35_eq _ _ _ _ _ _)).trans ?_, (hr 0).2⟩
    obtain ⟨h0, h1, h2, h3, h4, h5⟩ := hag 0
    refine (reference_result m' 0 (fun t => ?_)).trans ?_
    · rw [h0]; exact hk t
    · rw [h0, h1, h2, h3, h4, h5]; rfl

end Cert.Proof.Experts

end
-- ==== Proof.Products.lean ====
/- What the layer's products have in common: each casts a block of the weights into a scratch buffer at the first of the row
   blocks that use it and reads it back at the others. -/
module

public import Idealize.ShloMosaic.Lib.Pointwise
public import Idealize.ShloMosaic.Lib.KernelVsHost

@[expose] public section

namespace Layer.Products

/-- A state that is set where `P` divides the point, to something related to the quotient, and is kept elsewhere, is at every
    point related to the point's quotient by `P`. -/
theorem kept {α : Type*} {N : ℕ} (P : ℕ) (s : ∀ n, n < N → α) (related : ℕ → α → Prop)
    (set : ∀ n h, n % P = 0 → related (n / P) (s n h))
    (keep : ∀ n h, n % P ≠ 0 → s n h = s (n - 1) (Nat.lt_of_le_of_lt (Nat.sub_le _ _) h)) :
    ∀ n h, related (n / P) (s n h)
  | 0, h => set 0 h (Nat.zero_mod P)
  | n + 1, h => by
    by_cases h0 : (n + 1) % P = 0
    · exact set _ h h0
    · rw [keep _ h h0, Nat.succ_div_of_not_dvd fun hd => h0 (Nat.mod_eq_zero_of_dvd hd)]
      exact kept P s related set keep n _

open Idealize.ShloMosaic

/-- A matrix padded with columns, at an entry. -/
theorem padded_apply {α : Type} {n b p q : ℕ} (x : (⟨2, ![n, b]⟩ : Shape).Idx → α) {u : Shape} (v : u.Idx → α)
    (h : (⟨2, ![n, b]⟩ : Shape).Pads ![0, 0] ![0, q] ![0, 0] (⟨2, ![n, p]⟩ : Shape)) (hu : 0 < u.numel) (r : Fin n) (d : Fin p) :
    pad (⟨2, ![n, p]⟩ : Shape) ![0, 0] ![0, q] ![0, 0] x v h hu (ix2 r d)
      = if hd : d.val < b then x (ix2 r ⟨d.val, hd⟩) else v (Shape.Idx.first hu) := by
  split_ifs with hd
  · exact pad_apply_of_inside _ _ _ x v h hu _ _ fun a => by
      match a with
      | ⟨0, _⟩ => show r.val = 0 + r.val * 1; omega
      | ⟨1, _⟩ => show d.val = 0 + d.val * 1; omega
  · exact pad_apply_of_not_inside _ _ _ x v h hu _ 1 fun hin => hd (by
      have : (d.val - 0) / 1 < b := hin.2.2
      omega)

end Layer.Products

end
-- ==== Proof.QkvValue.lean ====
/- What the projection of the normalised rows to queries, keys and values leaves in its result array: part `j` of the
   columns of the product of the rows and the weights. The weights' block is cast into a scratch buffer at the first row
   block of each part and read from there at the others. -/
module

public import proofs.«01_k».proof.Proof.Gen.Kernel3Ideal.Value
public import proofs.«01_k».proof.Proof.Products
public import Idealize.ShloMosaic.Lib.Pointwise
public import Idealize.ShloMosaic.Lib.Pipeline.ValueKit
public import Idealize.ShloMosaic.PureOps.Ideal.Laws

@[expose] public section

set_option maxRecDepth 16384

noncomputable section

namespace Cert.Kernel3Ideal.Qkv

open Idealize.ShloMosaic Idealize.ShloMosaic.TcCoe
open Cert.Kernel3Ideal Cert.Kernel3Ideal.Gen

variable (m : (ℓ : Loc nD τ sig) → Buf (Elt Ideal) ℓ)

/-- The columns' part and the rows' block that a grid point works on. -/
theorem index_facts : ∀ t : Fin cfg0.N, win0_0.index t 0 = t.val % 32 ∧ win0_0.index t 1 = 0
    ∧ win0_1.index t 0 = 0 ∧ win0_1.index t 1 = t.val / 32
    ∧ win0_2.index t 0 = t.val / 32 ∧ win0_2.index t 1 = t.val % 32 ∧ win0_2.index t 2 = 0 :=
  (by decide +kernel : ∀ t : Fin grid0.N, _)

/-- A block of the product, at an entry. -/
theorem product_apply (x : Vec Ideal S512x2048 .bf16) (w : Vec Ideal S2048x1024 .bf16) (p : Fin 512) (j : Fin 1024) :
    k0_pay2 (F := Ideal) x w (ix3 0 p j) = ∑ k : Fin 2048, x (ix2 p k) * w (ix2 k j) := by
  unfold k0_pay2
  pointwise

/-- Over the reals the cast keeps the weights. -/
theorem cast_apply (w : Vec Ideal S2048x1024 .f32) (k : Fin 2048) (j : Fin 1024) :
    k0_pay1 (F := Ideal) w (ix2 k j) = w (ix2 k j) := by
  unfold k0_pay1
  pointwise

/-- The scratch buffer after every point: the weights' block of the point's part. -/
theorem scratch_eq (c : Dev nD) : ∀ (n : ℕ) (h : n < cfg0.N) (k : Fin 2048) (j : Fin 1024) (hj : n / 32 * 1024 + j.val < 6144),
    (outsAt0 m c n h).2 (ix2 k j) = m ((c : Thread nD τ).loc main_arg1) (ix2 k (⟨n / 32 * 1024 + j.val, hj⟩ : Fin 6144)) :=
  Layer.Products.kept 32 (fun n h => (outsAt0 m c n h).2)
    (fun q w => ∀ (k : Fin 2048) (j : Fin 1024) (hj : q * 1024 + j.val < 6144),
      w (ix2 k j) = m ((c : Thread nD τ).loc main_arg1) (ix2 k (⟨q * 1024 + j.val, hj⟩ : Fin 6144)))
    (fun n h h0 k j hj => by
      obtain ⟨-, -, e0, e1, -⟩ := index_facts ⟨n, h⟩
      rw [outsAt0_A m c ⟨n, h⟩ h0]
      frame_out
      rw [cast_apply]
      blk_ext [iblk, V, e0, e1])
    (fun n h h0 => by
      rw [outsAt0_B m c ⟨n, h⟩ h0]
      rfl)

/-- Part `j` of the columns of the product of rows and weights. -/
def product (x : Vec Ideal S16384x2048 .bf16) (w : Vec Ideal S2048x6144 .f32) (j : Fin 6) (r : Fin 16384) (d : Fin 1024) : EReal :=
  ∑ k : Fin 2048, x (ix2 r k) * w (ix2 k (⟨j.val * 1024 + d.val, by omega⟩ : Fin 6144))

/-- What the result array is shown to hold. -/
def value (c : Dev nD) : Buf (Elt Ideal) ((c : Thread nD τ).loc main_v0) := fun (i : S6x16384x1024.Idx) =>
  product (m ((c : Thread nD τ).loc main_arg0)) (m ((c : Thread nD τ).loc main_arg1)) (i 0) (i 1) (i 2)

/-- The block that a point leaves: the product of its block of rows and what the scratch buffer holds. -/
theorem leaves_eq (c : Dev nD) (t : Fin cfg0.N) :
    (outsAt0 m c t.val t.isLt).1 = k0_pay2 (F := Ideal) (iblk m c 0 t) (outsAt0 m c t.val t.isLt).2 := by
  by_cases h0 : t.val % 32 = 0
  · rw [outsAt0_A m c t h0]
    frame_out
  · rw [outsAt0_B m c t h0]
    frame_out
    exact congrArg _ ((Memref.isWhole_whole _).read_unread _)

/-- The result array at the end of the run. -/
theorem final (c : Dev nD) : (dats m 0 c).arrAt 2 cfg0.N = value m c := by
  refine (dats m 0 c).arrAt_eq_of_covers 2 _ (by decide +kernel) fun t hf (y : S1x512x1024.Idx) => ?_
  blk_simp
  rw [after0_2]
  obtain ⟨q, p, j, rfl⟩ : ∃ (q : Fin 1) (p : Fin 512) (j : Fin 1024), y = ix3 q p j := ⟨y 0, y 1, y 2, eq_ix3 y⟩
  obtain rfl : q = 0 := Subsingleton.elim _ _
  rw [leaves_eq]
  refine (product_apply _ _ p j).trans ?_
  obtain ⟨a0, a1, -, -, e0, e1, e2⟩ := index_facts t
  have hN : t.val < 192 := lt_of_lt_of_eq t.isLt N_0
  unfold value product
  refine Finset.sum_congr (M := EReal) rfl fun k _ => congrArg₂ (fun a b : EReal => a * b) ?_ ?_
  · blk_ext [iblk, V, a0, a1, e1]
  · rw [scratch_eq m c t.val t.isLt k j (by have := j.isLt; omega)]
    blk_ext [e0, e2]

end Cert.Kernel3Ideal.Qkv

end
-- ==== Proof.QkvClaims.lean ====
/- What the reference of the projection to queries, keys and values computes, and the claims about the projection. -/
module

public import proofs.«01_k».proof.Defs
public import proofs.«01_k».proof.Proof.QkvValue
public import proofs.«01_k».proof.Proof.Gen.Reference3Ideal.Run
public import proofs.«01_k».proof.Proof.Gen.Reference3Ideal.Read

@[expose] public section

set_option maxRecDepth 16384

noncomputable section

namespace Cert.Proof.Qkv

open Idealize.ShloMosaic Idealize.SL.Sem Idealize.ShloMosaic.TcCoe

open Cert.Reference3Ideal Cert.Reference3Ideal.Read Cert.Kernel3Ideal.Qkv in
/-- The reference's result, at every entry. -/
theorem reference_result (x : Vec Ideal S16384x2048 .bf16) (w : Vec Ideal S2048x6144 .f32) (i : S6x16384x1024.Idx) :
    val_main_v3 (F := Ideal) x w i = product x w (i 0) (i 1) (i 2) := by
  have h0 : (i 0).val < 6 := (i 0).isLt
  have h1 : (i 1).val < 16384 := (i 1).isLt
  have h2 : (i 2).val < 1024 := (i 2).isLt
  rw [val_main_v3_apply, val_main_v2_apply, val_main_v1_apply]
  unfold product
  refine Finset.sum_congr rfl fun k _ => congrArg₂ (fun a b : EReal => a * b) (congrArg x ?_) (congrArg w ?_)
  · refine funext fun a => Fin.ext ?_
    match a with
    | ⟨0, _⟩ => show (((i 1).val * 6 + (i 0).val) * 1024 + (i 2).val) / 6144 = (i 1).val; omega
    | ⟨1, _⟩ => rfl
  · refine funext fun a => Fin.ext ?_
    match a with
    | ⟨0, _⟩ => rfl
    | ⟨1, _⟩ => show (((i 1).val * 6 + (i 0).val) * 1024 + (i 2).val) % 6144 = (i 0).val * 1024 + (i 2).val; omega

/-- The reference's frame: it is a line of operations, no one of them writing an argument, and has no semaphore. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The value claim: kernel and reference end with equal results. -/
theorem equal_results : Cert.algebraic_Kernel3Ideal_Reference3Ideal := fun m ρ m' ρ' _ hag => by
  refine ⟨fun c => Cert.Kernel3Ideal.Qkv.value m c,
    (θ_run Cert.Kernel3Ideal.defs _ _).mono (fun r hr c => ?_) (Cert.Kernel3Ideal.Value.run_blocks (F := Ideal) m ρ),
    (θ_run Cert.Reference3Ideal.defs _ _).mono (fun r hr c => ?_) (Cert.Reference3Ideal.Value.run (F := Ideal) m' ρ')⟩
  · obtain rfl : c = 0 := Subsingleton.elim _ _
    exact ⟨(hr 0).1.trans (Cert.Kernel3Ideal.Qkv.final m 0), (hr 0).2⟩
  · obtain rfl : c = 0 := Subsingleton.elim _ _
    refine ⟨((hr 0).1.trans (Cert.Reference3Ideal.Read.val_main_v3_eq _ _)).trans ?_, (hr 0).2⟩
    obtain ⟨h0, h1⟩ := hag 0
    rw [h0, h1]
    exact funext fun i => reference_result _ _ i

end Cert.Proof.Qkv

end
-- ==== Proof.OutProjValue.lean ====
/- What the output projection leaves in its result array: the residual plus the gated product of the heads' rows and the
   weights. The weights' block is cast into a scratch buffer at the first row block of each half of the columns and read
   from there at the others. -/
module

public import proofs.«01_k».proof.Proof.Gen.Kernel4Ideal.Value
public import proofs.«01_k».proof.Proof.Products
public import Idealize.ShloMosaic.Lib.Pointwise
public import Idealize.ShloMosaic.Lib.Pipeline.ValueKit
public import Idealize.ShloMosaic.PureOps.Ideal.Laws

@[expose] public section

set_option maxRecDepth 16384

noncomputable section

namespace Cert.Kernel4Ideal.OutProj

open Idealize.ShloMosaic Idealize.ShloMosaic.TcCoe
open Cert.Kernel4Ideal Cert.Kernel4Ideal.Gen

variable (m : (ℓ : Loc nD τ sig) → Buf (Elt Ideal) ℓ)

/-- The rows' block and the columns' half that a grid point works on. -/
theorem index_facts : ∀ t : Fin cfg0.N, (win0_0.index t 0 = t.val % 32 ∧ win0_0.index t 1 = 0)
    ∧ (win0_1.index t 0 = 0 ∧ win0_1.index t 1 = t.val / 32)
    ∧ (win0_2.index t 0 = t.val % 32 ∧ win0_2.index t 1 = 0 ∧ win0_2.index t 2 = t.val / 32)
    ∧ (win0_3.index t 0 = t.val % 32 ∧ win0_3.index t 1 = t.val / 32)
    ∧ win0_4.index t 0 = t.val % 32 ∧ win0_4.index t 1 = t.val / 32 :=
  (by decide +kernel : ∀ t : Fin grid0.N, _)

/-- A block of the result, at an entry: the product, times the gate of the row's group of 64 rows, plus the residual. -/
theorem block_apply (x : Vec Ideal S512x2048 .bf16) (w : Vec Ideal S2048x1024 .bf16) (g : Vec Ideal S8x1x1024 .f32) (y : Vec Ideal S512x1024 .f32)
    (p : Fin 512) (j : Fin 1024) :
    k0_pay2 (F := Ideal) x w g y (ix2 p j)
      = (∑ k : Fin 2048, x (ix2 p k) * w (ix2 k j)) * g (ix3 (⟨p.val / 64, by omega⟩ : Fin 8) 0 j) + y (ix2 p j) := by
  unfold k0_pay2
  pointwise

/-- Over the reals the cast keeps the weights. -/
theorem cast_apply (w : Vec Ideal S2048x1024 .f32) (k : Fin 2048) (j : Fin 1024) :
    k0_pay1 (F := Ideal) w (ix2 k j) = w (ix2 k j) := by
  unfold k0_pay1
  pointwise

/-- The scratch buffer after every point: the weights' block of the point's half. -/
theorem scratch_eq (c : Dev nD) : ∀ (n : ℕ) (h : n < cfg0.N) (k : Fin 2048) (j : Fin 1024) (hj : n / 32 * 1024 + j.val < 2048),
    (outsAt0 m c n h).2 (ix2 k j) = m ((c : Thread nD τ).loc main_arg1) (ix2 k (⟨n / 32 * 1024 + j.val, hj⟩ : Fin 2048)) :=
  Layer.Products.kept 32 (fun n h => (outsAt0 m c n h).2)
    (fun q w => ∀ (k : Fin 2048) (j : Fin 1024) (hj : q * 1024 + j.val < 2048),
      w (ix2 k j) = m ((c : Thread nD τ).loc main_arg1) (ix2 k (⟨q * 1024 + j.val, hj⟩ : Fin 2048)))
    (fun n h h0 k j hj => by
      obtain ⟨-, ⟨e0, e1⟩, -⟩ := index_facts ⟨n, h⟩
      rw [outsAt0_A m c ⟨n, h⟩ h0]
      frame_out
      rw [cast_apply]
      blk_ext [iblk, V, e0, e1])
    (fun n h h0 => by
      rw [outsAt0_B m c ⟨n, h⟩ h0]
      rfl)

/-- The residual plus the gated product of rows and weights; the gate is one for 64 rows. -/
def projected (x : Vec Ideal S16384x2048 .bf16) (w : Vec Ideal S2048x2048 .f32) (g : Vec Ideal S256x1x2048 .f32) (y : Vec Ideal S16384x2048 .f32)
    (r : Fin 16384) (d : Fin 2048) : EReal :=
  (∑ k : Fin 2048, x (ix2 r k) * w (ix2 k d)) * g (ix3 (⟨r.val / 64, by omega⟩ : Fin 256) 0 d) + y (ix2 r d)

/-- What the result array is shown to hold. -/
def value (c : Dev nD) : Buf (Elt Ideal) ((c : Thread nD τ).loc main_v0) := fun (i : S16384x2048.Idx) =>
  projected (m ((c : Thread nD τ).loc main_arg0)) (m ((c : Thread nD τ).loc main_arg1)) (m ((c : Thread nD τ).loc main_arg2))
    (m ((c : Thread nD τ).loc main_arg3)) (i 0) (i 1)

/-- The block that a point leaves, from its blocks of the arguments and what the scratch buffer holds. -/
theorem leaves_eq (c : Dev nD) (t : Fin cfg0.N) :
    (outsAt0 m c t.val t.isLt).1
      = k0_pay2 (F := Ideal) (iblk m c 0 t) (outsAt0 m c t.val t.isLt).2 (iblk m c 2 t) (iblk m c 3 t) := by
  by_cases h0 : t.val % 32 = 0
  · rw [outsAt0_A m c t h0]
    frame_out
  · rw [outsAt0_B m c t h0]
    frame_out
    exact congrArg (fun w => k0_pay2 (F := Ideal) (iblk m c 0 t) w (iblk m c 2 t) (iblk m c 3 t)) ((Memref.isWhole_whole _).read_unread _)

/-- The result array at the end of the run. -/
theorem final (c : Dev nD) : (dats m 0 c).arrAt 4 cfg0.N = value m c := by
  refine (dats m 0 c).arrAt_eq_of_covers 4 _ (by decide +kernel) fun t hf (y : S512x1024.Idx) => ?_
  blk_simp
  rw [after0_4]
  obtain ⟨p, j, rfl⟩ : ∃ (p : Fin 512) (j : Fin 1024), y = ix2 p j := ⟨y 0, y 1, eq_ix2 y⟩
  rw [leaves_eq]
  refine (block_apply _ _ _ _ p j).trans ?_
  obtain ⟨⟨a0, a1⟩, -, ⟨b0, b1, b2⟩, ⟨d0, d1⟩, e0, e1⟩ := index_facts t
  have hN : t.val < 64 := lt_of_lt_of_eq t.isLt N_0
  unfold value projected
  refine congrArg₂ (fun a b : EReal => a + b) (congrArg₂ (fun a b : EReal => a * b) (Finset.sum_congr (M := EReal) rfl fun k _ =>
    congrArg₂ (fun a b : EReal => a * b) ?_ ?_) ?_) ?_
  · blk_ext [iblk, V, a0, a1, e0]
  · rw [scratch_eq m c t.val t.isLt k j (by have := j.isLt; omega)]
    blk_ext [e1]
  · blk_ext [iblk, V, b0, b1, b2, e0, e1]
  · blk_ext [iblk, V, d0, d1, e0, e1]

end Cert.Kernel4Ideal.OutProj

end
-- ==== Proof.OutProjClaims.lean ====
/- What the reference of the output projection computes, and the claims about the projection. -/
module

public import proofs.«01_k».proof.Defs
public import proofs.«01_k».proof.Proof.OutProjValue
public import proofs.«01_k».proof.Proof.Gen.Reference4Ideal.Run
public import proofs.«01_k».proof.Proof.Gen.Reference4Ideal.Read

@[expose] public section

set_option maxRecDepth 16384

noncomputable section

namespace Cert.Proof.OutProj

open Idealize.ShloMosaic Idealize.SL.Sem Idealize.ShloMosaic.TcCoe

open Cert.Reference4Ideal Cert.Reference4Ideal.Read Cert.Kernel4Ideal.OutProj in
/-- The reference's result, at every entry. -/
theorem reference_result (x : Vec Ideal S16384x2048 .bf16) (w : Vec Ideal S2048x2048 .f32) (g : Vec Ideal S256x1x2048 .f32)
    (y : Vec Ideal S16384x2048 .f32) (i : S16384x2048.Idx) :
    val_main_v6 (F := Ideal) x w g y i = projected x w g y (i 0) (i 1) := by
  have h0 : (i 0).val < 16384 := (i 0).isLt
  have h1 : (i 1).val < 2048 := (i 1).isLt
  rw [val_main_v6_apply, val_main_v5_apply, val_main_v4_apply, val_main_v3_apply, val_main_v2_apply, val_main_v1_apply]
  show (y i : EReal) + (_ : EReal) * (_ : EReal) = projected x w g y (i 0) (i 1)
  rw [add_comm, mul_comm]
  unfold projected
  refine congrArg₂ (fun a b : EReal => a + b) (congrArg₂ (fun a b : EReal => a * b) (Finset.sum_congr (M := EReal) rfl fun k _ =>
    congrArg₂ (fun a b : EReal => a * b) (congrArg x ?_) (congrArg w ?_)) (congrArg g ?_)) (congrArg y (eq_ix2 i))
  · exact funext fun a => by match a with | ⟨0, _⟩ => rfl | ⟨1, _⟩ => rfl
  · exact funext fun a => by match a with | ⟨0, _⟩ => rfl | ⟨1, _⟩ => rfl
  · refine funext fun a => Fin.ext ?_
    match a with
    | ⟨0, _⟩ => show ((((i 0).val * 2048 + (i 1).val) / 131072) * 2048 + ((i 0).val * 2048 + (i 1).val) % 2048) / 2048 = (i 0).val / 64; omega
    | ⟨1, _⟩ => rfl
    | ⟨2, _⟩ => show ((((i 0).val * 2048 + (i 1).val) / 131072) * 2048 + ((i 0).val * 2048 + (i 1).val) % 2048) % 2048 = (i 1).val; omega

/-- The reference's frame: it is a line of operations, no one of them writing an argument, and has no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The value claim: kernel and reference end with equal results. -/
theorem equal_results : Cert.algebraic_Kernel4Ideal_Reference4Ideal := fun m ρ m' ρ' _ hag => by
  refine ⟨fun c => Cert.Kernel4Ideal.OutProj.value m c,
    (θ_run Cert.Kernel4Ideal.defs _ _).mono (fun r hr c => ?_) (Cert.Kernel4Ideal.Value.run_blocks (F := Ideal) m ρ),
    (θ_run Cert.Reference4Ideal.defs _ _).mono (fun r hr c => ?_) (Cert.Reference4Ideal.Value.run (F := Ideal) m' ρ')⟩
  · obtain rfl : c = 0 := Subsingleton.elim _ _
    exact ⟨(hr 0).1.trans (Cert.Kernel4Ideal.OutProj.final m 0), (hr 0).2⟩
  · obtain rfl : c = 0 := Subsingleton.elim _ _
    refine ⟨((hr 0).1.trans (Cert.Reference4Ideal.Read.val_main_v6_eq _ _ _ _)).trans ?_, (hr 0).2⟩
    obtain ⟨h0, h1, h2, h3⟩ := hag 0
    rw [h0, h1, h2, h3]
    exact funext fun i => reference_result _ _ _ _ i

end Cert.Proof.OutProj

end
-- ==== Proof.QueryUpValue.lean ====
/- What the projection of the compressed queries leaves in its result array: the product of the rows and the weights. The
   weights' block is cast into a scratch buffer at the first row block of each half of the columns and read from there at
   the others. -/
module

public import proofs.«01_k».proof.Proof.Gen.Kernel5Ideal.Value
public import proofs.«01_k».proof.Proof.Products
public import Idealize.ShloMosaic.Lib.Pointwise
public import Idealize.ShloMosaic.Lib.Pipeline.ValueKit
public import Idealize.ShloMosaic.PureOps.Ideal.Laws

@[expose] public section

set_option maxRecDepth 16384

noncomputable section

namespace Cert.Kernel5Ideal.QueryUp

open Idealize.ShloMosaic Idealize.ShloMosaic.TcCoe
open Cert.Kernel5Ideal Cert.Kernel5Ideal.Gen

variable (m : (ℓ : Loc nD τ sig) → Buf (Elt Ideal) ℓ)

/-- The rows' block and the columns' half that a grid point works on. -/
theorem index_facts : ∀ t : Fin cfg0.N, (win0_0.index t 0 = t.val % 32 ∧ win0_0.index t 1 = 0)
    ∧ (win0_1.index t 0 = 0 ∧ win0_1.index t 1 = t.val / 32)
    ∧ win0_2.index t 0 = t.val % 32 ∧ win0_2.index t 1 = t.val / 32 :=
  (by decide +kernel : ∀ t : Fin grid0.N, _)

/-- A block of the product, at an entry. -/
theorem product_apply (x : Vec Ideal S512x512 .bf16) (w : Vec Ideal S512x1024 .bf16) (p : Fin 512) (j : Fin 1024) :
    k0_pay2 (F := Ideal) x w (ix2 p j) = ∑ k : Fin 512, x (ix2 p k) * w (ix2 k j) := by
  unfold k0_pay2
  pointwise

/-- Over the reals the cast keeps the weights. -/
theorem cast_apply (w : Vec Ideal S512x1024 .f32) (k : Fin 512) (j : Fin 1024) :
    k0_pay1 (F := Ideal) w (ix2 k j) = w (ix2 k j) := by
  unfold k0_pay1
  pointwise

/-- The scratch buffer after every point: the weights' block of the point's half. -/
theorem scratch_eq (c : Dev nD) : ∀ (n : ℕ) (h : n < cfg0.N) (k : Fin 512) (j : Fin 1024) (hj : n / 32 * 1024 + j.val < 2048),
    (outsAt0 m c n h).2 (ix2 k j) = m ((c : Thread nD τ).loc main_arg1) (ix2 k (⟨n / 32 * 1024 + j.val, hj⟩ : Fin 2048)) :=
  Layer.Products.kept 32 (fun n h => (outsAt0 m c n h).2)
    (fun q w => ∀ (k : Fin 512) (j : Fin 1024) (hj : q * 1024 + j.val < 2048),
      w (ix2 k j) = m ((c : Thread nD τ).loc main_arg1) (ix2 k (⟨q * 1024 + j.val, hj⟩ : Fin 2048)))
    (fun n h h0 k j hj => by
      obtain ⟨-, ⟨e0, e1⟩, -⟩ := index_facts ⟨n, h⟩
      rw [outsAt0_A m c ⟨n, h⟩ h0]
      frame_out
      rw [cast_apply]
      blk_ext [iblk, V, e0, e1])
    (fun n h h0 => by
      rw [outsAt0_B m c ⟨n, h⟩ h0]
      rfl)

/-- The product of rows and weights. -/
def product (x : Vec Ideal S16384x512 .bf16) (w : Vec Ideal S512x2048 .f32) (r : Fin 16384) (d : Fin 2048) : EReal :=
  ∑ k : Fin 512, x (ix2 r k) * w (ix2 k d)

/-- What the result array is shown to hold. -/
def value (c : Dev nD) : Buf (Elt Ideal) ((c : Thread nD τ).loc main_v0) := fun (i : S16384x2048.Idx) =>
  product (m ((c : Thread nD τ).loc main_arg0)) (m ((c : Thread nD τ).loc main_arg1)) (i 0) (i 1)

/-- The block that a point leaves: the product of its block of rows and what the scratch buffer holds. -/
theorem leaves_eq (c : Dev nD) (t : Fin cfg0.N) :
    (outsAt0 m c t.val t.isLt).1 = k0_pay2 (F := Ideal) (iblk m c 0 t) (outsAt0 m c t.val t.isLt).2 := by
  by_cases h0 : t.val % 32 = 0
  · rw [outsAt0_A m c t h0]
    frame_out
  · rw [outsAt0_B m c t h0]
    frame_out
    exact congrArg _ ((Memref.isWhole_whole _).read_unread _)

/-- The result array at the end of the run. -/
theorem final (c : Dev nD) : (dats m 0 c).arrAt 2 cfg0.N = value m c := by
  refine (dats m 0 c).arrAt_eq_of_covers 2 _ (by decide +kernel) fun t hf (y : S512x1024.Idx) => ?_
  blk_simp
  rw [after0_2]
  obtain ⟨p, j, rfl⟩ : ∃ (p : Fin 512) (j : Fin 1024), y = ix2 p j := ⟨y 0, y 1, eq_ix2 y⟩
  rw [leaves_eq]
  refine (product_apply _ _ p j).trans ?_
  obtain ⟨⟨a0, a1⟩, -, e0, e1⟩ := index_facts t
  have hN : t.val < 64 := lt_of_lt_of_eq t.isLt N_0
  unfold value product
  refine Finset.sum_congr (M := EReal) rfl fun k _ => congrArg₂ (fun a b : EReal => a * b) ?_ ?_
  · blk_ext [iblk, V, a0, a1, e0]
  · rw [scratch_eq m c t.val t.isLt k j (by have := j.isLt; omega)]
    blk_ext [e1]

end Cert.Kernel5Ideal.QueryUp

end
-- ==== Proof.QueryUpClaims.lean ====
/- What the reference of the projection of the compressed queries computes, and the claims about the projection. -/
module

public import proofs.«01_k».proof.Defs
public import proofs.«01_k».proof.Proof.QueryUpValue
public import proofs.«01_k».proof.Proof.Gen.Reference5Ideal.Run
public import proofs.«01_k».proof.Proof.Gen.Reference5Ideal.Read

@[expose] public section

set_option maxRecDepth 16384

noncomputable section

namespace Cert.Proof.QueryUp

open Idealize.ShloMosaic Idealize.SL.Sem Idealize.ShloMosaic.TcCoe

open Cert.Reference5Ideal Cert.Reference5Ideal.Read Cert.Kernel5Ideal.QueryUp in
/-- The reference's result, at every entry. -/
theorem reference_result (x : Vec Ideal S16384x512 .bf16) (w : Vec Ideal S512x2048 .f32) (i : S16384x2048.Idx) :
    val_main_v2 (F := Ideal) x w i = product x w (i 0) (i 1) := by
  rw [val_main_v2_apply, val_main_v1_apply]
  unfold product
  refine Finset.sum_congr (M := EReal) rfl fun k _ => congrArg₂ (fun a b : EReal => a * b) (congrArg x ?_) (congrArg w ?_)
  · exact funext fun a => by match a with | ⟨0, _⟩ => rfl | ⟨1, _⟩ => rfl
  · exact funext fun a => by match a with | ⟨0, _⟩ => rfl | ⟨1, _⟩ => rfl

/-- The reference's frame: it is a line of operations, no one of them writing an argument, and has no semaphore. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The value claim: kernel and reference end with equal results. -/
theorem equal_results : Cert.algebraic_Kernel5Ideal_Reference5Ideal := fun m ρ m' ρ' _ hag => by
  refine ⟨fun c => Cert.Kernel5Ideal.QueryUp.value m c,
    (θ_run Cert.Kernel5Ideal.defs _ _).mono (fun r hr c => ?_) (Cert.Kernel5Ideal.Value.run_blocks (F := Ideal) m ρ),
    (θ_run Cert.Reference5Ideal.defs _ _).mono (fun r hr c => ?_) (Cert.Reference5Ideal.Value.run (F := Ideal) m' ρ')⟩
  · obtain rfl : c = 0 := Subsingleton.elim _ _
    exact ⟨(hr 0).1.trans (Cert.Kernel5Ideal.QueryUp.final m 0), (hr 0).2⟩
  · obtain rfl : c = 0 := Subsingleton.elim _ _
    refine ⟨((hr 0).1.trans (Cert.Reference5Ideal.Read.val_main_v2_eq _ _)).trans ?_, (hr 0).2⟩
    obtain ⟨h0, h1⟩ := hag 0
    rw [h0, h1]
    exact funext fun i => reference_result _ _ i

end Cert.Proof.QueryUp

end
-- ==== Proof.AbsorbValue.lean ====
/- What the projection of each head's queries to the latent space leaves in its result array: the product of the head's
   columns of the queries and the head's weights. The head's weights are cast into a scratch buffer at the head's first
   row block and read from there at the others. -/
module

public import proofs.«01_k».proof.Proof.Gen.Kernel6Ideal.Value
public import proofs.«01_k».proof.Proof.Products
public import Idealize.ShloMosaic.Lib.Pointwise
public import Idealize.ShloMosaic.Lib.Pipeline.ValueKit
public import Idealize.ShloMosaic.PureOps.Ideal.Laws

@[expose] public section

set_option maxRecDepth 16384

noncomputable section

namespace Cert.Kernel6Ideal.Absorb

open Idealize.ShloMosaic Idealize.ShloMosaic.TcCoe
open Cert.Kernel6Ideal Cert.Kernel6Ideal.Gen

variable (m : (ℓ : Loc nD τ sig) → Buf (Elt Ideal) ℓ)

/-- The head and the rows' block that a grid point works on. -/
theorem index_facts : ∀ t : Fin cfg0.N, (win0_0.index t 0 = t.val % 8 ∧ win0_0.index t 1 = t.val / 8)
    ∧ (win0_1.index t 0 = t.val / 8 ∧ win0_1.index t 1 = 0 ∧ win0_1.index t 2 = 0)
    ∧ win0_2.index t 0 = t.val / 8 ∧ win0_2.index t 1 = t.val % 8 ∧ win0_2.index t 2 = 0 :=
  (by decide +kernel : ∀ t : Fin grid0.N, _)

/-- A block of the product, at an entry. -/
theorem product_apply (x : Vec Ideal S2048x128 .bf16) (w : Vec Ideal S128x512 .bf16) (p : Fin 2048) (j : Fin 512) :
    k0_pay2 (F := Ideal) x w (ix3 0 p j) = ∑ k : Fin 128, x (ix2 p k) * w (ix2 k j) := by
  unfold k0_pay2
  pointwise

/-- Over the reals the cast keeps a head's weights. -/
theorem cast_apply (w : Vec Ideal S1x128x512 .f32) (k : Fin 128) (j : Fin 512) :
    k0_pay1 (F := Ideal) w (ix2 k j) = w (ix3 0 k j) := by
  unfold k0_pay1
  pointwise

/-- The weights that the kernel is given: each head's, transposed. -/
theorem weights_apply (c : Dev nD) (h : Fin 16) (k : Fin 128) (j : Fin 512) :
    V m c main_v0 (ix3 h k j) = m ((c : Thread nD τ).loc main_arg1) (ix3 j h k) := by
  entry_read
  pointwise

/-- The scratch buffer after every point: the weights of the point's head. -/
theorem scratch_eq (c : Dev nD) : ∀ (n : ℕ) (h : n < cfg0.N) (k : Fin 128) (j : Fin 512) (hq : n / 8 < 16),
    (outsAt0 m c n h).2 (ix2 k j) = m ((c : Thread nD τ).loc main_arg1) (ix3 j (⟨n / 8, hq⟩ : Fin 16) k) :=
  Layer.Products.kept 8 (fun n h => (outsAt0 m c n h).2)
    (fun q w => ∀ (k : Fin 128) (j : Fin 512) (hq : q < 16),
      w (ix2 k j) = m ((c : Thread nD τ).loc main_arg1) (ix3 j (⟨q, hq⟩ : Fin 16) k))
    (fun n h h0 k j hq => by
      obtain ⟨-, ⟨e0, e1, e2⟩, -⟩ := index_facts ⟨n, h⟩
      rw [outsAt0_A m c ⟨n, h⟩ h0]
      frame_out
      rw [cast_apply]
      refine Eq.trans ?_ (weights_apply m c ⟨n / 8, hq⟩ k j)
      blk_ext [iblk, e0, e1, e2])
    (fun n h h0 => by
      rw [outsAt0_B m c ⟨n, h⟩ h0]
      rfl)

/-- Head `h`'s queries times the head's weights. -/
def product (x : Vec Ideal S16384x2048 .bf16) (w : Vec Ideal S512x16x128 .f32) (h : Fin 16) (r : Fin 16384) (d : Fin 512) : EReal :=
  ∑ k : Fin 128, x (ix2 r (⟨h.val * 128 + k.val, by omega⟩ : Fin 2048)) * w (ix3 d h k)

/-- What the result array is shown to hold. -/
def value (c : Dev nD) : Buf (Elt Ideal) ((c : Thread nD τ).loc main_v1) := fun (i : S16x16384x512.Idx) =>
  product (m ((c : Thread nD τ).loc main_arg0)) (m ((c : Thread nD τ).loc main_arg1)) (i 0) (i 1) (i 2)

/-- The block that a point leaves: the product of its block of rows and what the scratch buffer holds. -/
theorem leaves_eq (c : Dev nD) (t : Fin cfg0.N) :
    (outsAt0 m c t.val t.isLt).1 = k0_pay2 (F := Ideal) (iblk m c 0 t) (outsAt0 m c t.val t.isLt).2 := by
  by_cases h0 : t.val % 8 = 0
  · rw [outsAt0_A m c t h0]
    frame_out
  · rw [outsAt0_B m c t h0]
    frame_out
    exact congrArg _ ((Memref.isWhole_whole _).read_unread _)

/-- The result array at the end of the run. -/
theorem final (c : Dev nD) : (dats m 0 c).arrAt 2 cfg0.N = value m c := by
  refine (dats m 0 c).arrAt_eq_of_covers 2 _ (by decide +kernel) fun t hf (y : S1x2048x512.Idx) => ?_
  blk_simp
  rw [after0_2]
  obtain ⟨q, p, j, rfl⟩ : ∃ (q : Fin 1) (p : Fin 2048) (j : Fin 512), y = ix3 q p j := ⟨y 0, y 1, y 2, eq_ix3 y⟩
  obtain rfl : q = 0 := Subsingleton.elim _ _
  rw [leaves_eq]
  refine (product_apply _ _ p j).trans ?_
  obtain ⟨⟨a0, a1⟩, -, e0, e1, e2⟩ := index_facts t
  have hN : t.val < 128 := lt_of_lt_of_eq t.isLt N_0
  unfold value product
  refine Finset.sum_congr (M := EReal) rfl fun k _ => congrArg₂ (fun a b : EReal => a * b) ?_ ?_
  · blk_ext [iblk, V, a0, a1, e0, e1]
  · rw [scratch_eq m c t.val t.isLt k j (by omega)]
    blk_ext [e0, e2]

end Cert.Kernel6Ideal.Absorb

end
-- ==== Proof.AbsorbClaims.lean ====
/- What the reference of the projection of each head's queries to the latent space computes, and the claims about the
   projection. -/
module

public import proofs.«01_k».proof.Defs
public import proofs.«01_k».proof.Proof.AbsorbValue
public import proofs.«01_k».proof.Proof.Gen.Reference6Ideal.Run
public import proofs.«01_k».proof.Proof.Gen.Reference6Ideal.Read

@[expose] public section

set_option maxRecDepth 16384

noncomputable section

namespace Cert.Proof.Absorb

open Idealize.ShloMosaic Idealize.SL.Sem Idealize.ShloMosaic.TcCoe

open Cert.Reference6Ideal Cert.Reference6Ideal.Read Cert.Kernel6Ideal.Absorb in
/-- The reference's result, at every entry. -/
theorem reference_result (x : Vec Ideal S16384x2048 .bf16) (w : Vec Ideal S512x16x128 .f32) (i : S16x16384x512.Idx) :
    val_main_v3 (F := Ideal) x w i = product x w (i 0) (i 1) (i 2) := by
  have h0 : (i 0).val < 16 := (i 0).isLt
  have h1 : (i 1).val < 16384 := (i 1).isLt
  rw [val_main_v3_apply, val_main_v2_apply]
  unfold product
  refine Finset.sum_congr (M := EReal) rfl fun k _ => ?_
  rw [val_main_v1_apply]
  have hk := k.isLt
  refine congrArg₂ (fun a b : EReal => a * b) (congrArg x ?_) (congrArg w ?_)
  · refine funext fun a => Fin.ext ?_
    match a with
    | ⟨0, _⟩ => show (((i 1).val * 16 + (i 0).val) * 128 + k.val) / 2048 = (i 1).val; omega
    | ⟨1, _⟩ => show (((i 1).val * 16 + (i 0).val) * 128 + k.val) % 2048 = (i 0).val * 128 + k.val; omega
  · exact funext fun a => by match a with | ⟨0, _⟩ => rfl | ⟨1, _⟩ => rfl | ⟨2, _⟩ => rfl

/-- The reference's frame: it is a line of operations, no one of them writing an argument, and has no semaphore. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The value claim: kernel and reference end with equal results. -/
theorem equal_results : Cert.algebraic_Kernel6Ideal_Reference6Ideal := fun m ρ m' ρ' _ hag => by
  refine ⟨fun c => Cert.Kernel6Ideal.Absorb.value m c,
    (θ_run Cert.Kernel6Ideal.defs _ _).mono (fun r hr c => ?_) (Cert.Kernel6Ideal.Value.run_blocks (F := Ideal) m ρ),
    (θ_run Cert.Reference6Ideal.defs _ _).mono (fun r hr c => ?_) (Cert.Reference6Ideal.Value.run (F := Ideal) m' ρ')⟩
  · obtain rfl : c = 0 := Subsingleton.elim _ _
    exact ⟨(hr 0).1.trans (Cert.Kernel6Ideal.Absorb.final m 0), (hr 0).2⟩
  · obtain rfl : c = 0 := Subsingleton.elim _ _
    refine ⟨((hr 0).1.trans (Cert.Reference6Ideal.Read.val_main_v3_eq _ _)).trans ?_, (hr 0).2⟩
    obtain ⟨h0, h1⟩ := hag 0
    rw [h0, h1]
    exact funext fun i => reference_result _ _ i

end Cert.Proof.Absorb

end
-- ==== Proof.ExpandValue.lean ====
/- What the projection of each head's latent outputs to values leaves in its result array: for every head, the product of its
   rows and its weights, in the head's columns. The head's weights are cast into a scratch buffer at the head's first row
   block and read from there at the others. -/
module

public import proofs.«01_k».proof.Proof.Gen.Kernel7Ideal.Value
public import proofs.«01_k».proof.Proof.Products
public import Idealize.ShloMosaic.Lib.Pointwise
public import Idealize.ShloMosaic.Lib.Pipeline.ValueKit
public import Idealize.ShloMosaic.PureOps.Ideal.Laws

@[expose] public section

set_option maxRecDepth 16384

noncomputable section

namespace Cert.Kernel7Ideal.Expand

open Idealize.ShloMosaic Idealize.ShloMosaic.TcCoe
open Cert.Kernel7Ideal Cert.Kernel7Ideal.Gen

variable (m : (ℓ : Loc nD τ sig) → Buf (Elt Ideal) ℓ)

/-- The head and the rows' block that a grid point works on. -/
theorem index_facts : ∀ t : Fin cfg0.N, (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ win0_2.index t 0 = t.val % 8 ∧ win0_2.index t 1 = t.val / 8 :=
  (by decide +kernel : ∀ t : Fin grid0.N, _)

/-- A block of the product, at an entry. -/
theorem product_apply (x : Vec Ideal S1x2048x512 .bf16) (w : Vec Ideal S512x128 .bf16) (p : Fin 2048) (j : Fin 128) :
    k0_pay2 (F := Ideal) x w (ix2 p j) = ∑ k : Fin 512, x (ix3 0 p k) * w (ix2 k j) := by
  unfold k0_pay2
  pointwise

/-- Over the reals the cast keeps a head's weights. -/
theorem cast_apply (w : Vec Ideal S1x512x128 .f32) (k : Fin 512) (j : Fin 128) :
    k0_pay1 (F := Ideal) w (ix2 k j) = w (ix3 0 k j) := by
  unfold k0_pay1
  pointwise

/-- The weights that the kernel is given: one head's after the other's. -/
theorem weights_apply (c : Dev nD) (h : Fin 16) (k : Fin 512) (j : Fin 128) :
    V m c main_v0 (ix3 h k j) = m ((c : Thread nD τ).loc main_arg1) (ix3 k h j) := by
  entry_read
  pointwise

/-- The scratch buffer after every point: the weights of the point's head. -/
theorem scratch_eq (c : Dev nD) : ∀ (n : ℕ) (h : n < cfg0.N) (k : Fin 512) (j : Fin 128) (hq : n / 8 < 16),
    (outsAt0 m c n h).2 (ix2 k j) = m ((c : Thread nD τ).loc main_arg1) (ix3 k (⟨n / 8, hq⟩ : Fin 16) j) :=
  Layer.Products.kept 8 (fun n h => (outsAt0 m c n h).2)
    (fun q w => ∀ (k : Fin 512) (j : Fin 128) (hq : q < 16),
      w (ix2 k j) = m ((c : Thread nD τ).loc main_arg1) (ix3 k (⟨q, hq⟩ : Fin 16) j))
    (fun n h h0 k j hq => by
      obtain ⟨-, ⟨e0, e1, e2⟩, -⟩ := index_facts ⟨n, h⟩
      rw [outsAt0_A m c ⟨n, h⟩ h0]
      frame_out
      rw [cast_apply]
      refine Eq.trans ?_ (weights_apply m c ⟨n / 8, hq⟩ k j)
      blk_ext [iblk, e0, e1, e2])
    (fun n h h0 => by
      rw [outsAt0_B m c ⟨n, h⟩ h0]
      rfl)

/-- The heads' latent outputs times the heads' weights; 128 columns are one head's. -/
def product (x : Vec Ideal S16x16384x512 .bf16) (w : Vec Ideal S512x16x128 .f32) (r : Fin 16384) (d : Fin 2048) : EReal :=
  ∑ k : Fin 512, x (ix3 (⟨d.val / 128, by omega⟩ : Fin 16) r k)
    * w (ix3 k (⟨d.val / 128, by omega⟩ : Fin 16) (⟨d.val % 128, by omega⟩ : Fin 128))

/-- What the result array is shown to hold. -/
def value (c : Dev nD) : Buf (Elt Ideal) ((c : Thread nD τ).loc main_v1) := fun (i : S16384x2048.Idx) =>
  product (m ((c : Thread nD τ).loc main_arg0)) (m ((c : Thread nD τ).loc main_arg1)) (i 0) (i 1)

/-- The block that a point leaves: the product of its block of rows and what the scratch buffer holds. -/
theorem leaves_eq (c : Dev nD) (t : Fin cfg0.N) :
    (outsAt0 m c t.val t.isLt).1 = k0_pay2 (F := Ideal) (iblk m c 0 t) (outsAt0 m c t.val t.isLt).2 := by
  by_cases h0 : t.val % 8 = 0
  · rw [outsAt0_A m c t h0]
    frame_out
  · rw [outsAt0_B m c t h0]
    frame_out
    exact congrArg _ ((Memref.isWhole_whole _).read_unread _)

/-- The result array at the end of the run. -/
theorem final (c : Dev nD) : (dats m 0 c).arrAt 2 cfg0.N = value m c := by
  refine (dats m 0 c).arrAt_eq_of_covers 2 _ (by decide +kernel) fun t hf (y : S2048x128.Idx) => ?_
  blk_simp
  rw [after0_2]
  obtain ⟨p, j, rfl⟩ : ∃ (p : Fin 2048) (j : Fin 128), y = ix2 p j := ⟨y 0, y 1, eq_ix2 y⟩
  rw [leaves_eq]
  refine (product_apply _ _ p j).trans ?_
  obtain ⟨⟨a0, a1, a2⟩, -, e0, e1⟩ := index_facts t
  have hN : t.val < 128 := lt_of_lt_of_eq t.isLt N_0
  unfold value product
  refine Finset.sum_congr (M := EReal) rfl fun k _ => congrArg₂ (fun a b : EReal => a * b) ?_ ?_
  · blk_ext [iblk, V, a0, a1, a2, e0, e1]
  · rw [scratch_eq m c t.val t.isLt k j (by omega)]
    blk_ext [e1]

end Cert.Kernel7Ideal.Expand

end
-- ==== Proof.ExpandClaims.lean ====
/- What the reference of the projection of each head's latent outputs to values computes, and the claims about the
   projection. -/
module

public import proofs.«01_k».proof.Defs
public import proofs.«01_k».proof.Proof.ExpandValue
public import proofs.«01_k».proof.Proof.Gen.Reference7Ideal.Run
public import proofs.«01_k».proof.Proof.Gen.Reference7Ideal.Read

@[expose] public section

set_option maxRecDepth 16384

noncomputable section

namespace Cert.Proof.Expand

open Idealize.ShloMosaic Idealize.SL.Sem Idealize.ShloMosaic.TcCoe

open Cert.Reference7Ideal Cert.Reference7Ideal.Read Cert.Kernel7Ideal.Expand in
/-- The reference's result, at every entry. -/
theorem reference_result (x : Vec Ideal S16x16384x512 .bf16) (w : Vec Ideal S512x16x128 .f32) (i : S16384x2048.Idx) :
    val_main_v4 (F := Ideal) x w i = product x w (i 0) (i 1) := by
  have h0 : (i 0).val < 16384 := (i 0).isLt
  have h1 : (i 1).val < 2048 := (i 1).isLt
  rw [val_main_v4_apply, val_main_v3_apply, val_main_v2_apply, val_main_v1_apply]
  unfold product
  refine Finset.sum_congr (M := EReal) rfl fun k _ => ?_
  rw [mul_comm]
  refine congrArg₂ (fun a b : EReal => a * b) (congrArg x ?_) (congrArg w ?_)
  · refine funext fun a => Fin.ext ?_
    match a with
    | ⟨0, _⟩ => show ((i 0).val * 2048 + (i 1).val) / 128 % 16 = (i 1).val / 128; omega
    | ⟨1, _⟩ => show ((i 0).val * 2048 + (i 1).val) / 2048 = (i 0).val; omega
    | ⟨2, _⟩ => rfl
  · refine funext fun a => Fin.ext ?_
    match a with
    | ⟨0, _⟩ => rfl
    | ⟨1, _⟩ => show ((i 0).val * 2048 + (i 1).val) / 128 % 16 = (i 1).val / 128; omega
    | ⟨2, _⟩ => show ((i 0).val * 2048 + (i 1).val) % 128 = (i 1).val % 128; omega

/-- The reference's frame: it is a line of operations, no one of them writing an argument, and has no semaphore. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The value claim: kernel and reference end with equal results. -/
theorem equal_results : Cert.algebraic_Kernel7Ideal_Reference7Ideal := fun m ρ m' ρ' _ hag => by
  refine ⟨fun c => Cert.Kernel7Ideal.Expand.value m c,
    (θ_run Cert.Kernel7Ideal.defs _ _).mono (fun r hr c => ?_) (Cert.Kernel7Ideal.Value.run_blocks (F := Ideal) m ρ),
    (θ_run Cert.Reference7Ideal.defs _ _).mono (fun r hr c => ?_) (Cert.Reference7Ideal.Value.run (F := Ideal) m' ρ')⟩
  · obtain rfl : c = 0 := Subsingleton.elim _ _
    exact ⟨(hr 0).1.trans (Cert.Kernel7Ideal.Expand.final m 0), (hr 0).2⟩
  · obtain rfl : c = 0 := Subsingleton.elim _ _
    refine ⟨((hr 0).1.trans (Cert.Reference7Ideal.Read.val_main_v4_eq _ _)).trans ?_, (hr 0).2⟩
    obtain ⟨h0, h1⟩ := hag 0
    rw [h0, h1]
    exact funext fun i => reference_result _ _ i

end Cert.Proof.Expand

end
-- ==== Proof.SparseInValue.lean ====
/- What the projection of the normalised rows to the sparse layer's compressed queries, keys and weights leaves in its result
   array: the product of the rows and the weights, padded with columns of zeros. The padded weights are cast into a
   scratch buffer at the first row block and read from there at the others. -/
module

public import proofs.«01_k».proof.Proof.Gen.Kernel8Ideal.Value
public import proofs.«01_k».proof.Proof.Products
public import Idealize.ShloMosaic.Lib.Pointwise
public import Idealize.ShloMosaic.Lib.Pipeline.ValueKit
public import Idealize.ShloMosaic.PureOps.Ideal.Laws

@[expose] public section

set_option maxRecDepth 16384

noncomputable section

namespace Cert.Kernel8Ideal.SparseIn

open Idealize.ShloMosaic Idealize.ShloMosaic.TcCoe
open Cert.Kernel8Ideal Cert.Kernel8Ideal.Gen

variable (m : (ℓ : Loc nD τ sig) → Buf (Elt Ideal) ℓ)

/-- The rows' block that a grid point works on. -/
theorem index_facts : ∀ t : Fin cfg0.N, (win0_0.index t 0 = t.val ∧ win0_0.index t 1 = 0)
    ∧ (win0_1.index t 0 = 0 ∧ win0_1.index t 1 = 0)
    ∧ win0_2.index t 0 = t.val ∧ win0_2.index t 1 = 0 :=
  (by decide +kernel : ∀ t : Fin grid0.N, _)

/-- A block of the product, at an entry. -/
theorem product_apply (x : Vec Ideal S512x2048 .bf16) (w : Vec Ideal S2048x1280 .bf16) (p : Fin 512) (j : Fin 1280) :
    k0_pay2 (F := Ideal) x w (ix2 p j) = ∑ k : Fin 2048, x (ix2 p k) * w (ix2 k j) := by
  unfold k0_pay2
  pointwise

/-- Over the reals the cast keeps the weights. -/
theorem cast_apply (w : Vec Ideal S2048x1280 .f32) (k : Fin 2048) (j : Fin 1280) :
    k0_pay1 (F := Ideal) w (ix2 k j) = w (ix2 k j) := by
  unfold k0_pay1
  pointwise

/-- The weights that the kernel is given, as the operation that makes them. -/
theorem entry_eq (c : Dev nD) :
    V m c main_v0 = (pad (s := S2048x1168) S2048x1280 ![0, 0] ![0, 112] ![0, 0] (m ((c : Thread nD τ).loc main_arg1) : Vec Ideal S2048x1168 .f32)
      (sitofp (F := Ideal) .f32 (constantI S_ 32 0#32)) Facts₀.pads_S2048x1168_S2048x1280_000_01120 Facts₀.h_S_ : Vec Ideal S2048x1280 .f32) := by
  entry_read
  rfl

/-- The weights that the kernel is given: the layer's, with columns of zeros after them. -/
theorem weights_apply (c : Dev nD) (k : Fin 2048) (j : Fin 1280) :
    V m c main_v0 (ix2 k j)
      = if h : j.val < 1168 then m ((c : Thread nD τ).loc main_arg1) (ix2 k (⟨j.val, h⟩ : Fin 1168)) else (0 : EReal) := by
  rw [entry_eq]
  refine (Layer.Products.padded_apply _ _ _ _ k j).trans ?_
  split_ifs with hd
  · rfl
  · show (((0#32 : BitVec 32).toInt : ℝ) : EReal) = 0
    simp

/-- The scratch buffer after every point: the weights. -/
theorem scratch_eq (c : Dev nD) : ∀ (n : ℕ) (h : n < cfg0.N) (k : Fin 2048) (j : Fin 1280),
    (outsAt0 m c n h).2 (ix2 k j) = V m c main_v0 (ix2 k j) :=
  Layer.Products.kept 32 (fun n h => (outsAt0 m c n h).2)
    (fun _ w => ∀ (k : Fin 2048) (j : Fin 1280), w (ix2 k j) = V m c main_v0 (ix2 k j))
    (fun n h h0 k j => by
      obtain ⟨-, ⟨e0, e1⟩, -⟩ := index_facts ⟨n, h⟩
      rw [outsAt0_A m c ⟨n, h⟩ h0]
      frame_out
      rw [cast_apply]
      blk_ext [iblk, e0, e1])
    (fun n h h0 => by
      rw [outsAt0_B m c ⟨n, h⟩ h0]
      rfl)

/-- The product of rows and weights, with columns of zeros after it. -/
def product (x : Vec Ideal S16384x2048 .bf16) (w : Vec Ideal S2048x1168 .f32) (r : Fin 16384) (d : Fin 1280) : EReal :=
  if h : d.val < 1168 then ∑ k : Fin 2048, x (ix2 r k) * w (ix2 k (⟨d.val, h⟩ : Fin 1168)) else 0

/-- What the result array is shown to hold. -/
def value (c : Dev nD) : Buf (Elt Ideal) ((c : Thread nD τ).loc main_v1) := fun (i : S16384x1280.Idx) =>
  product (m ((c : Thread nD τ).loc main_arg0)) (m ((c : Thread nD τ).loc main_arg1)) (i 0) (i 1)

/-- The block that a point leaves: the product of its block of rows and what the scratch buffer holds. -/
theorem leaves_eq (c : Dev nD) (t : Fin cfg0.N) :
    (outsAt0 m c t.val t.isLt).1 = k0_pay2 (F := Ideal) (iblk m c 0 t) (outsAt0 m c t.val t.isLt).2 := by
  by_cases h0 : t.val % 32 = 0
  · rw [outsAt0_A m c t h0]
    frame_out
  · rw [outsAt0_B m c t h0]
    frame_out
    exact congrArg _ ((Memref.isWhole_whole _).read_unread _)

/-- The product of rows and weights padded with zeros is the padded product. -/
theorem padded_product (x : Vec Ideal S16384x2048 .bf16) (w : Vec Ideal S2048x1168 .f32) (r : Fin 16384) (d : Fin 1280) :
    (∑ k : Fin 2048, x (ix2 r k) * (if h : d.val < 1168 then w (ix2 k (⟨d.val, h⟩ : Fin 1168)) else (0 : EReal)) : EReal)
      = product x w r d := by
  unfold product
  split_ifs with hd
  · rfl
  · exact Finset.sum_eq_zero fun k _ => mul_zero (M₀ := EReal) _

/-- The result array at the end of the run. -/
theorem final (c : Dev nD) : (dats m 0 c).arrAt 2 cfg0.N = value m c := by
  refine (dats m 0 c).arrAt_eq_of_covers 2 _ (by decide +kernel) fun t hf (y : S512x1280.Idx) => ?_
  blk_simp
  rw [after0_2]
  obtain ⟨p, j, rfl⟩ : ∃ (p : Fin 512) (j : Fin 1280), y = ix2 p j := ⟨y 0, y 1, eq_ix2 y⟩
  rw [leaves_eq]
  refine (product_apply _ _ p j).trans ?_
  obtain ⟨⟨a0, a1⟩, -, e0, e1⟩ := index_facts t
  have hN : t.val < 32 := lt_of_lt_of_eq t.isLt N_0
  unfold value
  refine Eq.trans ?_ (padded_product _ _ _ _)
  refine Finset.sum_congr (M := EReal) rfl fun k _ => congrArg₂ (fun a b : EReal => a * b) ?_ ?_
  · blk_ext [iblk, V, a0, a1, e0]
  · rw [scratch_eq m c t.val t.isLt k j]
    refine (weights_apply m c k j).trans ?_
    refine congrArg (fun d : Fin 1280 => if h : d.val < 1168 then m ((c : Thread nD τ).loc main_arg1) (ix2 k (⟨d.val, h⟩ : Fin 1168)) else (0 : EReal))
      (Fin.ext ?_)
    blk_simp [e1]

end Cert.Kernel8Ideal.SparseIn

end
-- ==== Proof.SparseInClaims.lean ====
/- What the reference of the sparse layer's first projection computes, and the claims about the projection. -/
module

public import proofs.«01_k».proof.Defs
public import proofs.«01_k».proof.Proof.SparseInValue
public import proofs.«01_k».proof.Proof.Gen.Reference8Ideal.Run
public import proofs.«01_k».proof.Proof.Gen.Reference8Ideal.Read

@[expose] public section

set_option maxRecDepth 16384

noncomputable section

namespace Cert.Proof.SparseIn

open Idealize.ShloMosaic Idealize.SL.Sem Idealize.ShloMosaic.TcCoe

open Cert.Reference8Ideal Cert.Reference8Ideal.Read Cert.Kernel8Ideal.SparseIn in
/-- The reference's result, at every entry. -/
theorem reference_result (x : Vec Ideal S16384x2048 .bf16) (w : Vec Ideal S2048x1168 .f32) (i : S16384x1280.Idx) :
    val_main_v2 (F := Ideal) x w i = product x w (i 0) (i 1) := by
  obtain ⟨r, d, rfl⟩ : ∃ (r : Fin 16384) (d : Fin 1280), i = ix2 r d := ⟨i 0, i 1, eq_ix2 i⟩
  unfold val_main_v2
  refine (Layer.Products.padded_apply _ _ _ _ r d).trans ?_
  show _ = product x w r d
  unfold product
  split_ifs with hd
  · rw [val_main_v1_apply]
    refine Finset.sum_congr (M := EReal) rfl fun k _ => congrArg₂ (fun a b : EReal => a * b) (congrArg x ?_) (congrArg w ?_)
    · exact funext fun a => by match a with | ⟨0, _⟩ => rfl | ⟨1, _⟩ => rfl
    · exact funext fun a => by match a with | ⟨0, _⟩ => rfl | ⟨1, _⟩ => rfl
  · rw [val_main_call0_v0_apply, val_main_c_apply]
    show (((0#32 : BitVec 32).toInt : ℝ) : EReal) = 0
    simp

/-- The reference's frame: it is a line of operations, no one of them writing an argument, and has no semaphore. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The value claim: kernel and reference end with equal results. -/
theorem equal_results : Cert.algebraic_Kernel8Ideal_Reference8Ideal := fun m ρ m' ρ' _ hag => by
  refine ⟨fun c => Cert.Kernel8Ideal.SparseIn.value m c,
    (θ_run Cert.Kernel8Ideal.defs _ _).mono (fun r hr c => ?_) (Cert.Kernel8Ideal.Value.run_blocks (F := Ideal) m ρ),
    (θ_run Cert.Reference8Ideal.defs _ _).mono (fun r hr c => ?_) (Cert.Reference8Ideal.Value.run (F := Ideal) m' ρ')⟩
  · obtain rfl : c = 0 := Subsingleton.elim _ _
    exact ⟨(hr 0).1.trans (Cert.Kernel8Ideal.SparseIn.final m 0), (hr 0).2⟩
  · obtain rfl : c = 0 := Subsingleton.elim _ _
    refine ⟨((hr 0).1.trans (Cert.Reference8Ideal.Read.val_main_v2_eq _ _)).trans ?_, (hr 0).2⟩
    obtain ⟨h0, h1⟩ := hag 0
    rw [h0, h1]
    exact funext fun i => reference_result _ _ i

end Cert.Proof.SparseIn

end
-- ==== Proof.Norms.lean ====
/- The root-mean-square norm of a row, over the reals: what the four programs that normalise rows are shown to compute. -/
module

public import Idealize.ShloMosaic.Lib.Pointwise
public import Idealize.ShloMosaic.PureOps.Ideal.Laws

@[expose] public section

noncomputable section

namespace Layer.Norms

open Idealize.ShloMosaic

/-- Entry `d` of the row `v`, over the root of the mean of the row's squares and a small number, times the weight `g d`.
    The row's length and the small number are given by their words. -/
def normed {n : ℕ} (length : BitVec 32) (v g : Fin n → EReal) (d : Fin n) : EReal :=
  v d * Ideal.rsqrt (Ideal.div (∑ k : Fin n, v k * v k) (Ideal.ofBits FTy.f32 length) + Ideal.ofBits FTy.f32 0x358637BD#32) * g d

/-- The norm depends on the row and the weight only by their entries. -/
theorem normed_congr {n : ℕ} (length : BitVec 32) {v v' g g' : Fin n → EReal} (hv : ∀ k, v k = v' k) (hg : ∀ k, g k = g' k)
    {d d' : Fin n} (hd : d = d') : normed length v g d = normed length v' g' d' := by
  rw [funext hv, funext hg, hd]

end Layer.Norms

end
-- ==== Proof.NormInValue.lean ====
/- What the modulated norm leaves in its result array: each row normalised, then scaled and shifted by the rows of its
   chunk of 64. -/
module

public import proofs.«01_k».proof.Proof.Gen.Kernel9Ideal.Value
public import proofs.«01_k».proof.Proof.Norms
public import Idealize.ShloMosaic.Lib.Pointwise
public import Idealize.ShloMosaic.Lib.Pipeline.ValueKit
public import Idealize.ShloMosaic.PureOps.Ideal.Laws

@[expose] public section

set_option maxRecDepth 16384

noncomputable section

namespace Cert.Kernel9Ideal.NormIn

open Idealize.ShloMosaic Idealize.ShloMosaic.TcCoe
open Cert.Kernel9Ideal Cert.Kernel9Ideal.Gen

variable (m : (ℓ : Loc nD τ sig) → Buf (Elt Ideal) ℓ)

/-- The block of rows that a grid point works on, and the four chunks that it holds. -/
theorem index_facts : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ win0_4.index t 0 = t.val ∧ win0_4.index t 1 = 0 :=
  (by decide +kernel : ∀ t : Fin grid0.N, _)

/-- A block of the result, at an entry. -/
theorem block_apply (x : Vec Ideal S256x2048 .f32) (g : Vec Ideal S1x2048 .f32) (sc sh : Vec Ideal S4x1x2048 .f32)
    (p : Fin 256) (j : Fin 2048) :
    k0_pay1 (F := Ideal) x g sc sh (ix2 p j)
      = Layer.Norms.normed 0x45000000#32 (fun k => x (ix2 p k)) (fun k => g (ix2 0 k)) j
          * (1 + sc (ix3 (⟨p.val / 64, by omega⟩ : Fin 4) 0 j)) + sh (ix3 (⟨p.val / 64, by omega⟩ : Fin 4) 0 j) := by
  unfold k0_pay1
  pointwise
  rfl

/-- The weights that the kernel is given, as the operation that makes them. -/
theorem entry_eq (c : Dev nD) :
    V m c main_v0 = (shapeCast S1x2048 (m ((c : Thread nD τ).loc main_arg1) : Vec Ideal S2048 .f32) Facts₀.shapeCasts_S2048_S1x2048 : Vec Ideal S1x2048 .f32) := by
  entry_read
  rfl

/-- The weights that the kernel is given: the argument, as one row. -/
theorem weights_apply (c : Dev nD) (j : Fin 2048) :
    V m c main_v0 (ix2 0 j) = m ((c : Thread nD τ).loc main_arg1) (ix1 j) := by
  rw [entry_eq]
  pointwise

/-- A row normalised, then scaled by one more than the first row of its chunk and shifted by the second. -/
def modulated (x : Vec Ideal S16384x2048 .f32) (g : Vec Ideal S2048 .f32) (sc sh : Vec Ideal S256x1x2048 .f32)
    (r : Fin 16384) (d : Fin 2048) : EReal :=
  Layer.Norms.normed 0x45000000#32 (fun k => x (ix2 r k)) (fun k => g (ix1 k)) d
    * (1 + sc (ix3 (⟨r.val / 64, by omega⟩ : Fin 256) 0 d)) + sh (ix3 (⟨r.val / 64, by omega⟩ : Fin 256) 0 d)

/-- What the result array is shown to hold. -/
def value (c : Dev nD) : Buf (Elt Ideal) ((c : Thread nD τ).loc main_v1) := fun (i : S16384x2048.Idx) =>
  modulated (m ((c : Thread nD τ).loc main_arg0)) (m ((c : Thread nD τ).loc main_arg1)) (m ((c : Thread nD τ).loc main_arg2))
    (m ((c : Thread nD τ).loc main_arg3)) (i 0) (i 1)

/-- The result array at the end of the run. -/
theorem final (c : Dev nD) : (dats m 0 c).arrAt 4 cfg0.N = value m c := by
  refine (dats m 0 c).arrAt_eq_of_covers 4 _ (by decide +kernel) fun t hf (y : S256x2048.Idx) => ?_
  blk_simp
  rw [after0_4]
  obtain ⟨p, j, rfl⟩ : ∃ (p : Fin 256) (j : Fin 2048), y = ix2 p j := ⟨y 0, y 1, eq_ix2 y⟩
  frame_out
  refine (block_apply _ _ _ _ p j).trans ?_
  obtain ⟨⟨a0, a1⟩, ⟨w0, w1⟩, ⟨b0, b1, b2⟩, ⟨d0, d1, d2⟩, e0, e1⟩ := index_facts t
  have hN : t.val < 64 := lt_of_lt_of_eq t.isLt N_0
  unfold value modulated
  refine congrArg₂ (fun a b : EReal => a + b) (congrArg₂ (fun a b : EReal => a * (1 + b)) ?_ ?_) ?_
  · refine Layer.Norms.normed_congr _ (fun k => ?_) (fun k => ?_) ?_
    · blk_ext [iblk, V, a0, a1, e0]
    · refine Eq.trans ?_ (weights_apply m c k)
      blk_ext [iblk, w0, w1]
    · exact Fin.ext (by blk_simp; omega)
  · blk_ext [iblk, V, b0, b1, b2, e0, e1]
  · blk_ext [iblk, V, d0, d1, d2, e0, e1]

end Cert.Kernel9Ideal.NormIn

end
-- ==== Proof.NormInClaims.lean ====
/- What the reference of the modulated norm computes, and the claims about it. -/
module

public import proofs.«01_k».proof.Defs
public import proofs.«01_k».proof.Proof.NormInValue
public import proofs.«01_k».proof.Proof.Gen.Reference9Ideal.Run
public import proofs.«01_k».proof.Proof.Gen.Reference9Ideal.Read

@[expose] public section

set_option maxRecDepth 16384

noncomputable section

namespace Cert.Proof.NormIn

open Idealize.ShloMosaic Idealize.SL.Sem Idealize.ShloMosaic.TcCoe

open Cert.Reference9Ideal Cert.Reference9Ideal.Read Cert.Kernel9Ideal.NormIn in
/-- The reference's result, at every entry. -/
theorem reference_result (x : Vec Ideal S16384x2048 .f32) (g : Vec Ideal S2048 .f32) (sc sh : Vec Ideal S256x1x2048 .f32)
    (r : Fin 16384) (d : Fin 2048) :
    val_main_v23 (F := Ideal) x g sc sh (ix2 r d) = modulated x g sc sh r d := by
  rw [← val_main_v23_eq]
  pointwise
  rfl

/-- The reference's frame: it is a line of operations, no one of them writing an argument, and has no semaphore. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The value claim: kernel and reference end with equal results. -/
theorem equal_results : Cert.algebraic_Kernel9Ideal_Reference9Ideal := fun m ρ m' ρ' _ hag => by
  refine ⟨fun c => Cert.Kernel9Ideal.NormIn.value m c,
    (θ_run Cert.Kernel9Ideal.defs _ _).mono (fun r hr c => ?_) (Cert.Kernel9Ideal.Value.run_blocks (F := Ideal) m ρ),
    (θ_run Cert.Reference9Ideal.defs _ _).mono (fun r hr c => ?_) (Cert.Reference9Ideal.Value.run (F := Ideal) m' ρ')⟩
  · obtain rfl : c = 0 := Subsingleton.elim _ _
    exact ⟨(hr 0).1.trans (Cert.Kernel9Ideal.NormIn.final m 0), (hr 0).2⟩
  · obtain rfl : c = 0 := Subsingleton.elim _ _
    refine ⟨((hr 0).1.trans (Cert.Reference9Ideal.Read.val_main_v23_eq _ _ _ _)).trans ?_, (hr 0).2⟩
    obtain ⟨h0, h1, h2, h3⟩ := hag 0
    rw [h0, h1, h2, h3]
    refine funext fun (i : Cert.Reference9Ideal.S16384x2048.Idx) => ?_
    obtain ⟨r, d, rfl⟩ : ∃ (r : Fin 16384) (d : Fin 2048), i = ix2 r d := ⟨i 0, i 1, eq_ix2 i⟩
    exact reference_result _ _ _ _ r d

end Cert.Proof.NormIn

end
-- ==== Proof.FinalNormValue.lean ====
/- What the last norm leaves in its result array: each row normalised. -/
module

public import proofs.«01_k».proof.Proof.Gen.Kernel10Ideal.Value
public import proofs.«01_k».proof.Proof.Norms
public import Idealize.ShloMosaic.Lib.Pointwise
public import Idealize.ShloMosaic.Lib.Pipeline.ValueKit
public import Idealize.ShloMosaic.PureOps.Ideal.Laws

@[expose] public section

set_option maxRecDepth 16384

noncomputable section

namespace Cert.Kernel10Ideal.FinalNorm

open Idealize.ShloMosaic Idealize.ShloMosaic.TcCoe
open Cert.Kernel10Ideal Cert.Kernel10Ideal.Gen

variable (m : (ℓ : Loc nD τ sig) → Buf (Elt Ideal) ℓ)

/-- The block of rows that a grid point works on. -/
theorem index_facts : ∀ t : Fin cfg0.N, (win0_0.index t 0 = t.val ∧ win0_0.index t 1 = 0)
    ∧ (win0_1.index t 0 = 0 ∧ win0_1.index t 1 = 0)
    ∧ win0_2.index t 0 = t.val ∧ win0_2.index t 1 = 0 :=
  (by decide +kernel : ∀ t : Fin grid0.N, _)

/-- A block of the result, at an entry. -/
theorem block_apply (x : Vec Ideal S256x2048 .f32) (g : Vec Ideal S1x2048 .f32) (p : Fin 256) (j : Fin 2048) :
    k0_pay1 (F := Ideal) x g (ix2 p j)
      = Layer.Norms.normed 0x45000000#32 (fun k => x (ix2 p k)) (fun k => g (ix2 0 k)) j := by
  unfold k0_pay1
  pointwise
  rfl

/-- The weights that the kernel is given, as the operation that makes them. -/
theorem entry_eq (c : Dev nD) :
    V m c main_v0 = (shapeCast S1x2048 (m ((c : Thread nD τ).loc main_arg1) : Vec Ideal S2048 .f32) Facts₀.shapeCasts_S2048_S1x2048 : Vec Ideal S1x2048 .f32) := by
  entry_read
  rfl

/-- The weights that the kernel is given: the argument, as one row. -/
theorem weights_apply (c : Dev nD) (j : Fin 2048) :
    V m c main_v0 (ix2 0 j) = m ((c : Thread nD τ).loc main_arg1) (ix1 j) := by
  rw [entry_eq]
  pointwise

/-- The norm of a row of the argument. -/
def rowNorm (x : Vec Ideal S16384x2048 .f32) (g : Vec Ideal S2048 .f32) (r : Fin 16384) (d : Fin 2048) : EReal :=
  Layer.Norms.normed 0x45000000#32 (fun k => x (ix2 r k)) (fun k => g (ix1 k)) d

/-- What the result array is shown to hold. -/
def value (c : Dev nD) : Buf (Elt Ideal) ((c : Thread nD τ).loc main_v1) := fun (i : S16384x2048.Idx) =>
  rowNorm (m ((c : Thread nD τ).loc main_arg0)) (m ((c : Thread nD τ).loc main_arg1)) (i 0) (i 1)

/-- The result array at the end of the run. -/
theorem final (c : Dev nD) : (dats m 0 c).arrAt 2 cfg0.N = value m c := by
  refine (dats m 0 c).arrAt_eq_of_covers 2 _ (by decide +kernel) fun t hf (y : S256x2048.Idx) => ?_
  blk_simp
  rw [after0_2]
  obtain ⟨p, j, rfl⟩ : ∃ (p : Fin 256) (j : Fin 2048), y = ix2 p j := ⟨y 0, y 1, eq_ix2 y⟩
  frame_out
  refine (block_apply _ _ p j).trans ?_
  obtain ⟨⟨a0, a1⟩, ⟨w0, w1⟩, e0, e1⟩ := index_facts t
  have hN : t.val < 64 := lt_of_lt_of_eq t.isLt N_0
  unfold value rowNorm
  refine Layer.Norms.normed_congr _ (fun k => ?_) (fun k => ?_) ?_
  · blk_ext [iblk, V, a0, a1, e0]
  · refine Eq.trans ?_ (weights_apply m c k)
    blk_ext [iblk, w0, w1]
  · exact Fin.ext (by blk_simp; omega)

end Cert.Kernel10Ideal.FinalNorm

end
-- ==== Proof.FinalNormClaims.lean ====
/- What the reference of the last norm computes, and the claims about it. -/
module

public import proofs.«01_k».proof.Defs
public import proofs.«01_k».proof.Proof.FinalNormValue
public import proofs.«01_k».proof.Proof.Gen.Reference10Ideal.Run
public import proofs.«01_k».proof.Proof.Gen.Reference10Ideal.Read

@[expose] public section

set_option maxRecDepth 16384

noncomputable section

namespace Cert.Proof.FinalNorm

open Idealize.ShloMosaic Idealize.SL.Sem Idealize.ShloMosaic.TcCoe

open Cert.Reference10Ideal Cert.Reference10Ideal.Read Cert.Kernel10Ideal.FinalNorm in
/-- The reference's result, at every entry. -/
theorem reference_result (x : Vec Ideal S16384x2048 .f32) (g : Vec Ideal S2048 .f32) (r : Fin 16384) (d : Fin 2048) :
    val_main_v12 (F := Ideal) x g (ix2 r d) = rowNorm x g r d := by
  rw [← val_main_v12_eq]
  pointwise
  rfl

/-- The reference's frame: it is a line of operations, no one of them writing an argument, and has no semaphore. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The value claim: kernel and reference end with equal results. -/
theorem equal_results : Cert.algebraic_Kernel10Ideal_Reference10Ideal := fun m ρ m' ρ' _ hag => by
  refine ⟨fun c => Cert.Kernel10Ideal.FinalNorm.value m c,
    (θ_run Cert.Kernel10Ideal.defs _ _).mono (fun r hr c => ?_) (Cert.Kernel10Ideal.Value.run_blocks (F := Ideal) m ρ),
    (θ_run Cert.Reference10Ideal.defs _ _).mono (fun r hr c => ?_) (Cert.Reference10Ideal.Value.run (F := Ideal) m' ρ')⟩
  · obtain rfl : c = 0 := Subsingleton.elim _ _
    exact ⟨(hr 0).1.trans (Cert.Kernel10Ideal.FinalNorm.final m 0), (hr 0).2⟩
  · obtain rfl : c = 0 := Subsingleton.elim _ _
    refine ⟨((hr 0).1.trans (Cert.Reference10Ideal.Read.val_main_v12_eq _ _)).trans ?_, (hr 0).2⟩
    obtain ⟨h0, h1⟩ := hag 0
    rw [h0, h1]
    refine funext fun (i : Cert.Reference10Ideal.S16384x2048.Idx) => ?_
    obtain ⟨r, d, rfl⟩ : ∃ (r : Fin 16384) (d : Fin 2048), i = ix2 r d := ⟨i 0, i 1, eq_ix2 i⟩
    exact reference_result _ _ r d

end Cert.Proof.FinalNorm

end
-- ==== Proof.LatentNormValue.lean ====
/- What the norm of the compressed keys and values leaves in its result array: columns 512 to 1023 of each row of the
   projection, normalised. -/
module

public import proofs.«01_k».proof.Proof.Gen.Kernel11Ideal.Value
public import proofs.«01_k».proof.Proof.Norms
public import Idealize.ShloMosaic.Lib.Pointwise
public import Idealize.ShloMosaic.Lib.Pipeline.ValueKit
public import Idealize.ShloMosaic.PureOps.Ideal.Laws

@[expose] public section

set_option maxRecDepth 16384

noncomputable section

namespace Cert.Kernel11Ideal.LatentNorm

open Idealize.ShloMosaic Idealize.ShloMosaic.TcCoe
open Cert.Kernel11Ideal Cert.Kernel11Ideal.Gen

variable (m : (ℓ : Loc nD τ sig) → Buf (Elt Ideal) ℓ)

/-- The block of rows that a grid point works on. -/
theorem index_facts : ∀ t : Fin cfg0.N, (win0_0.index t 0 = t.val ∧ win0_0.index t 1 = 1)
    ∧ (win0_1.index t 0 = 0 ∧ win0_1.index t 1 = 0)
    ∧ win0_2.index t 0 = t.val ∧ win0_2.index t 1 = 0 :=
  (by decide +kernel : ∀ t : Fin grid0.N, _)

/-- A block of the result, at an entry. -/
theorem block_apply (x : Vec Ideal S256x512 .f32) (g : Vec Ideal S1x512 .f32) (p : Fin 256) (j : Fin 512) :
    k0_pay1 (F := Ideal) x g (ix2 p j)
      = Layer.Norms.normed 0x44000000#32 (fun k => x (ix2 p k)) (fun k => g (ix2 0 k)) j := by
  unfold k0_pay1
  pointwise
  rfl

/-- The weights that the kernel is given, as the operation that makes them. -/
theorem entry_eq (c : Dev nD) :
    V m c main_v0 = (shapeCast S1x512 (m ((c : Thread nD τ).loc main_arg1) : Vec Ideal S512 .f32) Facts₀.shapeCasts_S512_S1x512 : Vec Ideal S1x512 .f32) := by
  entry_read
  rfl

/-- The weights that the kernel is given: the argument, as one row. -/
theorem weights_apply (c : Dev nD) (j : Fin 512) :
    V m c main_v0 (ix2 0 j) = m ((c : Thread nD τ).loc main_arg1) (ix1 j) := by
  rw [entry_eq]
  pointwise

/-- The rows' block that a point works on, at an entry. -/
theorem rows_apply (c : Dev nD) (t : Fin cfg0.N) (p : Fin 256) (k : Fin 512) :
    X0_0 m c t (ix2 p k) = m ((c : Thread nD τ).loc main_arg0)
      (ix2 (⟨t.val * 256 + p.val, by have := lt_of_lt_of_eq t.isLt N_0; omega⟩ : Fin 16384) (⟨512 + k.val, by omega⟩ : Fin 1280)) := by
  obtain ⟨⟨a0, a1⟩, -⟩ := index_facts t
  unfold X0_0 Pipeline.Window.fill
  rw [dif_pos (moved0_0 t (ix2 p k))]
  blk_ext [iblk, V, a0, a1]

/-- The norm of the middle columns of a row of the argument. -/
def rowNorm (x : Vec Ideal S16384x1280 .f32) (g : Vec Ideal S512 .f32) (r : Fin 16384) (d : Fin 512) : EReal :=
  Layer.Norms.normed 0x44000000#32 (fun k => x (ix2 r (⟨512 + k.val, by omega⟩ : Fin 1280))) (fun k => g (ix1 k)) d

/-- What the result array is shown to hold. -/
def value (c : Dev nD) : Buf (Elt Ideal) ((c : Thread nD τ).loc main_v1) := fun (i : S16384x512.Idx) =>
  rowNorm (m ((c : Thread nD τ).loc main_arg0)) (m ((c : Thread nD τ).loc main_arg1)) (i 0) (i 1)

/-- The result array at the end of the run. -/
theorem final (c : Dev nD) : (dats m 0 c).arrAt 2 cfg0.N = value m c := by
  refine (dats m 0 c).arrAt_eq_of_covers 2 _ (by decide +kernel) fun t hf (y : S256x512.Idx) => ?_
  blk_simp
  rw [after0_2]
  unfold outsAt0
  obtain ⟨p, j, rfl⟩ : ∃ (p : Fin 256) (j : Fin 512), y = ix2 p j := ⟨y 0, y 1, eq_ix2 y⟩
  frame_out
  refine (block_apply _ _ p j).trans ?_
  obtain ⟨⟨a0, a1⟩, ⟨w0, w1⟩, e0, e1⟩ := index_facts t
  have hN : t.val < 64 := lt_of_lt_of_eq t.isLt N_0
  unfold value rowNorm
  refine Layer.Norms.normed_congr _ (fun k => ?_) (fun k => ?_) ?_
  · rw [rows_apply]
    blk_ext [e0]
  · refine Eq.trans ?_ (weights_apply m c k)
    blk_ext [iblk, w0, w1]
  · exact Fin.ext (by blk_simp; omega)

end Cert.Kernel11Ideal.LatentNorm

end
-- ==== Proof.LatentNormClaims.lean ====
/- What the reference of the norm of the compressed keys and values computes, and the claims about it. -/
module

public import proofs.«01_k».proof.Defs
public import proofs.«01_k».proof.Proof.LatentNormValue
public import proofs.«01_k».proof.Proof.Gen.Reference11Ideal.Run
public import proofs.«01_k».proof.Proof.Gen.Reference11Ideal.Read

@[expose] public section

set_option maxRecDepth 16384

noncomputable section

namespace Cert.Proof.LatentNorm

open Idealize.ShloMosaic Idealize.SL.Sem Idealize.ShloMosaic.TcCoe

open Cert.Reference11Ideal Cert.Reference11Ideal.Read Cert.Kernel11Ideal.LatentNorm in
/-- The reference's result, at every entry. -/
theorem reference_result (x : Vec Ideal S16384x1280 .f32) (g : Vec Ideal S512 .f32) (r : Fin 16384) (d : Fin 512) :
    val_main_v13 (F := Ideal) x g (ix2 r d) = rowNorm x g r d := by
  rw [← val_main_v13_eq]
  pointwise
  rfl

/-- The reference's frame: it is a line of operations, no one of them writing an argument, and has no semaphore. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The value claim: kernel and reference end with equal results. -/
theorem equal_results : Cert.algebraic_Kernel11Ideal_Reference11Ideal := fun m ρ m' ρ' _ hag => by
  refine ⟨fun c => Cert.Kernel11Ideal.LatentNorm.value m c,
    (θ_run Cert.Kernel11Ideal.defs _ _).mono (fun r hr c => ?_) (Cert.Kernel11Ideal.Value.run_blocks (F := Ideal) m ρ),
    (θ_run Cert.Reference11Ideal.defs _ _).mono (fun r hr c => ?_) (Cert.Reference11Ideal.Value.run (F := Ideal) m' ρ')⟩
  · obtain rfl : c = 0 := Subsingleton.elim _ _
    exact ⟨(hr 0).1.trans (Cert.Kernel11Ideal.LatentNorm.final m 0), (hr 0).2⟩
  · obtain rfl : c = 0 := Subsingleton.elim _ _
    refine ⟨((hr 0).1.trans (Cert.Reference11Ideal.Read.val_main_v13_eq _ _)).trans ?_, (hr 0).2⟩
    obtain ⟨h0, h1⟩ := hag 0
    rw [h0, h1]
    refine funext fun (i : Cert.Reference11Ideal.S16384x512.Idx) => ?_
    obtain ⟨r, d, rfl⟩ : ∃ (r : Fin 16384) (d : Fin 512), i = ix2 r d := ⟨i 0, i 1, eq_ix2 i⟩
    exact reference_result _ _ r d

end Cert.Proof.LatentNorm

end
-- ==== Proof.RelativeBias.lean ====
/- The bucket of a relative position: near positions have one bucket each, far ones share a bucket by the logarithm of
   their distance, and from some distance on there is one bucket for all. -/
module

public import Idealize.ShloMosaic.Lib.Pointwise
public import Idealize.ShloMosaic.Lib.Pipeline.ValueKit
public import Idealize.ShloMosaic.PureOps.Ideal.Laws
public import Mathlib.Analysis.SpecialFunctions.Log.Basic

@[expose] public section

noncomputable section

namespace Layer.Relative

open Idealize.ShloMosaic

/-- The logarithmic step of a distance, counted from the first distance that shares a bucket. -/
def step (n : BitVec 32) : BitVec 32 :=
  FloatOps.fptosi (F := Ideal) (φ := .f32) 32
    (Ideal.div (Ideal.log (Ideal.div (FloatOps.sitofp (F := Ideal) .f32 (IntOp.maxsi n 1#32)) (Ideal.ofBits FTy.f32 0x41000000#32)))
      (Ideal.ofBits FTy.f32 0x40317218#32) * Ideal.ofBits FTy.f32 0x41000000#32)

/-- The bucket of a relative position. -/
def bucket (rel : BitVec 32) : BitVec 32 :=
  IntOp.addi (Scalar.select (IntOp.cmpi .sgt rel 0#32) 16#32 0#32)
    (Scalar.select (IntOp.cmpi .slt (IntOp.absi rel) 8#32) (IntOp.absi rel)
      (IntOp.minsi (IntOp.addi 8#32 (step (IntOp.absi rel))) 15#32))

theorem eight : Ideal.ofBits FTy.f32 0x41000000#32 = ((8 : ℝ) : EReal) := by
  simp only [Ideal.ofBits, Ideal.ieee, show (BitVec.extractLsb' (8 + 23) 1 0x41000000#32 == 1#1) = false by decide,
    show (BitVec.extractLsb' 23 8 0x41000000#32).toNat = 130 by decide, show (BitVec.extractLsb' 0 23 0x41000000#32).toNat = 0 by decide]
  norm_num

/-- The constant that stands for the logarithm of 16, exactly. -/
theorem log_sixteen : Ideal.ofBits FTy.f32 0x40317218#32 = ((11629080 / 4194304 : ℝ) : EReal) := by
  simp only [Ideal.ofBits, Ideal.ieee, show (BitVec.extractLsb' (8 + 23) 1 0x40317218#32 == 1#1) = false by decide,
    show (BitVec.extractLsb' 23 8 0x40317218#32).toNat = 128 by decide, show (BitVec.extractLsb' 0 23 0x40317218#32).toNat = 3240472 by decide]
  norm_num

/-- The step of a distance, as the whole part of a real number. -/
theorem step_eq (n : ℕ) (h8 : 8 ≤ n) (h : n < 2048) :
    step (BitVec.ofNat 32 n) = BitVec.ofInt 32 (max (-2147483648) (min 2147483647 ⌊Real.log (n / 8) * (4194304 / 11629080) * 8⌋)) := by
  have hlog : 0 ≤ Real.log ((n : ℝ) / 8) := Real.log_nonneg (by rw [le_div_iff₀ (by norm_num)]; norm_num; exact_mod_cast h8)
  have hmax : IntOp.maxsi (BitVec.ofNat 32 n) 1#32 = BitVec.ofNat 32 n := by
    unfold IntOp.maxsi
    rw [if_pos]
    rw [BitVec.slt_eq_decide, decide_eq_true_eq, BitVec.toInt_eq_toNat_cond, BitVec.toInt_eq_toNat_cond]
    simp only [BitVec.toNat_ofNat, Nat.reducePow, Nat.reduceMod]
    omega
  have hint : (BitVec.ofNat 32 n).toInt = (n : ℤ) := by
    rw [BitVec.toInt_eq_toNat_cond, BitVec.toNat_ofNat, Nat.mod_eq_of_lt (by omega), if_pos (by omega)]
  have hpos : (0 : ℝ) < (n : ℝ) / 8 := by positivity
  unfold step
  rw [hmax, eight, log_sixteen]
  show BitVec.ofInt 32 (Ideal.toIntClamped _ _ (Ideal.div (Ideal.log (Ideal.div (((BitVec.ofNat 32 n).toInt : ℝ) : EReal) _)) _ * _)) = _
  rw [hint, Ideal.div_coe (y := 8) (by norm_num)]
  have e : (((n : ℤ) : ℝ) : EReal) * ((1 / 8 : ℝ) : EReal) = (((n : ℝ) / 8 : ℝ) : EReal) := by
    rw [← EReal.coe_mul]; congr 1; push_cast; ring
  rw [e]
  have el : Ideal.log (((n : ℝ) / 8 : ℝ) : EReal) = ((Real.log ((n : ℝ) / 8) : ℝ) : EReal) := by
    show (if (n : ℝ) / 8 ≤ 0 then (⊥ : EReal) else _) = _
    rw [if_neg (not_le.mpr hpos)]
  rw [el, Ideal.div_coe (by norm_num), ← EReal.coe_mul, ← EReal.coe_mul]
  show BitVec.ofInt 32 (max _ (min _ (if 0 ≤ _ then _ else _))) = _
  rw [if_pos (by positivity)]
  norm_num

/-- Distances below 2048 have a step, and distances above 128 at least the seventh. -/
theorem step_bounds (n : ℕ) (h8 : 8 ≤ n) (h : n < 2048) :
    0 ≤ (step (BitVec.ofNat 32 n)).toInt ∧ (step (BitVec.ofNat 32 n)).toInt < 1000000 ∧ (128 < n → 7 ≤ (step (BitVec.ofNat 32 n)).toInt) := by
  have hlog : 0 ≤ Real.log ((n : ℝ) / 8) := Real.log_nonneg (by rw [le_div_iff₀ (by norm_num)]; norm_num; exact_mod_cast h8)
  have hle : Real.log ((n : ℝ) / 8) ≤ 256 := by
    have h1 := Real.log_le_sub_one_of_pos (x := (n : ℝ) / 8) (by positivity)
    have h2 : (n : ℝ) < 2048 := by exact_mod_cast h
    linarith
  rw [step_eq n h8 h]
  set z := ⌊Real.log ((n : ℝ) / 8) * (4194304 / 11629080) * 8⌋ with hz
  have z0 : 0 ≤ z := Int.floor_nonneg.mpr (by positivity)
  have z1 : z < 1000000 := by
    rw [hz, Int.floor_lt]; push_cast; linarith
  have z7 : 128 < n → 7 ≤ z := fun hn => by
    rw [hz, Int.le_floor]
    have h16 : Real.log 16 ≤ Real.log ((n : ℝ) / 8) := Real.log_le_log (by norm_num) (by
      rw [le_div_iff₀ (by norm_num)]; norm_num; exact_mod_cast hn.le)
    have hfifth : (1 / 6 : ℝ) ≤ Real.log (6 / 5) := by
      have := Real.one_sub_inv_le_log_of_pos (x := 6 / 5) (by norm_num)
      norm_num at this ⊢
      linarith
    have hpow : Real.log ((6 / 5 : ℝ) ^ (15 : ℕ)) ≤ Real.log 16 := Real.log_le_log (by positivity) (by norm_num)
    rw [Real.log_pow] at hpow
    push_cast at hpow
    push_cast
    linarith
  have et : (BitVec.ofInt 32 (max (-2147483648) (min 2147483647 z))).toInt = z := by
    rw [max_eq_right (by omega), min_eq_right (by omega), BitVec.toInt_ofInt]
    exact Int.bmod_eq_of_le (by norm_num; omega) (by norm_num; omega)
  rw [et]
  exact ⟨z0, z1, z7⟩

/-- A distance's own bucket, below half the number of buckets. -/
theorem near_lt (n : ℕ) (h : n < 2048) :
    (Scalar.select (IntOp.cmpi .slt (BitVec.ofNat 32 n) 8#32) (BitVec.ofNat 32 n)
      (IntOp.minsi (IntOp.addi 8#32 (step (BitVec.ofNat 32 n))) 15#32)).toNat < 16 := by
  have hs : (BitVec.ofNat 32 n).slt 8#32 = decide (n < 8) := by
    rw [BitVec.slt_eq_decide, BitVec.toInt_eq_toNat_cond, BitVec.toInt_eq_toNat_cond]
    simp only [BitVec.toNat_ofNat, Nat.reducePow, Nat.reduceMod]
    congr 1
    simp only [eq_iff_iff]
    omega
  have hc : IntOp.cmpi .slt (BitVec.ofNat 32 n) 8#32 = BitVec.ofBool (decide (n < 8)) := congrArg BitVec.ofBool hs
  rw [hc]
  unfold Scalar.select
  by_cases h8 : n < 8
  · rw [decide_eq_true h8, if_pos (by decide), BitVec.toNat_ofNat]
    omega
  · rw [decide_eq_false h8, if_neg (by decide)]
    obtain ⟨s0, s1, -⟩ := step_bounds n (by omega) h
    generalize step (BitVec.ofNat 32 n) = s at s0 s1
    unfold IntOp.minsi IntOp.addi
    have ha : (8#32 + s).toInt = 8 + s.toInt := by
      rw [BitVec.toInt_add, show (8#32).toInt = 8 by decide]
      exact Int.bmod_eq_of_le (by norm_num; omega) (by norm_num; omega)
    split
    · rename_i hlt
      rw [BitVec.slt_eq_decide, decide_eq_true_eq, ha] at hlt
      have : (15#32).toInt = 15 := by decide
      have hn := BitVec.toInt_eq_toNat_cond (8#32 + s)
      split at hn <;> omega
    · decide

/-- A distance above 128 has the last bucket. -/
theorem far_eq (n : ℕ) (hn : 128 < n) (h : n < 2048) :
    Scalar.select (IntOp.cmpi .slt (BitVec.ofNat 32 n) 8#32) (BitVec.ofNat 32 n)
      (IntOp.minsi (IntOp.addi 8#32 (step (BitVec.ofNat 32 n))) 15#32) = 15#32 := by
  have hs : (BitVec.ofNat 32 n).slt 8#32 = false := by
    rw [BitVec.slt_eq_decide, decide_eq_false_iff_not, BitVec.toInt_eq_toNat_cond, BitVec.toInt_eq_toNat_cond]
    simp only [BitVec.toNat_ofNat, Nat.reducePow, Nat.reduceMod]
    omega
  have hc : IntOp.cmpi .slt (BitVec.ofNat 32 n) 8#32 = BitVec.ofBool false := congrArg BitVec.ofBool hs
  rw [hc]
  unfold Scalar.select
  rw [if_neg (by decide)]
  obtain ⟨s0, s1, s7⟩ := step_bounds n (by omega) h
  have s7 := s7 hn
  generalize step (BitVec.ofNat 32 n) = s at s0 s1 s7
  unfold IntOp.minsi IntOp.addi
  have ha : (8#32 + s).toInt = 8 + s.toInt := by
    rw [BitVec.toInt_add, show (8#32).toInt = 8 by decide]
    exact Int.bmod_eq_of_le (by norm_num; omega) (by norm_num; omega)
  rw [if_neg]
  rw [BitVec.slt_eq_decide, decide_eq_true_eq, ha]
  have : (15#32).toInt = 15 := by decide
  omega

/-- The distance of two positions, as a word. -/
theorem absi_sub (k q : ℕ) (hk : k < 2048) (hq : q < 2048) :
    IntOp.absi (IntOp.subi (BitVec.ofNat 32 k) (BitVec.ofNat 32 q)) = BitVec.ofNat 32 (if k < q then q - k else k - q) := by
  unfold IntOp.absi IntOp.subi
  rw [BitVec.msb_eq_decide]
  apply BitVec.eq_of_toNat_eq
  split <;> rename_i hm <;> simp only [decide_eq_true_eq, BitVec.toNat_neg, BitVec.toNat_sub, BitVec.toNat_ofNat, Nat.reducePow] at hm ⊢ <;> split <;> omega

/-- The bucket of a key's position less a query's is one of the 32. -/
theorem bucket_lt (k q : ℕ) (hk : k < 2048) (hq : q < 2048) :
    (bucket (IntOp.subi (BitVec.ofNat 32 k) (BitVec.ofNat 32 q))).toNat < 32 := by
  unfold bucket
  rw [absi_sub k q hk hq]
  have hb := near_lt (if k < q then q - k else k - q) (by split <;> omega)
  generalize Scalar.select (IntOp.cmpi .slt (BitVec.ofNat 32 (if k < q then q - k else k - q)) 8#32) _ _ = b at hb
  unfold IntOp.addi
  have hc : (Scalar.select (IntOp.cmpi .sgt (IntOp.subi (BitVec.ofNat 32 k) (BitVec.ofNat 32 q)) 0#32) 16#32 0#32).toNat ≤ 16 := by
    unfold Scalar.select; split <;> decide
  rw [BitVec.toNat_add]
  omega

/-- A key more than 128 positions before the query has the last of the buckets for keys before it. -/
theorem bucket_far (k q : ℕ) (hk : k + 128 < q) (hq : q < 2048) :
    bucket (IntOp.subi (BitVec.ofNat 32 k) (BitVec.ofNat 32 q)) = 15#32 := by
  unfold bucket
  rw [absi_sub k q (by omega) hq, if_pos (by omega), far_eq (q - k) (by omega) (by omega)]
  have hs : IntOp.cmpi .sgt (IntOp.subi (BitVec.ofNat 32 k) (BitVec.ofNat 32 q)) 0#32 = 0#1 := by
    show BitVec.ofBool ((0#32).slt _) = 0#1
    have : (0#32).slt (IntOp.subi (BitVec.ofNat 32 k) (BitVec.ofNat 32 q)) = false := by
      unfold IntOp.subi
      rw [BitVec.slt_eq_decide, decide_eq_false_iff_not, BitVec.toInt_eq_toNat_cond, BitVec.toInt_eq_toNat_cond]
      simp only [BitVec.toNat_sub, BitVec.toNat_ofNat, Nat.reducePow, Nat.reduceMod]
      split <;> omega
    rw [this]; rfl
  rw [hs]
  decide

/-- So has the relative position -129. -/
theorem bucket_far_const : bucket 4294967167#32 = 15#32 := by
  have := bucket_far 0 129 (by omega) (by omega)
  exact this

end Layer.Relative

end
-- ==== Proof.SparseSoftmax.lean ====
/- Attention over a set of keys, with the softmax's weights left undivided until the end. Keys that are masked out do not
   count, and a set that falls into consecutive ranges is attended range by range. -/
module

public import Idealize.ShloMosaic.Lib.Pointwise
public import Idealize.ShloMosaic.PureOps.Ideal.Laws

@[expose] public section

noncomputable section

namespace Layer.Attend

open Idealize.ShloMosaic

/-- The weighted mean of `v` under the softmax of the scores `s`, over the keys of `K`. -/
def attend (K : Finset ℕ) (s v : ℕ → EReal) : EReal :=
  Ideal.div (∑ k ∈ K, Ideal.exp (s k - K.sup s) * v k) (∑ k ∈ K, Ideal.exp (s k - K.sup s))

/-- Keys that are masked out do not count. -/
theorem attend_subset {K L : Finset ℕ} (h : K ⊆ L) (s v : ℕ → EReal) (masked : ∀ k ∈ L, k ∉ K → s k = ⊥) :
    attend K s v = attend L s v := by
  have hsup : K.sup s = L.sup s := by
    refine le_antisymm (Finset.sup_mono h) (Finset.sup_le fun k hk => ?_)
    by_cases hm : k ∈ K
    · exact Finset.le_sup hm
    · rw [masked k hk hm]; exact bot_le
  have hzero : ∀ k ∈ L, k ∉ K → Ideal.exp (s k - L.sup s) = 0 := fun k hk hm => by
    rw [masked k hk hm, EReal.bot_sub]
    rfl
  unfold attend
  rw [hsup]
  refine congrArg₂ Ideal.div (Finset.sum_subset h fun k hk hm => ?_) (Finset.sum_subset h fun k hk hm => hzero k hk hm)
  rw [hzero k hk hm, zero_mul]

/-- The scores and values count only at the keys attended. -/
theorem attend_congr {K : Finset ℕ} {s s' v v' : ℕ → EReal} (hs : ∀ k ∈ K, s k = s' k) (hv : ∀ k ∈ K, v k = v' k) :
    attend K s v = attend K s' v' := by
  unfold attend
  rw [Finset.sup_congr rfl hs]
  refine congrArg₂ Ideal.div (Finset.sum_congr rfl fun k hk => ?_) (Finset.sum_congr rfl fun k hk => ?_)
  · rw [hs k hk, hv k hk]
  · rw [hs k hk]

/-- A maximum over the coordinates of an axis, as one over a range of keys. -/
theorem fold_max (a n : ℕ) (s : ℕ → EReal) :
    Finset.fold max ⊥ (fun x : Fin n => s (a + x.val)) Finset.univ = (Finset.Ico a (a + n)).sup s := by
  change Finset.univ.sup (fun x : Fin n => s (a + x.val)) = _
  refine le_antisymm (Finset.sup_le fun x _ => Finset.le_sup (f := s) (Finset.mem_Ico.2 ⟨by omega, by omega⟩))
    (Finset.sup_le fun k hk => ?_)
  obtain ⟨h1, h2⟩ := Finset.mem_Ico.1 hk
  have := Finset.le_sup (f := fun x : Fin n => s (a + x.val)) (Finset.mem_univ ⟨k - a, by omega⟩)
  rwa [show a + (⟨k - a, by omega⟩ : Fin n).val = k by dsimp only; omega] at this

/-- A sum over the coordinates of an axis, as one over a range of keys. -/
theorem sum_axis (a n : ℕ) (f : ℕ → EReal) :
    ∑ x : Fin n, f (a + x.val) = ∑ k ∈ Finset.Ico a (a + n), f k := by
  rw [Finset.sum_Ico_eq_sum_range, Finset.sum_range, Nat.add_sub_cancel_left]

/-- A maximum over the coordinates of an axis, as one over the first keys. -/
theorem fold_max_zero (n : ℕ) (s : ℕ → EReal) :
    Finset.fold max ⊥ (fun x : Fin n => s x.val) Finset.univ = (Finset.Ico 0 n).sup s := by
  have := fold_max 0 n s
  simpa only [Nat.zero_add] using this

/-- A sum over the coordinates of an axis, as one over the first keys. -/
theorem sum_axis_zero (n : ℕ) (f : ℕ → EReal) : ∑ x : Fin n, f x.val = ∑ k ∈ Finset.Ico 0 n, f k := by
  have := sum_axis 0 n f
  simpa only [Nat.zero_add] using this

/-- The greater of the maxima of two consecutive ranges is the maximum of both. -/
theorem sup_consecutive {a b c : ℕ} (hab : a ≤ b) (hbc : b ≤ c) (s : ℕ → EReal) :
    max ((Finset.Ico a b).sup s) ((Finset.Ico b c).sup s) = (Finset.Ico a c).sup s := by
  rw [← Finset.Ico_union_Ico_eq_Ico hab hbc, Finset.sup_union]

/-- A sum of multiples by a real that is not negative is the multiple of the sum. -/
theorem sum_mul_real {ι : Type} (K : Finset ι) (f : ι → EReal) (c : ℝ) (hc : 0 ≤ c) :
    ∑ k ∈ K, f k * (c : EReal) = (∑ k ∈ K, f k) * (c : EReal) := by
  classical
  induction K using Finset.induction_on with
  | empty => simp
  | insert a K ha ih =>
    rw [Finset.sum_insert ha, Finset.sum_insert ha, ih,
      EReal.right_distrib_of_nonneg_of_ne_top (EReal.coe_nonneg.2 hc) (EReal.coe_ne_top c)]

/-- A sum of reals is a real. -/
theorem sum_real {ι : Type} (K : Finset ι) (f : ι → EReal) (g : ι → ℝ) (h : ∀ k ∈ K, f k = (g k : EReal)) :
    ∑ k ∈ K, f k = ((∑ k ∈ K, g k : ℝ) : EReal) := by
  classical
  rw [Finset.sum_congr rfl h]
  induction K using Finset.induction_on with
  | empty => simp
  | insert a K ha ih =>
    rw [Finset.sum_insert ha, Finset.sum_insert ha, EReal.coe_add, ih fun k hk => h k (Finset.mem_insert_of_mem hk)]

/-- Dividing each weight by their sum before weighing the values, which the softmax does, is attention, where no score is
    infinitely great and some key is not masked out. -/
theorem softmax_attend (K : Finset ℕ) (s v : ℕ → EReal) (top : ∀ k ∈ K, s k ≠ ⊤) (some : ∃ k ∈ K, s k ≠ ⊥) :
    ∑ k ∈ K, v k * Ideal.div (Ideal.exp (s k - K.sup s)) (∑ k ∈ K, Ideal.exp (s k - K.sup s)) = attend K s v := by
  obtain ⟨j, hj, hjb⟩ := some
  have hM : ∃ m : ℝ, K.sup s = (m : EReal) := by
    induction hS : K.sup s using EReal.rec with
    | bot => exact absurd (le_bot_iff.1 (hS ▸ Finset.le_sup (f := s) hj)) hjb
    | coe m => exact ⟨m, rfl⟩
    | top =>
      obtain ⟨i, hi, h⟩ := Finset.exists_mem_eq_sup K ⟨j, hj⟩ s
      exact absurd (h.symm.trans hS) (top i hi)
  obtain ⟨m, hm⟩ := hM
  unfold attend
  rw [hm]
  have hw : ∀ k ∈ K, Ideal.exp (s k - (m : EReal)) = ((Ideal.exp (s k - (m : EReal))).toReal : EReal)
      ∧ 0 ≤ (Ideal.exp (s k - (m : EReal))).toReal := by
    intro k hk
    have ht := top k hk
    induction h : s k using EReal.rec with
    | bot => rw [EReal.bot_sub]; exact ⟨by change (0 : EReal) = ((0 : EReal).toReal : EReal); simp, by change 0 ≤ (0 : EReal).toReal; simp⟩
    | coe r =>
      rw [← EReal.coe_sub]
      exact ⟨rfl, (Real.exp_pos _).le⟩
    | top => exact absurd h ht
  rw [sum_real K _ _ fun k hk => (hw k hk).1]
  have hj0 : 0 < (Ideal.exp (s j - (m : EReal))).toReal := by
    have ht := top j hj
    induction h : s j using EReal.rec with
    | bot => exact absurd h hjb
    | coe r => rw [← EReal.coe_sub]; exact Real.exp_pos _
    | top => exact absurd h ht
  have hL : 0 < ∑ k ∈ K, (Ideal.exp (s k - (m : EReal))).toReal :=
    Finset.sum_pos' (fun k hk => (hw k hk).2) ⟨j, hj, hj0⟩
  rw [Ideal.div_coe hL.ne', ← sum_mul_real K _ _ (by positivity)]
  refine Finset.sum_congr rfl fun k _ => ?_
  rw [Ideal.div_coe hL.ne', ← mul_assoc, mul_comm (v k)]

end Layer.Attend

end
-- ==== Proof.SparseAttnSpec.lean ====
/- What the sparse attention is shown to compute: for each head and query, attention over the 2048 keys of the query's
   sequence, its scores carrying a bias of the key's distance and masked where the key is not selected. -/
module

public import proofs.«01_k».proof.Proof.RelativeBias
public import proofs.«01_k».proof.Proof.SparseSoftmax
public import Idealize.ShloMosaic.Lib.ValueIdx

@[expose] public section

noncomputable section

namespace Layer.Sparse

open Idealize.ShloMosaic

/-- The bias of a head for a key and a query, by their positions in the sequence. -/
def bias (table : Vec Ideal ⟨2, ![32, 16]⟩ .f32) (h : Fin 16) (q k : ℕ) : EReal :=
  table (ix2 ⟨(Layer.Relative.bucket (IntOp.subi (BitVec.ofNat 32 k) (BitVec.ofNat 32 q))).toNat % 32, Nat.mod_lt _ (by decide)⟩ h)

/-- The row of a key of the sequence that holds row `r`. -/
def keyRow (r k : ℕ) : Fin 16384 := ⟨(r / 2048 * 2048 + k) % 16384, Nat.mod_lt _ (by decide)⟩

/-- A key's score where the key counts. -/
def raw (table : Vec Ideal ⟨2, ![32, 16]⟩ .f32) (q : Vec Ideal ⟨3, ![16, 16384, 512]⟩ .bf16) (kv : Vec Ideal ⟨2, ![16384, 512]⟩ .f32)
    (h : Fin 16) (r : Fin 16384) (k : ℕ) : EReal :=
  (∑ x : Fin 512, kv (ix2 (keyRow r.val k) x) * q (ix3 h r x)) * Ideal.ofBits FTy.f32 0x3DB504F3#32 + bias table h (r.val % 2048) k

/-- Whether a key is selected for a query. -/
def selected (sel : Vec Ideal ⟨2, ![16384, 2048]⟩ .f32) (r : Fin 16384) (k : ℕ) : Prop :=
  (0 : EReal) < sel (ix2 r ⟨k % 2048, Nat.mod_lt _ (by decide)⟩)

open Classical in
/-- The score of a key. -/
def score (table : Vec Ideal ⟨2, ![32, 16]⟩ .f32) (q : Vec Ideal ⟨3, ![16, 16384, 512]⟩ .bf16) (kv : Vec Ideal ⟨2, ![16384, 512]⟩ .f32)
    (sel : Vec Ideal ⟨2, ![16384, 2048]⟩ .f32) (h : Fin 16) (r : Fin 16384) (k : ℕ) : EReal :=
  if selected sel r k then raw table q kv h r k else ⊥

/-- The sparse attention, at a head, row and dimension. -/
def out (table : Vec Ideal ⟨2, ![32, 16]⟩ .f32) (q : Vec Ideal ⟨3, ![16, 16384, 512]⟩ .bf16) (kv : Vec Ideal ⟨2, ![16384, 512]⟩ .f32)
    (sel : Vec Ideal ⟨2, ![16384, 2048]⟩ .f32) (h : Fin 16) (r : Fin 16384) (d : Fin 512) : EReal :=
  Layer.Attend.attend (Finset.Ico 0 2048) (score table q kv sel h r) fun k => kv (ix2 (keyRow r.val k) d)

/-- What masks a key out. -/
theorem masked_eq : Ideal.ofBits FTy.f32 0xFF800000#32 = ⊥ := by
  simp only [Ideal.ofBits, Ideal.ieee, show (BitVec.extractLsb' (8 + 23) 1 0xFF800000#32 == 1#1) = true by decide,
    show (BitVec.extractLsb' 23 8 0xFF800000#32).toNat = 255 by decide, show (BitVec.extractLsb' 0 23 0xFF800000#32).toNat = 0 by decide]
  norm_num

/-- The scale of the scores is a real. -/
theorem scale_real : ∃ c : ℝ, Ideal.ofBits FTy.f32 0x3DB504F3#32 = (c : EReal) := by
  simp only [Ideal.ofBits, Ideal.ieee, show (BitVec.extractLsb' (8 + 23) 1 0x3DB504F3#32 == 1#1) = false by decide,
    show (BitVec.extractLsb' 23 8 0x3DB504F3#32).toNat = 123 by decide, show (BitVec.extractLsb' 0 23 0x3DB504F3#32).toNat = 3474675 by decide]
  norm_num

end Layer.Sparse

end
-- ==== Proof.SparseAttnParts.lean ====
/- The parts that the sparse attention's kernel is made of: a range's scores, their greatest, their weights against the
   greatest, and the sums and mixed values that the result is divided out of. -/
module

public import proofs.«01_k».proof.Proof.SparseAttnSpec
public import proofs.«01_k».proof.Proof.Gen.Kernel12Ideal.Value
public import Idealize.ShloMosaic.Lib.Pointwise
public import Idealize.ShloMosaic.Lib.Pipeline.ValueKit
public import Idealize.ShloMosaic.PureOps.Ideal.Laws

@[expose] public section

set_option maxRecDepth 16384

noncomputable section

namespace Cert.Kernel12Ideal.Sparse

open Idealize.ShloMosaic Idealize.ShloMosaic.TcCoe
open Cert.Kernel12Ideal Cert.Kernel12Ideal.Gen

/-- A key's weight against the greatest score of the first `n` keys. -/
def soft (n : ℕ) (s : ℕ → EReal) (k : ℕ) : EReal := Ideal.exp (s k - (Finset.Ico 0 n).sup s)

/-! ## A range of 256 keys -/

/-- The greatest score of each row. -/
def greatest (S : FVec Ideal S16x64x256 .f32) : FVec Ideal S16x64x1 .f32 :=
  shapeCast S16x64x1 (multiReduction .maximumf [2] S16x64 S 0xFF800000#32 reduces_S16x64x256_S16x64 (.inl rfl) rfl) shapeCasts_S16x64_S16x64x1

theorem greatest_apply (S : FVec Ideal S16x64x256 .f32) (h : Fin 16) (r : Fin 64) (a : ℕ) (s : ℕ → EReal)
    (hS : ∀ x : Fin 256, S (ix3 h r x) = s (a + x.val)) : greatest S (ix3 h r 0) = (Finset.Ico a (a + 256)).sup s := by
  have e : greatest S (ix3 h r 0) = Finset.fold max (Ideal.ofBits FTy.f32 0xFF800000#32) (fun x : Fin 256 => S (ix3 h r x)) Finset.univ := by
    unfold greatest
    pointwise
  rw [e, Layer.Sparse.masked_eq, ← Layer.Attend.fold_max]
  simp only [hS]

/-- The weights of the keys. -/
def weights (S : FVec Ideal S16x64x256 .f32) (M : FVec Ideal S16x64x1 .f32) : FVec Ideal S16x64x256 .f32 :=
  exp (subf S (broadcastTo S16x64x256 M broadcasts_S16x64x1_S16x64x256))

theorem weights_apply (S : FVec Ideal S16x64x256 .f32) (M : FVec Ideal S16x64x1 .f32) (h : Fin 16) (r : Fin 64) (x : Fin 256) :
    weights S M (ix3 h r x) = Ideal.exp (S (ix3 h r x) - M (ix3 h r 0)) := by
  unfold weights
  pointwise

/-- The sum of each row's weights. -/
def total (W : FVec Ideal S16x64x256 .f32) : FVec Ideal S16x64x1 .f32 :=
  shapeCast S16x64x1 (multiReduction .add [2] S16x64 W 0x00000000#32 reduces_S16x64x256_S16x64 (.inl rfl) rfl) shapeCasts_S16x64_S16x64x1

theorem total_apply (W : FVec Ideal S16x64x256 .f32) (h : Fin 16) (r : Fin 64) (a : ℕ) (f : ℕ → EReal)
    (hW : ∀ x : Fin 256, W (ix3 h r x) = f (a + x.val)) : total W (ix3 h r 0) = ∑ k ∈ Finset.Ico a (a + 256), f k := by
  have e : total W (ix3 h r 0) = ∑ x : Fin 256, W (ix3 h r x) := by
    unfold total
    pointwise
  rw [e, ← Layer.Attend.sum_axis]
  simp only [hW]

/-- The values mixed by the weights. -/
def mixed (W : FVec Ideal S16x64x256 .f32) (v : FVec Ideal S256x512 .bf16) : FVec Ideal S1024x512 .f32 :=
  matmul dot_S1024x256_S256x512_S1024x512_1_0_0_1_n_n none
    (truncf .bf16 (shapeCast S1024x256 W shapeCasts_S16x64x256_S1024x256) bitsLt_bf16_f32) v (constant S1024x512 .f32 0x00000000#32)

theorem mixed_apply (W : FVec Ideal S16x64x256 .f32) (v : FVec Ideal S256x512 .bf16) (h : Fin 16) (r : Fin 64) (d : Fin 512)
    (a : ℕ) (f g : ℕ → EReal) (hW : ∀ x : Fin 256, W (ix3 h r x) = f (a + x.val)) (hv : ∀ x : Fin 256, v (ix2 x d) = g (a + x.val)) :
    mixed W v (ix2 (⟨h.val * 64 + r.val, by omega⟩ : Fin 1024) d) = ∑ k ∈ Finset.Ico a (a + 256), f k * g k := by
  have e : mixed W v (ix2 (⟨h.val * 64 + r.val, by omega⟩ : Fin 1024) d) = ∑ x : Fin 256, W (ix3 h r x) * v (ix2 x d) := by
    unfold mixed
    pointwise
  rw [e, ← Layer.Attend.sum_axis a 256 fun k => f k * g k]
  simp only [hW, hv]

/-! ## The quotient -/

/-- The mixed values over the sum of the weights. -/
def quotient (T : FVec Ideal S16x64x1 .f32) (N : FVec Ideal S1024x512 .f32) : FVec Ideal S16x64x512 .bf16 :=
  truncf .bf16 (divf (shapeCast S16x64x512 N shapeCasts_S1024x512_S16x64x512)
    (broadcastTo S16x64x512 T broadcasts_S16x64x1_S16x64x512)) bitsLt_bf16_f32

theorem quotient_apply (T : FVec Ideal S16x64x1 .f32) (N : FVec Ideal S1024x512 .f32) (h : Fin 16) (r : Fin 64) (d : Fin 512) :
    quotient T N (ix3 h r d) = Ideal.div (N (ix2 (⟨h.val * 64 + r.val, by omega⟩ : Fin 1024) d)) (T (ix3 h r 0)) := by
  unfold quotient
  pointwise

/-! ## One, two and three ranges -/

variable (s v : ℕ → EReal) (h : Fin 16) (r : Fin 64) (d : Fin 512)

/-- The attention over one range. -/
theorem one_range (S : FVec Ideal S16x64x256 .f32) (kv : FVec Ideal S256x512 .bf16)
    (hS : ∀ x : Fin 256, S (ix3 h r x) = s (0 + x.val)) (hv : ∀ x : Fin 256, kv (ix2 x d) = v (0 + x.val)) :
    quotient (total (weights S (greatest S))) (mixed (weights S (greatest S)) kv) (ix3 h r d)
      = Layer.Attend.attend (Finset.Ico 0 256) s v := by
  have hM := greatest_apply S h r 0 s hS
  generalize greatest S = M at hM
  have hW : ∀ x : Fin 256, weights S M (ix3 h r x) = soft 256 s (0 + x.val) := fun x => by
    rw [weights_apply, hS, hM]; rfl
  rw [quotient_apply, total_apply _ h r 0 _ hW, mixed_apply _ _ h r d 0 _ v hW hv]
  rfl

/-- The attention over two ranges. -/
theorem two_ranges (S0 S1 : FVec Ideal S16x64x256 .f32) (kv0 kv1 : FVec Ideal S256x512 .bf16) (M : FVec Ideal S16x64x1 .f32)
    (hM : M = maximumf (greatest S0) (greatest S1))
    (hS0 : ∀ x : Fin 256, S0 (ix3 h r x) = s (0 + x.val)) (hv0 : ∀ x : Fin 256, kv0 (ix2 x d) = v (0 + x.val))
    (hS1 : ∀ x : Fin 256, S1 (ix3 h r x) = s (256 + x.val)) (hv1 : ∀ x : Fin 256, kv1 (ix2 x d) = v (256 + x.val)) :
    quotient (addf (total (weights S0 M)) (total (weights S1 M))) (addf (mixed (weights S0 M) kv0) (mixed (weights S1 M) kv1)) (ix3 h r d)
      = Layer.Attend.attend (Finset.Ico 0 512) s v := by
  have hm : M (ix3 h r 0) = (Finset.Ico 0 512).sup s := by
    have e : M (ix3 h r 0) = max (greatest S0 (ix3 h r 0)) (greatest S1 (ix3 h r 0)) := by rw [hM]; rfl
    rw [e, greatest_apply S0 h r 0 s hS0, greatest_apply S1 h r 256 s hS1]
    exact Layer.Attend.sup_consecutive (by decide) (by decide) s
  clear hM
  have hW0 : ∀ x : Fin 256, weights S0 M (ix3 h r x) = soft 512 s (0 + x.val) := fun x => by
    rw [weights_apply, hS0, hm]; rfl
  have hW1 : ∀ x : Fin 256, weights S1 M (ix3 h r x) = soft 512 s (256 + x.val) := fun x => by
    rw [weights_apply, hS1, hm]; rfl
  rw [quotient_apply]
  have eT : addf (total (weights S0 M)) (total (weights S1 M)) (ix3 h r 0)
      = total (weights S0 M) (ix3 h r 0) + total (weights S1 M) (ix3 h r 0) := rfl
  have eN : ∀ i, addf (mixed (weights S0 M) kv0) (mixed (weights S1 M) kv1) i = mixed (weights S0 M) kv0 i + mixed (weights S1 M) kv1 i :=
    fun _ => rfl
  rw [eT, eN, total_apply _ h r 0 _ hW0, total_apply _ h r 256 _ hW1, mixed_apply _ _ h r d 0 _ v hW0 hv0,
    mixed_apply _ _ h r d 256 _ v hW1 hv1, Finset.sum_Ico_consecutive _ (by decide) (by decide),
    Finset.sum_Ico_consecutive _ (by decide) (by decide)]
  rfl

/-- The attention over three ranges. -/
theorem three_ranges (S0 S1 S2 : FVec Ideal S16x64x256 .f32) (kv0 kv1 kv2 : FVec Ideal S256x512 .bf16) (M : FVec Ideal S16x64x1 .f32)
    (hM : M = maximumf (maximumf (greatest S0) (greatest S1)) (greatest S2))
    (hS0 : ∀ x : Fin 256, S0 (ix3 h r x) = s (0 + x.val)) (hv0 : ∀ x : Fin 256, kv0 (ix2 x d) = v (0 + x.val))
    (hS1 : ∀ x : Fin 256, S1 (ix3 h r x) = s (256 + x.val)) (hv1 : ∀ x : Fin 256, kv1 (ix2 x d) = v (256 + x.val))
    (hS2 : ∀ x : Fin 256, S2 (ix3 h r x) = s (512 + x.val)) (hv2 : ∀ x : Fin 256, kv2 (ix2 x d) = v (512 + x.val)) :
    quotient (addf (addf (total (weights S0 M)) (total (weights S1 M))) (total (weights S2 M)))
        (addf (addf (mixed (weights S0 M) kv0) (mixed (weights S1 M) kv1)) (mixed (weights S2 M) kv2)) (ix3 h r d)
      = Layer.Attend.attend (Finset.Ico 0 768) s v := by
  have hm : M (ix3 h r 0) = (Finset.Ico 0 768).sup s := by
    have e : M (ix3 h r 0) = max (max (greatest S0 (ix3 h r 0)) (greatest S1 (ix3 h r 0))) (greatest S2 (ix3 h r 0)) := by rw [hM]; rfl
    rw [e, greatest_apply S0 h r 0 s hS0, greatest_apply S1 h r 256 s hS1, greatest_apply S2 h r 512 s hS2,
      Layer.Attend.sup_consecutive (by decide) (by decide) s]
    exact Layer.Attend.sup_consecutive (by decide) (by decide) s
  clear hM
  have hW0 : ∀ x : Fin 256, weights S0 M (ix3 h r x) = soft 768 s (0 + x.val) := fun x => by
    rw [weights_apply, hS0, hm]; rfl
  have hW1 : ∀ x : Fin 256, weights S1 M (ix3 h r x) = soft 768 s (256 + x.val) := fun x => by
    rw [weights_apply, hS1, hm]; rfl
  have hW2 : ∀ x : Fin 256, weights S2 M (ix3 h r x) = soft 768 s (512 + x.val) := fun x => by
    rw [weights_apply, hS2, hm]; rfl
  rw [quotient_apply]
  have eT : addf (addf (total (weights S0 M)) (total (weights S1 M))) (total (weights S2 M)) (ix3 h r 0)
      = total (weights S0 M) (ix3 h r 0) + total (weights S1 M) (ix3 h r 0) + total (weights S2 M) (ix3 h r 0) := rfl
  have eN : ∀ i, addf (addf (mixed (weights S0 M) kv0) (mixed (weights S1 M) kv1)) (mixed (weights S2 M) kv2) i
      = mixed (weights S0 M) kv0 i + mixed (weights S1 M) kv1 i + mixed (weights S2 M) kv2 i := fun _ => rfl
  rw [eT, eN, total_apply _ h r 0 _ hW0, total_apply _ h r 256 _ hW1, total_apply _ h r 512 _ hW2, mixed_apply _ _ h r d 0 _ v hW0 hv0,
    mixed_apply _ _ h r d 256 _ v hW1 hv1, mixed_apply _ _ h r d 512 _ v hW2 hv2, Finset.sum_Ico_consecutive _ (by decide) (by decide),
    Finset.sum_Ico_consecutive _ (by decide) (by decide), Finset.sum_Ico_consecutive _ (by decide) (by decide),
    Finset.sum_Ico_consecutive _ (by decide) (by decide)]
  rfl

end Cert.Kernel12Ideal.Sparse

end
-- ==== Proof.SparseAttnPayloads.lean ====
/- What the sparse attention's kernel computes at a point, in terms of its parts, and the scores it computes for a range of
   256 keys: the keys of the query's own block, of the block before, or farther back. -/
module

public import proofs.«01_k».proof.Proof.SparseAttnParts

@[expose] public section

set_option maxRecDepth 16384

noncomputable section

namespace Cert.Kernel12Ideal.Sparse

open Idealize.ShloMosaic Idealize.ShloMosaic.TcCoe
open Cert.Kernel12Ideal Cert.Kernel12Ideal.Gen

variable (q : Vec Ideal S16x64x512 .bf16)

/-! ## The scores of a range -/

open Classical in
/-- A key's score. -/
def key (se kq b : EReal) : EReal := if 0 < se then kq * Ideal.ofBits FTy.f32 0x3DB504F3#32 + b else ⊥

/-- A range with a table of biases. -/
theorem near_apply (kv : Vec Ideal S256x512 .f32) (se : Vec Ideal S64x256 .f32) (b : Vec Ideal S1x16x64x256 .f32)
    (h : Fin 16) (r : Fin 64) (x : Fin 256) :
    k0_pay3 (F := Ideal) (k0_pay91 q) kv se b (ix3 h r x)
      = key (se (ix2 r x)) (∑ y : Fin 512, q (ix3 h r y) * kv (ix2 x y)) (b (ix4 0 h r x)) := by
  unfold key
  rw [← Layer.Sparse.masked_eq]
  unfold k0_pay3 k0_pay2 k0_pay91
  pointwise

/-- A range farther back. -/
theorem far_range_apply (kv : Vec Ideal S256x512 .f32) (se : Vec Ideal S64x256 .f32) (b : Vec Ideal S16x1x1 .f32)
    (h : Fin 16) (r : Fin 64) (x : Fin 256) :
    k0_pay10 (F := Ideal) (k0_pay91 q) kv se b (ix3 h r x)
      = key (se (ix2 r x)) (∑ y : Fin 512, q (ix3 h r y) * kv (ix2 x y)) (b (ix3 h 0 0)) := by
  unfold key
  rw [← Layer.Sparse.masked_eq]
  unfold k0_pay10 k0_pay9 k0_pay91
  pointwise

/-- The values of a range are its rows. -/
theorem rows_apply (kv : Vec Ideal S256x512 .f32) (i : S256x512.Idx) : k0_pay2 (F := Ideal) kv i = kv i := rfl

/-! ## What a point computes -/

/-- A point of the first block. -/
theorem point_one (kv : Vec Ideal S256x512 .f32) (se : Vec Ideal S64x256 .f32) (b : Vec Ideal S1x16x64x256 .f32) :
    k0_pay92 (F := Ideal) q kv se b
      = quotient (total (weights (k0_pay3 (k0_pay91 q) kv se b) (greatest (k0_pay3 (k0_pay91 q) kv se b))))
          (mixed (weights (k0_pay3 (k0_pay91 q) kv se b) (greatest (k0_pay3 (k0_pay91 q) kv se b))) (k0_pay2 kv)) := rfl

/-- A point of the second block. -/
theorem point_two (kv0 kv1 : Vec Ideal S256x512 .f32) (se0 se1 : Vec Ideal S64x256 .f32) (b0 b1 : Vec Ideal S1x16x64x256 .f32) :
    ∃ M, M = maximumf (greatest (k0_pay3 (k0_pay91 q) kv0 se0 b0)) (greatest (k0_pay3 (k0_pay91 q) kv1 se1 b1))
      ∧ k0_pay93 (F := Ideal) (k0_pay2 kv0) (k0_pay3 (k0_pay91 q) kv0 se0 b0) (k0_pay4 kv1) (k0_pay5 (k0_pay91 q) kv1 se1 b1)
          (k0_pay6 (k0_pay91 q) kv0 se0 b0)
        = quotient (addf (total (weights (k0_pay3 (k0_pay91 q) kv0 se0 b0) M)) (total (weights (k0_pay3 (k0_pay91 q) kv1 se1 b1) M)))
            (addf (mixed (weights (k0_pay3 (k0_pay91 q) kv0 se0 b0) M) (k0_pay2 kv0))
              (mixed (weights (k0_pay3 (k0_pay91 q) kv1 se1 b1) M) (k0_pay2 kv1))) :=
  ⟨_, rfl, rfl⟩

/-- A point of the third block. -/
theorem point_three (kv0 kv1 kv2 : Vec Ideal S256x512 .f32) (se0 se1 se2 : Vec Ideal S64x256 .f32) (b0 : Vec Ideal S16x1x1 .f32)
    (b1 b2 : Vec Ideal S1x16x64x256 .f32) :
    ∃ M, M = maximumf (maximumf (greatest (k0_pay10 (k0_pay91 q) kv0 se0 b0)) (greatest (k0_pay3 (k0_pay91 q) kv1 se1 b1)))
        (greatest (k0_pay3 (k0_pay91 q) kv2 se2 b2))
      ∧ k0_pay94 (F := Ideal) (k0_pay14 kv2) (k0_pay15 (k0_pay91 q) kv2 se2 (k0_pay8 b2))
          (k0_pay16 (k0_pay91 q) se1 (k0_pay7 b1) kv2 se2 (k0_pay8 b2) (k0_pay10 (k0_pay91 q) kv0 se0 b0) (k0_pay12 (k0_pay91 q) kv1))
          (k0_pay19 (k0_pay91 q) se1 (k0_pay7 b1) kv2 se2 (k0_pay8 b2) (k0_pay10 (k0_pay91 q) kv0 se0 b0) (k0_pay12 (k0_pay91 q) kv1))
          (k0_pay20 (k0_pay91 q) se1 (k0_pay7 b1) kv2 se2 (k0_pay8 b2) (k0_pay9 kv0) (k0_pay10 (k0_pay91 q) kv0 se0 b0) (k0_pay11 kv1)
            (k0_pay12 (k0_pay91 q) kv1))
        = quotient (addf (addf (total (weights (k0_pay10 (k0_pay91 q) kv0 se0 b0) M)) (total (weights (k0_pay3 (k0_pay91 q) kv1 se1 b1) M)))
              (total (weights (k0_pay3 (k0_pay91 q) kv2 se2 b2) M)))
            (addf (addf (mixed (weights (k0_pay10 (k0_pay91 q) kv0 se0 b0) M) (k0_pay2 kv0))
              (mixed (weights (k0_pay3 (k0_pay91 q) kv1 se1 b1) M) (k0_pay2 kv1)))
              (mixed (weights (k0_pay3 (k0_pay91 q) kv2 se2 b2) M) (k0_pay2 kv2))) :=
  ⟨_, rfl, rfl⟩

end Cert.Kernel12Ideal.Sparse

end
-- ==== Proof.SparseAttnTables.lean ====
/- The tables of biases that the sparse attention's kernel is given: one of the keys of a query's own block, one of the block
   before it, and for each head the bias of every key farther back. -/
module

public import proofs.«01_k».proof.Proof.SparseAttnSpec
public import proofs.«01_k».proof.Proof.Gen.Kernel12Ideal.Value
public import Idealize.ShloMosaic.Lib.Pointwise
public import Idealize.ShloMosaic.Lib.Pipeline.ValueKit
public import Idealize.ShloMosaic.PureOps.Ideal.Laws

@[expose] public section

set_option maxRecDepth 16384

noncomputable section

namespace Cert.Kernel12Ideal.Sparse

open Idealize.ShloMosaic Idealize.ShloMosaic.TcCoe
open Cert.Kernel12Ideal Cert.Kernel12Ideal.Gen

/-- The bias of a distance, given as a difference. -/
theorem bias_shift (table : FVec Ideal S32x16 .f32) (h : Fin 16) (q k n : ℕ) :
    Layer.Sparse.bias table h (q + n) (k + n) = Layer.Sparse.bias table h q k := by
  have e : IntOp.subi (BitVec.ofNat 32 (k + n)) (BitVec.ofNat 32 (q + n)) = IntOp.subi (BitVec.ofNat 32 k) (BitVec.ofNat 32 q) := by
    refine BitVec.eq_of_toNat_eq ?_
    unfold IntOp.subi
    rw [BitVec.toNat_sub, BitVec.toNat_sub, BitVec.toNat_ofNat, BitVec.toNat_ofNat, BitVec.toNat_ofNat, BitVec.toNat_ofNat]
    omega
  unfold Layer.Sparse.bias
  simp only [e]

/-- The bias of a key more than 128 before the query. -/
theorem bias_far (table : FVec Ideal S32x16 .f32) (h : Fin 16) (q k : ℕ) (hk : k + 128 < q) (hq : q < 2048) :
    Layer.Sparse.bias table h q k = table (ix2 15 h) := by
  unfold Layer.Sparse.bias
  simp only [Layer.Relative.bucket_far k q hk hq]
  rfl

/-- The buckets of an array of distances. -/
def buckets {S : Shape} (b : S_.BroadcastsInDim S ![]) (rel : IVec S 32) : IVec S 32 :=
  addi (id (select (cmpi .sgt rel (broadcastInDim S ![] b (constantI S_ 32 0#32)))
      (broadcastInDim S ![] b (constantI S_ 32 16#32)) (broadcastInDim S ![] b (constantI S_ 32 0#32))))
    (select (cmpi .slt (absi rel) (broadcastInDim S ![] b (constantI S_ 32 8#32))) (absi rel)
      (minsi (addi (broadcastInDim S ![] b (constantI S_ 32 8#32))
        (fptosi 32 (mulf (Host.divf (Host.log (Host.divf (sitofp (F := Ideal) .f32
          (maxsi (absi rel) (broadcastInDim S ![] b (constantI S_ 32 1#32))))
          (broadcastInDim S ![] b (constant S_ .f32 0x41000000#32))))
          (broadcastInDim S ![] b (constant S_ .f32 0x40317218#32)))
          (broadcastInDim S ![] b (constant S_ .f32 0x41000000#32)))))
        (broadcastInDim S ![] b (constantI S_ 32 15#32))))

/-- The bucket at an entry. -/
theorem buckets_apply {S : Shape} (b : S_.BroadcastsInDim S ![]) (rel : IVec S 32) (i : S.Idx) (u : BitVec 32) (hu : rel i = u) :
    buckets b rel i = Layer.Relative.bucket u := by
  subst hu
  rfl

/-- The distances of 256 keys, from `off` on, and the 256 queries of a block. -/
def distances (off : BitVec 32) : IVec S4x64x256 32 :=
  subi (broadcastInDim S4x64x256 ![0, 1, 2] bcast_S1x1x256_S4x64x256_0_1_2 (broadcastInDim S1x1x256 ![2] bcast_S256_S1x1x256_2
      (addi (broadcastInDim S256 ![] bcast_S_S256 (constantI S_ 32 off)) (iotaInDim S256 32 0))))
    (broadcastInDim S4x64x256 ![0, 1, 2] bcast_S4x64x1_S4x64x256_0_1_2 (broadcastInDim S4x64x1 ![0, 1] bcast_S4x64_S4x64x1_0_1
      (shapeCast S4x64 (iotaInDim S256 32 0) shapeCasts_S256_S4x64)))

theorem distances_apply (off : BitVec 32) (a : Fin 4) (b : Fin 64) (x : Fin 256) :
    distances off (ix3 a b x) = IntOp.subi (IntOp.addi off (BitVec.ofNat 32 x.val)) (BitVec.ofNat 32 (a.val * 64 + b.val)) := by
  unfold distances
  pointwise

/-- A table of biases: the one-hot rows of the distances' buckets times the biases. -/
def biases (off : BitVec 32) (table : FVec Ideal S32x16 .f32) : FVec Ideal S4x16x64x256 .f32 :=
  transpose S4x16x64x256 [1, 0, 2, 3] (Host.dotGeneral dot_S32x16_S4x64x256x32_S16x4x64x256_0_3_1_012_n_n (some .fp32) table
    (uitofp .f32 (cmpi .eq
      (broadcastInDim S4x64x256x32 ![0, 1, 2, 3] bcast_S4x64x256x1_S4x64x256x32_0_1_2_3
        (broadcastInDim S4x64x256x1 ![0, 1, 2] bcast_S4x64x256_S4x64x256x1_0_1_2 (buckets bcast_S_S4x64x256 (distances off))))
      (broadcastInDim S4x64x256x32 ![0, 1, 2, 3] bcast_S1x1x1x32_S4x64x256x32_0_1_2_3
        (broadcastInDim S1x1x1x32 ![3] bcast_S32_S1x1x1x32_3 (iotaInDim S32 32 0)))))) transposes_S16x4x64x256_S4x16x64x256_1_0_2_3

/-- A sum against a one-hot row picks out the entry. -/
theorem one_hot (f : Fin 32 → EReal) (u : BitVec 32) (hu : u.toNat < 32) :
    ∑ x : Fin 32, f x * FloatOps.uitofp (F := Ideal) FTy.f32 (IntOp.cmpi .eq u (BitVec.ofNat 32 x.val))
      = f ⟨u.toNat % 32, Nat.mod_lt _ (by decide)⟩ := by
  rw [Finset.sum_eq_single (⟨u.toNat % 32, Nat.mod_lt _ (by decide)⟩ : Fin 32)]
  · have e : BitVec.ofNat 32 (u.toNat % 32) = u := BitVec.eq_of_toNat_eq (by rw [BitVec.toNat_ofNat]; omega)
    dsimp only
    rw [e]
    have h1 : IntOp.cmpi .eq u u = 1#1 := by simp [IntOp.cmpi]
    rw [h1]
    change f _ * (((1#1 : BitVec 1).toNat : ℝ) : EReal) = f _
    norm_num
  · intro x _ hx
    have hne : (u == BitVec.ofNat 32 x.val) = false := by
      rw [beq_eq_false_iff_ne]
      intro e
      refine hx (Fin.ext ?_)
      dsimp only
      rw [e, BitVec.toNat_ofNat]
      omega
    have h0 : IntOp.cmpi .eq u (BitVec.ofNat 32 x.val) = 0#1 := by
      unfold IntOp.cmpi
      dsimp only
      rw [hne]
      rfl
    rw [h0]
    change f x * (((0#1 : BitVec 1).toNat : ℝ) : EReal) = 0
    norm_num
  · exact fun h => absurd (Finset.mem_univ _) h

theorem biases_apply (off : BitVec 32) (table : FVec Ideal S32x16 .f32) (a : Fin 4) (h : Fin 16) (b : Fin 64) (x : Fin 256) (q k : ℕ)
    (hk : k < 2048) (hq : q < 2048)
    (hd : IntOp.subi (IntOp.addi off (BitVec.ofNat 32 x.val)) (BitVec.ofNat 32 (a.val * 64 + b.val))
      = IntOp.subi (BitVec.ofNat 32 k) (BitVec.ofNat 32 q)) :
    biases off table (ix4 a h b x) = Layer.Sparse.bias table h q k := by
  have hb := buckets_apply bcast_S_S4x64x256 (distances off) (ix3 a b x) _ ((distances_apply off a b x).trans hd)
  have hlt := Layer.Relative.bucket_lt k q hk hq
  unfold biases Layer.Sparse.bias
  generalize buckets bcast_S_S4x64x256 (distances off) = B at hb
  refine Eq.trans ?_ (one_hot (fun y => table (ix2 y h)) _ hlt)
  rw [← hb]
  pointwise

variable (m : (ℓ : Loc nD τ sig) → Buf (Elt Ideal) ℓ)

/-- The biases of a query's own block, as the kernel is given them. -/
theorem own_eq (c : Dev nD) : V m c main_v76 = biases 0#32 (m ((c : Thread nD τ).loc main_arg0)) := by
  entry_read
  rfl

/-- The biases of the block before. -/
theorem before_eq (c : Dev nD) : V m c main_v119 = biases 4294967040#32 (m ((c : Thread nD τ).loc main_arg0)) := by
  entry_read
  rfl

theorem own_apply (c : Dev nD) (a : Fin 4) (h : Fin 16) (b : Fin 64) (x : Fin 256) (n : ℕ) :
    V m c main_v76 (ix4 a h b x) = Layer.Sparse.bias (m ((c : Thread nD τ).loc main_arg0)) h (a.val * 64 + b.val + n) (x.val + n) := by
  rw [own_eq, bias_shift]
  exact biases_apply _ _ a h b x _ _ (by omega) (by omega) (congrArg (fun w => IntOp.subi w _) (BitVec.zero_add _))

theorem before_apply (c : Dev nD) (a : Fin 4) (h : Fin 16) (b : Fin 64) (x : Fin 256) (n : ℕ) :
    V m c main_v119 (ix4 a h b x)
      = Layer.Sparse.bias (m ((c : Thread nD τ).loc main_arg0)) h (a.val * 64 + b.val + 256 + n) (x.val + n) := by
  rw [before_eq, bias_shift]
  refine biases_apply _ _ a h b x _ _ (by omega) (by omega) (BitVec.eq_of_toNat_eq ?_)
  unfold IntOp.subi IntOp.addi
  rw [BitVec.toNat_sub, BitVec.toNat_sub, BitVec.toNat_add, BitVec.toNat_ofNat, BitVec.toNat_ofNat, BitVec.toNat_ofNat, BitVec.toNat_ofNat]
  omega

/-- The row that the far bias reads. -/
def farRow : IVec S1x1 32 :=
  broadcastInDim S1x1 ![0] bcast_S1_S1x1_0 (select
    (cmpi .slt (buckets bcast_S_S1 (broadcastInDim S1 ![] bcast_S_S1 (constantI S_ 32 4294967167#32))) (broadcastInDim S1 ![] bcast_S_S1 (constantI S_ 32 0#32)))
    (addi (buckets bcast_S_S1 (broadcastInDim S1 ![] bcast_S_S1 (constantI S_ 32 4294967167#32))) (broadcastInDim S1 ![] bcast_S_S1 (constantI S_ 32 32#32)))
    (buckets bcast_S_S1 (broadcastInDim S1 ![] bcast_S_S1 (constantI S_ 32 4294967167#32))))

theorem farRow_apply : farRow (ix2 0 0) = 15#32 := by
  have hb := buckets_apply bcast_S_S1 (broadcastInDim S1 ![] bcast_S_S1 (constantI S_ 32 4294967167#32)) (ix1 0) _ rfl
  unfold farRow
  generalize buckets bcast_S_S1 (broadcastInDim S1 ![] bcast_S_S1 (constantI S_ 32 4294967167#32)) = B at hb
  have hb' : B (ix1 0) = 15#32 := hb.trans Layer.Relative.bucket_far_const
  pointwise
  rw [hb']
  decide

/-- The gather reads the row of the table that the index names. -/
theorem gather_apply (table : FVec Ideal S32x16 .f32) (B : IVec S1x1 32) (h : Fin 16) (hB : B (ix2 0 0) = 15#32) :
    Host.gather gather_S32x16_S1x1_S1x16_1_0_n_n_0_1_116 table B (ix2 0 h) = table (ix2 15 h) := by
  unfold Host.gather GatherDims.operandIdx
  refine congrArg table (funext fun a => Fin.ext ?_)
  dsimp only
  obtain rfl | rfl : a = 0 ∨ a = 1 := by
    match a with
    | ⟨0, _⟩ => exact Or.inl rfl
    | ⟨1, _⟩ => exact Or.inr rfl
  · rw [GatherDims.batchCoord_eq_zero _ _ _ (by decide), GatherDims.offCoord_eq_zero _ _ _ (by decide)]
    unfold GatherDims.start
    rw [dif_pos (by decide)]
    have hi : gather_S32x16_S1x1_S1x16_1_0_n_n_0_1_116.siIdx (ix2 0 h) ⟨0, by decide⟩ = ix2 0 0 :=
      funext fun b => Fin.ext (by
        match b with
        | ⟨0, _⟩ => rfl
        | ⟨1, _⟩ => rfl)
    have hu : B (gather_S32x16_S1x1_S1x16_1_0_n_n_0_1_116.siIdx (ix2 0 h) ⟨0, by decide⟩) = 15#32 := by rw [hi, hB]
    exact (congrArg (fun w : BitVec 32 => min w.toInt.toNat 31 + 0 + 0) hu).trans rfl
  · rw [GatherDims.batchCoord_eq_zero _ _ _ (by decide)]
    unfold GatherDims.start
    rw [dif_neg (by decide)]
    unfold GatherDims.offCoord
    rw [dif_pos (by decide)]
    change 0 + 0 + h.val = h.val
    omega

/-- The biases of the keys farther back. -/
def farBias (table : FVec Ideal S32x16 .f32) : FVec Ideal S16x1x1 .f32 :=
  shapeCast S16x1x1 (shapeCast S16 (Host.gather gather_S32x16_S1x1_S1x16_1_0_n_n_0_1_116 table farRow) shapeCasts_S1x16_S16) shapeCasts_S16_S16x1x1

theorem farBias_apply (table : FVec Ideal S32x16 .f32) (h : Fin 16) : farBias table (ix3 h 0 0) = table (ix2 15 h) := by
  rw [← gather_apply table farRow h farRow_apply]
  unfold farBias
  generalize Host.gather gather_S32x16_S1x1_S1x16_1_0_n_n_0_1_116 table farRow = G
  pointwise

set_option maxHeartbeats 2000000 in
/-- The biases of the keys farther back, as the kernel is given them. -/
theorem far_eq (c : Dev nD) : V m c main_v33 = farBias (m ((c : Thread nD τ).loc main_arg0)) := by
  entry_read
  rfl

theorem far_apply (c : Dev nD) (h : Fin 16) (q k : ℕ) (hk : k + 128 < q) (hq : q < 2048) :
    V m c main_v33 (ix3 h 0 0) = Layer.Sparse.bias (m ((c : Thread nD τ).loc main_arg0)) h q k := by
  rw [far_eq, bias_far _ _ _ _ hk hq, farBias_apply]

end Cert.Kernel12Ideal.Sparse

end
-- ==== Proof.SparseAttnBlocks.lean ====
/- The blocks of the arguments that a point of the sparse attention's kernel works on, and what it leaves where its queries are in
   the first, second or third block of their sequence. -/
module

public import proofs.«01_k».proof.Proof.SparseAttnPayloads
public import proofs.«01_k».proof.Proof.SparseAttnTables

@[expose] public section

set_option maxRecDepth 16384

noncomputable section

namespace Cert.Kernel12Ideal.Sparse

open Idealize.ShloMosaic Idealize.ShloMosaic.TcCoe
open Cert.Kernel12Ideal Cert.Kernel12Ideal.Gen

variable (m : (ℓ : Loc nD τ sig) → Buf (Elt Ideal) ℓ)

/-- The blocks that a grid point works on. -/
theorem index_facts : ∀ t : Fin cfg0.N, (win0_0.index t 0 = 0 ∧ win0_0.index t 1 = 0 ∧ win0_0.index t 2 = 0)
    ∧ (win0_1.index t 0 = 0 ∧ win0_1.index t 1 = t.val ∧ win0_1.index t 2 = 0)
    ∧ (win0_2.index t 0 = t.val / 32 ∧ win0_2.index t 1 = 0)
    ∧ (win0_3.index t 0 = t.val ∧ win0_3.index t 1 = 0)
    ∧ (win0_4.index t 0 = t.val % 4 ∧ win0_4.index t 1 = 0 ∧ win0_4.index t 2 = 0 ∧ win0_4.index t 3 = 0)
    ∧ (win0_5.index t 0 = t.val % 4 ∧ win0_5.index t 1 = 0 ∧ win0_5.index t 2 = 0 ∧ win0_5.index t 3 = 0)
    ∧ (win0_6.index t 0 = 0 ∧ win0_6.index t 1 = t.val ∧ win0_6.index t 2 = 0) :=
  (by decide +kernel : ∀ t : Fin grid0.N, _)

/-- A point's number is less than 256. -/
theorem point_lt (t : Fin cfg0.N) : t.val < 256 := t.isLt

/-- The row of the whole array that a row of a point's block is. -/
def row (t : Fin cfg0.N) (r : Fin 64) : Fin 16384 := ⟨t.val * 64 + r.val, by have := point_lt t; omega⟩

/-- A point's queries. -/
theorem queries_apply (c : Dev nD) (t : Fin cfg0.N) (h : Fin 16) (r : Fin 64) (y : Fin 512) :
    iblk m c 1 t (ix3 h r y) = m ((c : Thread nD τ).loc main_arg1) (ix3 h (row t r) y) := by
  obtain ⟨-, ⟨e0, e1, e2⟩, -⟩ := index_facts t
  blk_ext [iblk, V, row, e0, e1, e2]

/-- A point's keys. -/
theorem keys_apply (c : Dev nD) (t : Fin cfg0.N) (r : Fin 64) (k : Fin 2048) (y : Fin 512) :
    iblk m c 2 t (ix2 k y) = m ((c : Thread nD τ).loc main_arg2) (ix2 (Layer.Sparse.keyRow (row t r).val k.val) y) := by
  obtain ⟨-, -, ⟨e0, e1⟩, -⟩ := index_facts t
  have := point_lt t
  have e : Layer.Sparse.keyRow (row t r).val k.val = ⟨t.val / 32 * 2048 + k.val, by omega⟩ := Fin.ext (by
    unfold Layer.Sparse.keyRow row
    dsimp only
    omega)
  rw [e]
  blk_ext [iblk, V, e0, e1]

/-- A point's rows of the selection. -/
theorem selection_apply (c : Dev nD) (t : Fin cfg0.N) (r : Fin 64) (k : Fin 2048) :
    iblk m c 3 t (ix2 r k) = m ((c : Thread nD τ).loc main_arg3) (ix2 (row t r) k) := by
  obtain ⟨-, -, -, ⟨e0, e1⟩, -⟩ := index_facts t
  blk_ext [iblk, V, row, e0, e1]

/-- A point's biases of its own block's keys. -/
theorem own_block (c : Dev nD) (t : Fin cfg0.N) (h : Fin 16) (r : Fin 64) (x : Fin 256) :
    iblk m c 4 t (ix4 0 h r x) = V m c main_v76 (ix4 (⟨t.val % 4, by omega⟩ : Fin 4) h r x) := by
  obtain ⟨-, -, -, -, ⟨e0, e1, e2, e3⟩, -⟩ := index_facts t
  blk_ext [iblk, e0, e1, e2, e3]

theorem before_block (c : Dev nD) (t : Fin cfg0.N) (h : Fin 16) (r : Fin 64) (x : Fin 256) :
    iblk m c 5 t (ix4 0 h r x) = V m c main_v119 (ix4 (⟨t.val % 4, by omega⟩ : Fin 4) h r x) := by
  obtain ⟨-, -, -, -, -, ⟨e0, e1, e2, e3⟩, -⟩ := index_facts t
  blk_ext [iblk, e0, e1, e2, e3]

theorem far_block (c : Dev nD) (t : Fin cfg0.N) (h : Fin 16) :
    iblk m c 0 t (ix3 h 0 0) = V m c main_v33 (ix3 h 0 0) := by
  obtain ⟨⟨e0, e1, e2⟩, -⟩ := index_facts t
  blk_ext [iblk, e0, e1, e2]

/-! ## The ranges that a point loads -/

/-- The keys of a range of 256. -/
theorem range_keys (c : Dev nD) (t : Fin cfg0.N) (r : Fin 64) (o : ℕ)
    (hb : ∀ a, (![o, 0] : Fin 2 → ℕ) a + S256x512.size a ≤ S2048x512.size a) (x : Fin 256) (y : Fin 512) :
    View.ld (iblk m c 2 t) (Rect.unit (s := S2048x512) ![o, 0] S256x512.size hb) (ix2 x y)
      = m ((c : Thread nD τ).loc main_arg2) (ix2 (Layer.Sparse.keyRow (row t r).val (o + x.val)) y) := by
  have ho : o + 256 ≤ 2048 := hb 0
  refine Eq.trans ?_ (keys_apply m c t r ⟨o + x.val, by omega⟩ y)
  refine congrArg (iblk m c 2 t) (funext fun a => Fin.ext ?_)
  match a with
  | ⟨0, _⟩ => change o + 1 * x.val = o + x.val; omega
  | ⟨1, _⟩ => change 0 + 1 * y.val = y.val; omega

/-- The selection of a range of 256. -/
theorem range_selection (c : Dev nD) (t : Fin cfg0.N) (r : Fin 64) (o : ℕ)
    (hb : ∀ a, (![0, o] : Fin 2 → ℕ) a + S64x256.size a ≤ S64x2048.size a) (x : Fin 256) :
    View.ld (iblk m c 3 t) (Rect.unit (s := S64x2048) ![0, o] S64x256.size hb) (ix2 r x)
      = m ((c : Thread nD τ).loc main_arg3) (ix2 (row t r) (⟨(o + x.val) % 2048, Nat.mod_lt _ (by decide)⟩ : Fin 2048)) := by
  have ho : o + 256 ≤ 2048 := hb 1
  refine Eq.trans ?_ (selection_apply m c t r _)
  refine congrArg (iblk m c 3 t) (funext fun a => Fin.ext ?_)
  match a with
  | ⟨0, _⟩ => change 0 + 1 * r.val = r.val; omega
  | ⟨1, _⟩ => change o + 1 * x.val = (o + x.val) % 2048; omega

/-! ## The scores of the ranges -/

/-- The scores of the arguments. -/
abbrev scores (c : Dev nD) (h : Fin 16) (r : Fin 16384) : ℕ → EReal :=
  Layer.Sparse.score (m ((c : Thread nD τ).loc main_arg0)) (m ((c : Thread nD τ).loc main_arg1)) (m ((c : Thread nD τ).loc main_arg2))
    (m ((c : Thread nD τ).loc main_arg3)) h r

/-- The values of the arguments. -/
abbrev values (c : Dev nD) (r : Fin 16384) (d : Fin 512) (k : ℕ) : EReal :=
  m ((c : Thread nD τ).loc main_arg2) (ix2 (Layer.Sparse.keyRow r.val k) d)

/-- The queries of the arguments. -/
abbrev query (c : Dev nD) (h : Fin 16) (r : Fin 16384) (y : Fin 512) : EReal :=
  m ((c : Thread nD τ).loc main_arg1) (ix3 h r y)

/-- The score of a key whose parts are the arguments'. -/
theorem key_score (c : Dev nD) (h : Fin 16) (r : Fin 16384) (k : ℕ) (se kq b : EReal)
    (hse : se = m ((c : Thread nD τ).loc main_arg3) (ix2 r (⟨k % 2048, Nat.mod_lt _ (by decide)⟩ : Fin 2048)))
    (hkq : kq = ∑ y : Fin 512, values m c r y k * query m c h r y)
    (hb : b = Layer.Sparse.bias (m ((c : Thread nD τ).loc main_arg0)) h (r.val % 2048) k) : key se kq b = scores m c h r k := by
  subst hse hkq hb
  unfold key scores Layer.Sparse.score Layer.Sparse.selected
  split
  · rfl
  · rfl

variable (c : Dev nD) (t : Fin cfg0.N) (h : Fin 16) (r : Fin 64)

/-- A range with a table of biases. -/
theorem near_score (kv : Vec Ideal S256x512 .f32) (se : Vec Ideal S64x256 .f32) (b : Vec Ideal S1x16x64x256 .f32) (a : ℕ)
    (hkv : ∀ (x : Fin 256) (y : Fin 512), kv (ix2 x y) = values m c (row t r) y (a + x.val))
    (hse : ∀ x : Fin 256, se (ix2 r x)
      = m ((c : Thread nD τ).loc main_arg3) (ix2 (row t r) (⟨(a + x.val) % 2048, Nat.mod_lt _ (by decide)⟩ : Fin 2048)))
    (hb : ∀ x : Fin 256, b (ix4 0 h r x)
      = Layer.Sparse.bias (m ((c : Thread nD τ).loc main_arg0)) h ((row t r).val % 2048) (a + x.val)) (x : Fin 256) :
    k0_pay3 (F := Ideal) (k0_pay91 (iblk m c 1 t)) kv se b (ix3 h r x) = scores m c h (row t r) (a + x.val) := by
  rw [near_apply]
  refine key_score m c h (row t r) (a + x.val) _ _ _ (hse x) (Finset.sum_congr rfl fun y _ => ?_) (hb x)
  rw [queries_apply, hkv]
  exact mul_comm (query m c h (row t r) y) (values m c (row t r) y (a + x.val))

/-- A range farther back. -/
theorem far_score (kv : Vec Ideal S256x512 .f32) (se : Vec Ideal S64x256 .f32) (b : Vec Ideal S16x1x1 .f32) (a : ℕ)
    (hkv : ∀ (x : Fin 256) (y : Fin 512), kv (ix2 x y) = values m c (row t r) y (a + x.val))
    (hse : ∀ x : Fin 256, se (ix2 r x)
      = m ((c : Thread nD τ).loc main_arg3) (ix2 (row t r) (⟨(a + x.val) % 2048, Nat.mod_lt _ (by decide)⟩ : Fin 2048)))
    (hb : ∀ x : Fin 256, b (ix3 h 0 0)
      = Layer.Sparse.bias (m ((c : Thread nD τ).loc main_arg0)) h ((row t r).val % 2048) (a + x.val)) (x : Fin 256) :
    k0_pay10 (F := Ideal) (k0_pay91 (iblk m c 1 t)) kv se b (ix3 h r x) = scores m c h (row t r) (a + x.val) := by
  rw [far_range_apply]
  refine key_score m c h (row t r) (a + x.val) _ _ _ (hse x) (Finset.sum_congr rfl fun y _ => ?_) (hb x)
  rw [queries_apply, hkv]
  exact mul_comm (query m c h (row t r) y) (values m c (row t r) y (a + x.val))

/-- The biases of the point's own block of keys, which begins at `n`. -/
theorem own_bias (n : ℕ) (hn : t.val % 32 / 4 * 256 = n) (x : Fin 256) :
    iblk m c 4 t (ix4 0 h r x) = Layer.Sparse.bias (m ((c : Thread nD τ).loc main_arg0)) h ((row t r).val % 2048) (n + x.val) := by
  have e : (row t r).val % 2048 = t.val % 4 * 64 + r.val + n := by
    unfold row
    dsimp only
    omega
  rw [own_block, own_apply m c _ h r x n, e, Nat.add_comm n]

/-- The biases of the block before, which begins at `n`. -/
theorem before_bias (n : ℕ) (hn : t.val % 32 / 4 * 256 = n + 256) (x : Fin 256) :
    iblk m c 5 t (ix4 0 h r x) = Layer.Sparse.bias (m ((c : Thread nD τ).loc main_arg0)) h ((row t r).val % 2048) (n + x.val) := by
  have e : (row t r).val % 2048 = t.val % 4 * 64 + r.val + 256 + n := by
    unfold row
    dsimp only
    omega
  rw [before_block, before_apply m c _ h r x n, e, Nat.add_comm n]

/-- The bias of the keys before those. -/
theorem far_bias (k : ℕ) (hk : k + 256 ≤ t.val % 32 / 4 * 256) (h129 : k + 128 < t.val % 32 / 4 * 256) :
    iblk m c 0 t (ix3 h 0 0) = Layer.Sparse.bias (m ((c : Thread nD τ).loc main_arg0)) h ((row t r).val % 2048) k := by
  have e : (row t r).val % 2048 = t.val % 32 * 64 + r.val := by
    unfold row
    dsimp only
    omega
  rw [far_block, far_apply m c h _ k _ (Nat.mod_lt _ (by decide))]
  omega

/-! ## What each point leaves -/

variable (d : Fin 512)

theorem leaves_one (h0 : t.val % 32 ≤ 3) :
    outsAt0 m c t.val t.isLt (ix3 h r d) = Layer.Attend.attend (Finset.Ico 0 256) (scores m c h (row t r)) (values m c (row t r) d) := by
  rw [outsAt0_A m c t h0 (by omega) (by omega) (by omega) (by omega) (by omega) (by omega) (by omega)]
  frame_out
  rw [point_one]
  exact one_range _ _ h r d _ _
    (near_score m c t h r _ _ _ 0 (range_keys m c t r 0 _) (range_selection m c t r 0 _) (own_bias m c t h r 0 (by omega)))
    fun x => range_keys m c t r 0 _ x d

theorem leaves_two (h0 : 4 ≤ t.val % 32 ∧ t.val % 32 ≤ 7) :
    outsAt0 m c t.val t.isLt (ix3 h r d) = Layer.Attend.attend (Finset.Ico 0 512) (scores m c h (row t r)) (values m c (row t r) d) := by
  rw [outsAt0_B m c t (by omega) h0 (by omega) (by omega) (by omega) (by omega) (by omega) (by omega)]
  frame_out
  obtain ⟨M, hM, e⟩ := point_two (iblk m c 1 t) _ _ _ _ _ _
  refine (congrFun e _).trans ?_
  exact two_ranges _ _ h r d _ _ _ _ M hM
    (near_score m c t h r _ _ _ 0 (range_keys m c t r 0 _) (range_selection m c t r 0 _) (before_bias m c t h r 0 (by omega)))
    (fun x => range_keys m c t r 0 _ x d)
    (near_score m c t h r _ _ _ 256 (range_keys m c t r 256 _) (range_selection m c t r 256 _) (own_bias m c t h r 256 (by omega)))
    fun x => range_keys m c t r 256 _ x d

theorem leaves_three (h0 : 8 ≤ t.val % 32 ∧ t.val % 32 ≤ 11) :
    outsAt0 m c t.val t.isLt (ix3 h r d) = Layer.Attend.attend (Finset.Ico 0 768) (scores m c h (row t r)) (values m c (row t r) d) := by
  rw [outsAt0_C m c t (by omega) (by omega) h0 (by omega) (by omega) (by omega) (by omega) (by omega)]
  frame_out
  obtain ⟨M, hM, e⟩ := point_three (iblk m c 1 t) _ _ _ _ _ _ _ _ _
  refine (congrFun e _).trans ?_
  exact three_ranges _ _ h r d _ _ _ _ _ _ M hM
    (far_score m c t h r _ _ _ 0 (range_keys m c t r 0 _) (range_selection m c t r 0 _) fun x => far_bias m c t h r _ (by omega) (by omega))
    (fun x => range_keys m c t r 0 _ x d)
    (near_score m c t h r _ _ _ 256 (range_keys m c t r 256 _) (range_selection m c t r 256 _) (before_bias m c t h r 256 (by omega)))
    (fun x => range_keys m c t r 256 _ x d)
    (near_score m c t h r _ _ _ 512 (range_keys m c t r 512 _) (range_selection m c t r 512 _) (own_bias m c t h r 512 (by omega)))
    fun x => range_keys m c t r 512 _ x d

end Cert.Kernel12Ideal.Sparse

end
-- ==== Proof.SparseAttnRange512.lean ====
/- The sparse attention's kernel where a query's sequence has 512 keys before the block before the query's: the parts of that range,
   what a point computes, and what it leaves. -/
module

public import proofs.«01_k».proof.Proof.SparseAttnBlocks

@[expose] public section

set_option maxRecDepth 16384

noncomputable section

namespace Cert.Kernel12Ideal.Sparse

open Idealize.ShloMosaic Idealize.ShloMosaic.TcCoe
open Cert.Kernel12Ideal Cert.Kernel12Ideal.Gen

/-! ## The parts of a range of 512 keys -/

/-- The greatest score of each row. -/
def greatest512 (S : FVec Ideal S16x64x512 .f32) : FVec Ideal S16x64x1 .f32 :=
  shapeCast S16x64x1 (multiReduction .maximumf [2] S16x64 S 0xFF800000#32 reduces_S16x64x512_S16x64 (.inl rfl) rfl) shapeCasts_S16x64_S16x64x1

theorem greatest512_apply (S : FVec Ideal S16x64x512 .f32) (h : Fin 16) (r : Fin 64) (a : ℕ) (s : ℕ → EReal)
    (hS : ∀ x : Fin 512, S (ix3 h r x) = s (a + x.val)) : greatest512 S (ix3 h r 0) = (Finset.Ico a (a + 512)).sup s := by
  have e : greatest512 S (ix3 h r 0) = Finset.fold max (Ideal.ofBits FTy.f32 0xFF800000#32) (fun x : Fin 512 => S (ix3 h r x)) Finset.univ := by
    unfold greatest512
    pointwise
  rw [e, Layer.Sparse.masked_eq, ← Layer.Attend.fold_max]
  simp only [hS]

/-- The weights of the keys. -/
def weights512 (S : FVec Ideal S16x64x512 .f32) (M : FVec Ideal S16x64x1 .f32) : FVec Ideal S16x64x512 .f32 :=
  exp (subf S (broadcastTo S16x64x512 M broadcasts_S16x64x1_S16x64x512))

theorem weights512_apply (S : FVec Ideal S16x64x512 .f32) (M : FVec Ideal S16x64x1 .f32) (h : Fin 16) (r : Fin 64) (x : Fin 512) :
    weights512 S M (ix3 h r x) = Ideal.exp (S (ix3 h r x) - M (ix3 h r 0)) := by
  unfold weights512
  pointwise

/-- The sum of each row's weights. -/
def total512 (W : FVec Ideal S16x64x512 .f32) : FVec Ideal S16x64x1 .f32 :=
  shapeCast S16x64x1 (multiReduction .add [2] S16x64 W 0x00000000#32 reduces_S16x64x512_S16x64 (.inl rfl) rfl) shapeCasts_S16x64_S16x64x1

theorem total512_apply (W : FVec Ideal S16x64x512 .f32) (h : Fin 16) (r : Fin 64) (a : ℕ) (f : ℕ → EReal)
    (hW : ∀ x : Fin 512, W (ix3 h r x) = f (a + x.val)) : total512 W (ix3 h r 0) = ∑ k ∈ Finset.Ico a (a + 512), f k := by
  have e : total512 W (ix3 h r 0) = ∑ x : Fin 512, W (ix3 h r x) := by
    unfold total512
    pointwise
  rw [e, ← Layer.Attend.sum_axis]
  simp only [hW]

/-- The values mixed by the weights. -/
def mixed512 (W : FVec Ideal S16x64x512 .f32) (v : FVec Ideal S512x512 .bf16) : FVec Ideal S1024x512 .f32 :=
  matmul dot_S1024x512_S512x512_S1024x512_1_0_0_1_n_n none
    (truncf .bf16 (shapeCast S1024x512 W shapeCasts_S16x64x512_S1024x512) bitsLt_bf16_f32) v (constant S1024x512 .f32 0x00000000#32)

theorem mixed512_apply (W : FVec Ideal S16x64x512 .f32) (v : FVec Ideal S512x512 .bf16) (h : Fin 16) (r : Fin 64) (d : Fin 512)
    (a : ℕ) (f g : ℕ → EReal) (hW : ∀ x : Fin 512, W (ix3 h r x) = f (a + x.val)) (hv : ∀ x : Fin 512, v (ix2 x d) = g (a + x.val)) :
    mixed512 W v (ix2 (⟨h.val * 64 + r.val, by omega⟩ : Fin 1024) d) = ∑ k ∈ Finset.Ico a (a + 512), f k * g k := by
  have e : mixed512 W v (ix2 (⟨h.val * 64 + r.val, by omega⟩ : Fin 1024) d) = ∑ x : Fin 512, W (ix3 h r x) * v (ix2 x d) := by
    unfold mixed512
    pointwise
  rw [e, ← Layer.Attend.sum_axis a 512 fun k => f k * g k]
  simp only [hW, hv]

section

variable (s v : ℕ → EReal) (h : Fin 16) (r : Fin 64) (d : Fin 512)

/-- The attention over three ranges, the first of 512 keys. -/
theorem ranges512 (S0 : FVec Ideal S16x64x512 .f32) (S1 S2 : FVec Ideal S16x64x256 .f32) (kv0 : FVec Ideal S512x512 .bf16)
    (kv1 kv2 : FVec Ideal S256x512 .bf16) (M : FVec Ideal S16x64x1 .f32)
    (hM : M = maximumf (maximumf (greatest512 S0) (greatest S1)) (greatest S2))
    (hS0 : ∀ x : Fin 512, S0 (ix3 h r x) = s (0 + x.val)) (hv0 : ∀ x : Fin 512, kv0 (ix2 x d) = v (0 + x.val))
    (hS1 : ∀ x : Fin 256, S1 (ix3 h r x) = s (512 + x.val)) (hv1 : ∀ x : Fin 256, kv1 (ix2 x d) = v (512 + x.val))
    (hS2 : ∀ x : Fin 256, S2 (ix3 h r x) = s (768 + x.val)) (hv2 : ∀ x : Fin 256, kv2 (ix2 x d) = v (768 + x.val)) :
    quotient (addf (addf (total512 (weights512 S0 M)) (total (weights S1 M))) (total (weights S2 M)))
        (addf (addf (mixed512 (weights512 S0 M) kv0) (mixed (weights S1 M) kv1)) (mixed (weights S2 M) kv2)) (ix3 h r d)
      = Layer.Attend.attend (Finset.Ico 0 1024) s v := by
  have hm : M (ix3 h r 0) = (Finset.Ico 0 1024).sup s := by
    have e : M (ix3 h r 0) = max (max (greatest512 S0 (ix3 h r 0)) (greatest S1 (ix3 h r 0))) (greatest S2 (ix3 h r 0)) := by rw [hM]; rfl
    rw [e, greatest512_apply S0 h r 0 s hS0, greatest_apply S1 h r 512 s hS1, greatest_apply S2 h r 768 s hS2,
      Layer.Attend.sup_consecutive (by decide) (by decide) s]
    exact Layer.Attend.sup_consecutive (by decide) (by decide) s
  clear hM
  have hW0 : ∀ x : Fin 512, weights512 S0 M (ix3 h r x) = soft 1024 s (0 + x.val) := fun x => by
    rw [weights512_apply, hS0, hm]; rfl
  have hW1 : ∀ x : Fin 256, weights S1 M (ix3 h r x) = soft 1024 s (512 + x.val) := fun x => by
    rw [weights_apply, hS1, hm]; rfl
  have hW2 : ∀ x : Fin 256, weights S2 M (ix3 h r x) = soft 1024 s (768 + x.val) := fun x => by
    rw [weights_apply, hS2, hm]; rfl
  rw [quotient_apply]
  have eT : addf (addf (total512 (weights512 S0 M)) (total (weights S1 M))) (total (weights S2 M)) (ix3 h r 0)
      = total512 (weights512 S0 M) (ix3 h r 0) + total (weights S1 M) (ix3 h r 0) + total (weights S2 M) (ix3 h r 0) := rfl
  have eN : ∀ i, addf (addf (mixed512 (weights512 S0 M) kv0) (mixed (weights S1 M) kv1)) (mixed (weights S2 M) kv2) i
      = mixed512 (weights512 S0 M) kv0 i + mixed (weights S1 M) kv1 i + mixed (weights S2 M) kv2 i := fun _ => rfl
  rw [eT, eN, total512_apply _ h r 0 _ hW0, total_apply _ h r 512 _ hW1, total_apply _ h r 768 _ hW2, mixed512_apply _ _ h r d 0 _ v hW0 hv0,
    mixed_apply _ _ h r d 512 _ v hW1 hv1, mixed_apply _ _ h r d 768 _ v hW2 hv2, Finset.sum_Ico_consecutive _ (by decide) (by decide),
    Finset.sum_Ico_consecutive _ (by decide) (by decide), Finset.sum_Ico_consecutive _ (by decide) (by decide),
    Finset.sum_Ico_consecutive _ (by decide) (by decide)]
  rfl

variable (q : Vec Ideal S16x64x512 .bf16)

/-- A range of 512 keys farther back. -/
theorem far512_apply (kv : Vec Ideal S512x512 .f32) (se : Vec Ideal S64x512 .f32) (b : Vec Ideal S16x1x1 .f32)
    (h : Fin 16) (r : Fin 64) (x : Fin 512) :
    k0_pay24 (F := Ideal) (k0_pay91 q) kv se b (ix3 h r x)
      = key (se (ix2 r x)) (∑ y : Fin 512, q (ix3 h r y) * kv (ix2 x y)) (b (ix3 h 0 0)) := by
  unfold key
  rw [← Layer.Sparse.masked_eq]
  unfold k0_pay24 k0_pay23 k0_pay91
  pointwise

/-- A point that has 512 keys before the block before. -/
theorem point512 (kv0 : Vec Ideal S512x512 .f32) (kv1 kv2 : Vec Ideal S256x512 .f32) (se0 : Vec Ideal S64x512 .f32)
    (se1 se2 : Vec Ideal S64x256 .f32) (b0 : Vec Ideal S16x1x1 .f32) (b1 b2 : Vec Ideal S1x16x64x256 .f32) :
    ∃ M, M = maximumf (maximumf (greatest512 (k0_pay24 (k0_pay91 q) kv0 se0 b0)) (greatest (k0_pay3 (k0_pay91 q) kv1 se1 b1)))
        (greatest (k0_pay3 (k0_pay91 q) kv2 se2 b2))
      ∧ k0_pay95 (F := Ideal) (k0_pay28 kv2) (k0_pay29 (k0_pay91 q) kv2 se2 (k0_pay22 b2))
          (k0_pay30 (k0_pay91 q) se1 (k0_pay21 b1) kv2 se2 (k0_pay22 b2) (k0_pay24 (k0_pay91 q) kv0 se0 b0) (k0_pay26 (k0_pay91 q) kv1))
          (k0_pay33 (k0_pay91 q) se1 (k0_pay21 b1) kv2 se2 (k0_pay22 b2) (k0_pay24 (k0_pay91 q) kv0 se0 b0) (k0_pay26 (k0_pay91 q) kv1))
          (k0_pay34 (k0_pay91 q) se1 (k0_pay21 b1) kv2 se2 (k0_pay22 b2) (k0_pay23 kv0) (k0_pay24 (k0_pay91 q) kv0 se0 b0) (k0_pay25 kv1)
            (k0_pay26 (k0_pay91 q) kv1))
        = quotient (addf (addf (total512 (weights512 (k0_pay24 (k0_pay91 q) kv0 se0 b0) M)) (total (weights (k0_pay3 (k0_pay91 q) kv1 se1 b1) M)))
              (total (weights (k0_pay3 (k0_pay91 q) kv2 se2 b2) M)))
            (addf (addf (mixed512 (weights512 (k0_pay24 (k0_pay91 q) kv0 se0 b0) M) (k0_pay23 kv0))
              (mixed (weights (k0_pay3 (k0_pay91 q) kv1 se1 b1) M) (k0_pay2 kv1)))
              (mixed (weights (k0_pay3 (k0_pay91 q) kv2 se2 b2) M) (k0_pay2 kv2))) :=
  ⟨_, rfl, rfl⟩

end

variable (m : (ℓ : Loc nD τ sig) → Buf (Elt Ideal) ℓ)

/-- The keys of the range of 512. -/
theorem keys512 (c : Dev nD) (t : Fin cfg0.N) (r : Fin 64)
    (hb : ∀ a, (![0, 0] : Fin 2 → ℕ) a + S512x512.size a ≤ S2048x512.size a) (x : Fin 512) (y : Fin 512) :
    View.ld (iblk m c 2 t) (Rect.unit (s := S2048x512) ![0, 0] S512x512.size hb) (ix2 x y)
      = m ((c : Thread nD τ).loc main_arg2) (ix2 (Layer.Sparse.keyRow (row t r).val (0 + x.val)) y) := by
  rw [Nat.zero_add]
  refine Eq.trans ?_ (keys_apply m c t r ⟨x.val, by omega⟩ y)
  refine congrArg (iblk m c 2 t) (funext fun a => Fin.ext ?_)
  match a with
  | ⟨0, _⟩ => change 0 + 1 * x.val = x.val; omega
  | ⟨1, _⟩ => change 0 + 1 * y.val = y.val; omega

/-- The selection of the range of 512. -/
theorem selection512 (c : Dev nD) (t : Fin cfg0.N) (r : Fin 64)
    (hb : ∀ a, (![0, 0] : Fin 2 → ℕ) a + S64x512.size a ≤ S64x2048.size a) (x : Fin 512) :
    View.ld (iblk m c 3 t) (Rect.unit (s := S64x2048) ![0, 0] S64x512.size hb) (ix2 r x)
      = m ((c : Thread nD τ).loc main_arg3) (ix2 (row t r) (⟨(0 + x.val) % 2048, Nat.mod_lt _ (by decide)⟩ : Fin 2048)) := by
  refine Eq.trans ?_ (selection_apply m c t r _)
  refine congrArg (iblk m c 3 t) (funext fun a => Fin.ext ?_)
  match a with
  | ⟨0, _⟩ => change 0 + 1 * r.val = r.val; omega
  | ⟨1, _⟩ => change 0 + 1 * x.val = (0 + x.val) % 2048; omega

variable (c : Dev nD) (t : Fin cfg0.N) (h : Fin 16) (r : Fin 64) (d : Fin 512)

/-- The range of 512 keys farther back. -/
theorem score512 (kv : Vec Ideal S512x512 .f32) (se : Vec Ideal S64x512 .f32) (b : Vec Ideal S16x1x1 .f32) (a : ℕ)
    (hkv : ∀ (x : Fin 512) (y : Fin 512), kv (ix2 x y) = values m c (row t r) y (a + x.val))
    (hse : ∀ x : Fin 512, se (ix2 r x)
      = m ((c : Thread nD τ).loc main_arg3) (ix2 (row t r) (⟨(a + x.val) % 2048, Nat.mod_lt _ (by decide)⟩ : Fin 2048)))
    (hb : ∀ x : Fin 512, b (ix3 h 0 0)
      = Layer.Sparse.bias (m ((c : Thread nD τ).loc main_arg0)) h ((row t r).val % 2048) (a + x.val)) (x : Fin 512) :
    k0_pay24 (F := Ideal) (k0_pay91 (iblk m c 1 t)) kv se b (ix3 h r x) = scores m c h (row t r) (a + x.val) := by
  rw [far512_apply]
  refine key_score m c h (row t r) (a + x.val) _ _ _ (hse x) (Finset.sum_congr rfl fun y _ => ?_) (hb x)
  rw [queries_apply, hkv]
  exact mul_comm (query m c h (row t r) y) (values m c (row t r) y (a + x.val))

/-- What a point leaves where 512 keys are before the block before. -/
theorem leaves512 (h0 : 12 ≤ t.val % 32 ∧ t.val % 32 ≤ 15) :
    outsAt0 m c t.val t.isLt (ix3 h r d) = Layer.Attend.attend (Finset.Ico 0 1024) (scores m c h (row t r)) (values m c (row t r) d) := by
  rw [outsAt0_D m c t (by omega) (by omega) (by omega) h0 (by omega) (by omega) (by omega) (by omega)]
  frame_out
  obtain ⟨M, hM, e⟩ := point512 (iblk m c 1 t) _ _ _ _ _ _ _ _ _
  refine (congrFun e _).trans ?_
  exact ranges512 _ _ h r d _ _ _ _ _ _ M hM
    (score512 m c t h r _ _ _ 0 (keys512 m c t r _) (selection512 m c t r _) fun x => far_bias m c t h r _ (by omega) (by omega))
    (fun x => keys512 m c t r _ x d)
    (near_score m c t h r _ _ _ 512 (range_keys m c t r 512 _) (range_selection m c t r 512 _) (before_bias m c t h r 512 (by omega)))
    (fun x => range_keys m c t r 512 _ x d)
    (near_score m c t h r _ _ _ 768 (range_keys m c t r 768 _) (range_selection m c t r 768 _) (own_bias m c t h r 768 (by omega)))
    fun x => range_keys m c t r 768 _ x d

end Cert.Kernel12Ideal.Sparse

end
-- ==== Proof.SparseAttnRange768.lean ====
/- The sparse attention's kernel where a query's sequence has 768 keys before the block before the query's: the parts of that range,
   what a point computes, and what it leaves. -/
module

public import proofs.«01_k».proof.Proof.SparseAttnBlocks

@[expose] public section

set_option maxRecDepth 16384

noncomputable section

namespace Cert.Kernel12Ideal.Sparse

open Idealize.ShloMosaic Idealize.ShloMosaic.TcCoe
open Cert.Kernel12Ideal Cert.Kernel12Ideal.Gen

/-! ## The parts of a range of 768 keys -/

/-- The greatest score of each row. -/
def greatest768 (S : FVec Ideal S16x64x768 .f32) : FVec Ideal S16x64x1 .f32 :=
  shapeCast S16x64x1 (multiReduction .maximumf [2] S16x64 S 0xFF800000#32 reduces_S16x64x768_S16x64 (.inl rfl) rfl) shapeCasts_S16x64_S16x64x1

theorem greatest768_apply (S : FVec Ideal S16x64x768 .f32) (h : Fin 16) (r : Fin 64) (a : ℕ) (s : ℕ → EReal)
    (hS : ∀ x : Fin 768, S (ix3 h r x) = s (a + x.val)) : greatest768 S (ix3 h r 0) = (Finset.Ico a (a + 768)).sup s := by
  have e : greatest768 S (ix3 h r 0) = Finset.fold max (Ideal.ofBits FTy.f32 0xFF800000#32) (fun x : Fin 768 => S (ix3 h r x)) Finset.univ := by
    unfold greatest768
    pointwise
  rw [e, Layer.Sparse.masked_eq, ← Layer.Attend.fold_max]
  simp only [hS]

/-- The weights of the keys. -/
def weights768 (S : FVec Ideal S16x64x768 .f32) (M : FVec Ideal S16x64x1 .f32) : FVec Ideal S16x64x768 .f32 :=
  exp (subf S (broadcastTo S16x64x768 M broadcasts_S16x64x1_S16x64x768))

theorem weights768_apply (S : FVec Ideal S16x64x768 .f32) (M : FVec Ideal S16x64x1 .f32) (h : Fin 16) (r : Fin 64) (x : Fin 768) :
    weights768 S M (ix3 h r x) = Ideal.exp (S (ix3 h r x) - M (ix3 h r 0)) := by
  unfold weights768
  pointwise

/-- The sum of each row's weights. -/
def total768 (W : FVec Ideal S16x64x768 .f32) : FVec Ideal S16x64x1 .f32 :=
  shapeCast S16x64x1 (multiReduction .add [2] S16x64 W 0x00000000#32 reduces_S16x64x768_S16x64 (.inl rfl) rfl) shapeCasts_S16x64_S16x64x1

theorem total768_apply (W : FVec Ideal S16x64x768 .f32) (h : Fin 16) (r : Fin 64) (a : ℕ) (f : ℕ → EReal)
    (hW : ∀ x : Fin 768, W (ix3 h r x) = f (a + x.val)) : total768 W (ix3 h r 0) = ∑ k ∈ Finset.Ico a (a + 768), f k := by
  have e : total768 W (ix3 h r 0) = ∑ x : Fin 768, W (ix3 h r x) := by
    unfold total768
    pointwise
  rw [e, ← Layer.Attend.sum_axis]
  simp only [hW]

/-- The values mixed by the weights. -/
def mixed768 (W : FVec Ideal S16x64x768 .f32) (v : FVec Ideal S768x512 .bf16) : FVec Ideal S1024x512 .f32 :=
  matmul dot_S1024x768_S768x512_S1024x512_1_0_0_1_n_n none
    (truncf .bf16 (shapeCast S1024x768 W shapeCasts_S16x64x768_S1024x768) bitsLt_bf16_f32) v (constant S1024x512 .f32 0x00000000#32)

theorem mixed768_apply (W : FVec Ideal S16x64x768 .f32) (v : FVec Ideal S768x512 .bf16) (h : Fin 16) (r : Fin 64) (d : Fin 512)
    (a : ℕ) (f g : ℕ → EReal) (hW : ∀ x : Fin 768, W (ix3 h r x) = f (a + x.val)) (hv : ∀ x : Fin 768, v (ix2 x d) = g (a + x.val)) :
    mixed768 W v (ix2 (⟨h.val * 64 + r.val, by omega⟩ : Fin 1024) d) = ∑ k ∈ Finset.Ico a (a + 768), f k * g k := by
  have e : mixed768 W v (ix2 (⟨h.val * 64 + r.val, by omega⟩ : Fin 1024) d) = ∑ x : Fin 768, W (ix3 h r x) * v (ix2 x d) := by
    unfold mixed768
    pointwise
  rw [e, ← Layer.Attend.sum_axis a 768 fun k => f k * g k]
  simp only [hW, hv]

section

variable (s v : ℕ → EReal) (h : Fin 16) (r : Fin 64) (d : Fin 512)

/-- The attention over three ranges, the first of 768 keys. -/
theorem ranges768 (S0 : FVec Ideal S16x64x768 .f32) (S1 S2 : FVec Ideal S16x64x256 .f32) (kv0 : FVec Ideal S768x512 .bf16)
    (kv1 kv2 : FVec Ideal S256x512 .bf16) (M : FVec Ideal S16x64x1 .f32)
    (hM : M = maximumf (maximumf (greatest768 S0) (greatest S1)) (greatest S2))
    (hS0 : ∀ x : Fin 768, S0 (ix3 h r x) = s (0 + x.val)) (hv0 : ∀ x : Fin 768, kv0 (ix2 x d) = v (0 + x.val))
    (hS1 : ∀ x : Fin 256, S1 (ix3 h r x) = s (768 + x.val)) (hv1 : ∀ x : Fin 256, kv1 (ix2 x d) = v (768 + x.val))
    (hS2 : ∀ x : Fin 256, S2 (ix3 h r x) = s (1024 + x.val)) (hv2 : ∀ x : Fin 256, kv2 (ix2 x d) = v (1024 + x.val)) :
    quotient (addf (addf (total768 (weights768 S0 M)) (total (weights S1 M))) (total (weights S2 M)))
        (addf (addf (mixed768 (weights768 S0 M) kv0) (mixed (weights S1 M) kv1)) (mixed (weights S2 M) kv2)) (ix3 h r d)
      = Layer.Attend.attend (Finset.Ico 0 1280) s v := by
  have hm : M (ix3 h r 0) = (Finset.Ico 0 1280).sup s := by
    have e : M (ix3 h r 0) = max (max (greatest768 S0 (ix3 h r 0)) (greatest S1 (ix3 h r 0))) (greatest S2 (ix3 h r 0)) := by rw [hM]; rfl
    rw [e, greatest768_apply S0 h r 0 s hS0, greatest_apply S1 h r 768 s hS1, greatest_apply S2 h r 1024 s hS2,
      Layer.Attend.sup_consecutive (by decide) (by decide) s]
    exact Layer.Attend.sup_consecutive (by decide) (by decide) s
  clear hM
  have hW0 : ∀ x : Fin 768, weights768 S0 M (ix3 h r x) = soft 1280 s (0 + x.val) := fun x => by
    rw [weights768_apply, hS0, hm]; rfl
  have hW1 : ∀ x : Fin 256, weights S1 M (ix3 h r x) = soft 1280 s (768 + x.val) := fun x => by
    rw [weights_apply, hS1, hm]; rfl
  have hW2 : ∀ x : Fin 256, weights S2 M (ix3 h r x) = soft 1280 s (1024 + x.val) := fun x => by
    rw [weights_apply, hS2, hm]; rfl
  rw [quotient_apply]
  have eT : addf (addf (total768 (weights768 S0 M)) (total (weights S1 M))) (total (weights S2 M)) (ix3 h r 0)
      = total768 (weights768 S0 M) (ix3 h r 0) + total (weights S1 M) (ix3 h r 0) + total (weights S2 M) (ix3 h r 0) := rfl
  have eN : ∀ i, addf (addf (mixed768 (weights768 S0 M) kv0) (mixed (weights S1 M) kv1)) (mixed (weights S2 M) kv2) i
      = mixed768 (weights768 S0 M) kv0 i + mixed (weights S1 M) kv1 i + mixed (weights S2 M) kv2 i := fun _ => rfl
  rw [eT, eN, total768_apply _ h r 0 _ hW0, total_apply _ h r 768 _ hW1, total_apply _ h r 1024 _ hW2, mixed768_apply _ _ h r d 0 _ v hW0 hv0,
    mixed_apply _ _ h r d 768 _ v hW1 hv1, mixed_apply _ _ h r d 1024 _ v hW2 hv2, Finset.sum_Ico_consecutive _ (by decide) (by decide),
    Finset.sum_Ico_consecutive _ (by decide) (by decide), Finset.sum_Ico_consecutive _ (by decide) (by decide),
    Finset.sum_Ico_consecutive _ (by decide) (by decide)]
  rfl

variable (q : Vec Ideal S16x64x512 .bf16)

/-- A range of 768 keys farther back. -/
theorem far768_apply (kv : Vec Ideal S768x512 .f32) (se : Vec Ideal S64x768 .f32) (b : Vec Ideal S16x1x1 .f32)
    (h : Fin 16) (r : Fin 64) (x : Fin 768) :
    k0_pay38 (F := Ideal) (k0_pay91 q) kv se b (ix3 h r x)
      = key (se (ix2 r x)) (∑ y : Fin 512, q (ix3 h r y) * kv (ix2 x y)) (b (ix3 h 0 0)) := by
  unfold key
  rw [← Layer.Sparse.masked_eq]
  unfold k0_pay38 k0_pay37 k0_pay91
  pointwise

/-- A point that has 768 keys before the block before. -/
theorem point768 (kv0 : Vec Ideal S768x512 .f32) (kv1 kv2 : Vec Ideal S256x512 .f32) (se0 : Vec Ideal S64x768 .f32)
    (se1 se2 : Vec Ideal S64x256 .f32) (b0 : Vec Ideal S16x1x1 .f32) (b1 b2 : Vec Ideal S1x16x64x256 .f32) :
    ∃ M, M = maximumf (maximumf (greatest768 (k0_pay38 (k0_pay91 q) kv0 se0 b0)) (greatest (k0_pay3 (k0_pay91 q) kv1 se1 b1)))
        (greatest (k0_pay3 (k0_pay91 q) kv2 se2 b2))
      ∧ k0_pay96 (F := Ideal) (k0_pay42 kv2) (k0_pay43 (k0_pay91 q) kv2 se2 (k0_pay36 b2))
          (k0_pay44 (k0_pay91 q) se1 (k0_pay35 b1) kv2 se2 (k0_pay36 b2) (k0_pay38 (k0_pay91 q) kv0 se0 b0) (k0_pay40 (k0_pay91 q) kv1))
          (k0_pay47 (k0_pay91 q) se1 (k0_pay35 b1) kv2 se2 (k0_pay36 b2) (k0_pay38 (k0_pay91 q) kv0 se0 b0) (k0_pay40 (k0_pay91 q) kv1))
          (k0_pay48 (k0_pay91 q) se1 (k0_pay35 b1) kv2 se2 (k0_pay36 b2) (k0_pay37 kv0) (k0_pay38 (k0_pay91 q) kv0 se0 b0) (k0_pay39 kv1)
            (k0_pay40 (k0_pay91 q) kv1))
        = quotient (addf (addf (total768 (weights768 (k0_pay38 (k0_pay91 q) kv0 se0 b0) M)) (total (weights (k0_pay3 (k0_pay91 q) kv1 se1 b1) M)))
              (total (weights (k0_pay3 (k0_pay91 q) kv2 se2 b2) M)))
            (addf (addf (mixed768 (weights768 (k0_pay38 (k0_pay91 q) kv0 se0 b0) M) (k0_pay37 kv0))
              (mixed (weights (k0_pay3 (k0_pay91 q) kv1 se1 b1) M) (k0_pay2 kv1)))
              (mixed (weights (k0_pay3 (k0_pay91 q) kv2 se2 b2) M) (k0_pay2 kv2))) :=
  ⟨_, rfl, rfl⟩

end

variable (m : (ℓ : Loc nD τ sig) → Buf (Elt Ideal) ℓ)

/-- The keys of the range of 768. -/
theorem keys768 (c : Dev nD) (t : Fin cfg0.N) (r : Fin 64)
    (hb : ∀ a, (![0, 0] : Fin 2 → ℕ) a + S768x512.size a ≤ S2048x512.size a) (x : Fin 768) (y : Fin 512) :
    View.ld (iblk m c 2 t) (Rect.unit (s := S2048x512) ![0, 0] S768x512.size hb) (ix2 x y)
      = m ((c : Thread nD τ).loc main_arg2) (ix2 (Layer.Sparse.keyRow (row t r).val (0 + x.val)) y) := by
  rw [Nat.zero_add]
  refine Eq.trans ?_ (keys_apply m c t r ⟨x.val, by omega⟩ y)
  refine congrArg (iblk m c 2 t) (funext fun a => Fin.ext ?_)
  match a with
  | ⟨0, _⟩ => change 0 + 1 * x.val = x.val; omega
  | ⟨1, _⟩ => change 0 + 1 * y.val = y.val; omega

/-- The selection of the range of 768. -/
theorem selection768 (c : Dev nD) (t : Fin cfg0.N) (r : Fin 64)
    (hb : ∀ a, (![0, 0] : Fin 2 → ℕ) a + S64x768.size a ≤ S64x2048.size a) (x : Fin 768) :
    View.ld (iblk m c 3 t) (Rect.unit (s := S64x2048) ![0, 0] S64x768.size hb) (ix2 r x)
      = m ((c : Thread nD τ).loc main_arg3) (ix2 (row t r) (⟨(0 + x.val) % 2048, Nat.mod_lt _ (by decide)⟩ : Fin 2048)) := by
  refine Eq.trans ?_ (selection_apply m c t r _)
  refine congrArg (iblk m c 3 t) (funext fun a => Fin.ext ?_)
  match a with
  | ⟨0, _⟩ => change 0 + 1 * r.val = r.val; omega
  | ⟨1, _⟩ => change 0 + 1 * x.val = (0 + x.val) % 2048; omega

variable (c : Dev nD) (t : Fin cfg0.N) (h : Fin 16) (r : Fin 64) (d : Fin 512)

/-- The range of 768 keys farther back. -/
theorem score768 (kv : Vec Ideal S768x512 .f32) (se : Vec Ideal S64x768 .f32) (b : Vec Ideal S16x1x1 .f32) (a : ℕ)
    (hkv : ∀ (x : Fin 768) (y : Fin 512), kv (ix2 x y) = values m c (row t r) y (a + x.val))
    (hse : ∀ x : Fin 768, se (ix2 r x)
      = m ((c : Thread nD τ).loc main_arg3) (ix2 (row t r) (⟨(a + x.val) % 2048, Nat.mod_lt _ (by decide)⟩ : Fin 2048)))
    (hb : ∀ x : Fin 768, b (ix3 h 0 0)
      = Layer.Sparse.bias (m ((c : Thread nD τ).loc main_arg0)) h ((row t r).val % 2048) (a + x.val)) (x : Fin 768) :
    k0_pay38 (F := Ideal) (k0_pay91 (iblk m c 1 t)) kv se b (ix3 h r x) = scores m c h (row t r) (a + x.val) := by
  rw [far768_apply]
  refine key_score m c h (row t r) (a + x.val) _ _ _ (hse x) (Finset.sum_congr rfl fun y _ => ?_) (hb x)
  rw [queries_apply, hkv]
  exact mul_comm (query m c h (row t r) y) (values m c (row t r) y (a + x.val))

/-- What a point leaves where 768 keys are before the block before. -/
theorem leaves768 (h0 : 16 ≤ t.val % 32 ∧ t.val % 32 ≤ 19) :
    outsAt0 m c t.val t.isLt (ix3 h r d) = Layer.Attend.attend (Finset.Ico 0 1280) (scores m c h (row t r)) (values m c (row t r) d) := by
  rw [outsAt0_E m c t (by omega) (by omega) (by omega) (by omega) h0 (by omega) (by omega) (by omega)]
  frame_out
  obtain ⟨M, hM, e⟩ := point768 (iblk m c 1 t) _ _ _ _ _ _ _ _ _
  refine (congrFun e _).trans ?_
  exact ranges768 _ _ h r d _ _ _ _ _ _ M hM
    (score768 m c t h r _ _ _ 0 (keys768 m c t r _) (selection768 m c t r _) fun x => far_bias m c t h r _ (by omega) (by omega))
    (fun x => keys768 m c t r _ x d)
    (near_score m c t h r _ _ _ 768 (range_keys m c t r 768 _) (range_selection m c t r 768 _) (before_bias m c t h r 768 (by omega)))
    (fun x => range_keys m c t r 768 _ x d)
    (near_score m c t h r _ _ _ 1024 (range_keys m c t r 1024 _) (range_selection m c t r 1024 _) (own_bias m c t h r 1024 (by omega)))
    fun x => range_keys m c t r 1024 _ x d

end Cert.Kernel12Ideal.Sparse

end
-- ==== Proof.SparseAttnRange1024.lean ====
/- The sparse attention's kernel where a query's sequence has 1024 keys before the block before the query's: the parts of that range,
   what a point computes, and what it leaves. -/
module

public import proofs.«01_k».proof.Proof.SparseAttnBlocks

@[expose] public section

set_option maxRecDepth 16384

noncomputable section

namespace Cert.Kernel12Ideal.Sparse

open Idealize.ShloMosaic Idealize.ShloMosaic.TcCoe
open Cert.Kernel12Ideal Cert.Kernel12Ideal.Gen

/-! ## The parts of a range of 1024 keys -/

/-- The greatest score of each row. -/
def greatest1024 (S : FVec Ideal S16x64x1024 .f32) : FVec Ideal S16x64x1 .f32 :=
  shapeCast S16x64x1 (multiReduction .maximumf [2] S16x64 S 0xFF800000#32 reduces_S16x64x1024_S16x64 (.inl rfl) rfl) shapeCasts_S16x64_S16x64x1

theorem greatest1024_apply (S : FVec Ideal S16x64x1024 .f32) (h : Fin 16) (r : Fin 64) (a : ℕ) (s : ℕ → EReal)
    (hS : ∀ x : Fin 1024, S (ix3 h r x) = s (a + x.val)) : greatest1024 S (ix3 h r 0) = (Finset.Ico a (a + 1024)).sup s := by
  have e : greatest1024 S (ix3 h r 0) = Finset.fold max (Ideal.ofBits FTy.f32 0xFF800000#32) (fun x : Fin 1024 => S (ix3 h r x)) Finset.univ := by
    unfold greatest1024
    pointwise
  rw [e, Layer.Sparse.masked_eq, ← Layer.Attend.fold_max]
  simp only [hS]

/-- The weights of the keys. -/
def weights1024 (S : FVec Ideal S16x64x1024 .f32) (M : FVec Ideal S16x64x1 .f32) : FVec Ideal S16x64x1024 .f32 :=
  exp (subf S (broadcastTo S16x64x1024 M broadcasts_S16x64x1_S16x64x1024))

theorem weights1024_apply (S : FVec Ideal S16x64x1024 .f32) (M : FVec Ideal S16x64x1 .f32) (h : Fin 16) (r : Fin 64) (x : Fin 1024) :
    weights1024 S M (ix3 h r x) = Ideal.exp (S (ix3 h r x) - M (ix3 h r 0)) := by
  unfold weights1024
  pointwise

/-- The sum of each row's weights. -/
def total1024 (W : FVec Ideal S16x64x1024 .f32) : FVec Ideal S16x64x1 .f32 :=
  shapeCast S16x64x1 (multiReduction .add [2] S16x64 W 0x00000000#32 reduces_S16x64x1024_S16x64 (.inl rfl) rfl) shapeCasts_S16x64_S16x64x1

theorem total1024_apply (W : FVec Ideal S16x64x1024 .f32) (h : Fin 16) (r : Fin 64) (a : ℕ) (f : ℕ → EReal)
    (hW : ∀ x : Fin 1024, W (ix3 h r x) = f (a + x.val)) : total1024 W (ix3 h r 0) = ∑ k ∈ Finset.Ico a (a + 1024), f k := by
  have e : total1024 W (ix3 h r 0) = ∑ x : Fin 1024, W (ix3 h r x) := by
    unfold total1024
    pointwise
  rw [e, ← Layer.Attend.sum_axis]
  simp only [hW]

/-- The values mixed by the weights. -/
def mixed1024 (W : FVec Ideal S16x64x1024 .f32) (v : FVec Ideal S1024x512 .bf16) : FVec Ideal S1024x512 .f32 :=
  matmul dot_S1024x1024_S1024x512_S1024x512_1_0_0_1_n_n none
    (truncf .bf16 (shapeCast S1024x1024 W shapeCasts_S16x64x1024_S1024x1024) bitsLt_bf16_f32) v (constant S1024x512 .f32 0x00000000#32)

theorem mixed1024_apply (W : FVec Ideal S16x64x1024 .f32) (v : FVec Ideal S1024x512 .bf16) (h : Fin 16) (r : Fin 64) (d : Fin 512)
    (a : ℕ) (f g : ℕ → EReal) (hW : ∀ x : Fin 1024, W (ix3 h r x) = f (a + x.val)) (hv : ∀ x : Fin 1024, v (ix2 x d) = g (a + x.val)) :
    mixed1024 W v (ix2 (⟨h.val * 64 + r.val, by omega⟩ : Fin 1024) d) = ∑ k ∈ Finset.Ico a (a + 1024), f k * g k := by
  have e : mixed1024 W v (ix2 (⟨h.val * 64 + r.val, by omega⟩ : Fin 1024) d) = ∑ x : Fin 1024, W (ix3 h r x) * v (ix2 x d) := by
    unfold mixed1024
    pointwise
  rw [e, ← Layer.Attend.sum_axis a 1024 fun k => f k * g k]
  simp only [hW, hv]

section

variable (s v : ℕ → EReal) (h : Fin 16) (r : Fin 64) (d : Fin 512)

/-- The attention over three ranges, the first of 1024 keys. -/
theorem ranges1024 (S0 : FVec Ideal S16x64x1024 .f32) (S1 S2 : FVec Ideal S16x64x256 .f32) (kv0 : FVec Ideal S1024x512 .bf16)
    (kv1 kv2 : FVec Ideal S256x512 .bf16) (M : FVec Ideal S16x64x1 .f32)
    (hM : M = maximumf (maximumf (greatest1024 S0) (greatest S1)) (greatest S2))
    (hS0 : ∀ x : Fin 1024, S0 (ix3 h r x) = s (0 + x.val)) (hv0 : ∀ x : Fin 1024, kv0 (ix2 x d) = v (0 + x.val))
    (hS1 : ∀ x : Fin 256, S1 (ix3 h r x) = s (1024 + x.val)) (hv1 : ∀ x : Fin 256, kv1 (ix2 x d) = v (1024 + x.val))
    (hS2 : ∀ x : Fin 256, S2 (ix3 h r x) = s (1280 + x.val)) (hv2 : ∀ x : Fin 256, kv2 (ix2 x d) = v (1280 + x.val)) :
    quotient (addf (addf (total1024 (weights1024 S0 M)) (total (weights S1 M))) (total (weights S2 M)))
        (addf (addf (mixed1024 (weights1024 S0 M) kv0) (mixed (weights S1 M) kv1)) (mixed (weights S2 M) kv2)) (ix3 h r d)
      = Layer.Attend.attend (Finset.Ico 0 1536) s v := by
  have hm : M (ix3 h r 0) = (Finset.Ico 0 1536).sup s := by
    have e : M (ix3 h r 0) = max (max (greatest1024 S0 (ix3 h r 0)) (greatest S1 (ix3 h r 0))) (greatest S2 (ix3 h r 0)) := by rw [hM]; rfl
    rw [e, greatest1024_apply S0 h r 0 s hS0, greatest_apply S1 h r 1024 s hS1, greatest_apply S2 h r 1280 s hS2,
      Layer.Attend.sup_consecutive (by decide) (by decide) s]
    exact Layer.Attend.sup_consecutive (by decide) (by decide) s
  clear hM
  have hW0 : ∀ x : Fin 1024, weights1024 S0 M (ix3 h r x) = soft 1536 s (0 + x.val) := fun x => by
    rw [weights1024_apply, hS0, hm]; rfl
  have hW1 : ∀ x : Fin 256, weights S1 M (ix3 h r x) = soft 1536 s (1024 + x.val) := fun x => by
    rw [weights_apply, hS1, hm]; rfl
  have hW2 : ∀ x : Fin 256, weights S2 M (ix3 h r x) = soft 1536 s (1280 + x.val) := fun x => by
    rw [weights_apply, hS2, hm]; rfl
  rw [quotient_apply]
  have eT : addf (addf (total1024 (weights1024 S0 M)) (total (weights S1 M))) (total (weights S2 M)) (ix3 h r 0)
      = total1024 (weights1024 S0 M) (ix3 h r 0) + total (weights S1 M) (ix3 h r 0) + total (weights S2 M) (ix3 h r 0) := rfl
  have eN : ∀ i, addf (addf (mixed1024 (weights1024 S0 M) kv0) (mixed (weights S1 M) kv1)) (mixed (weights S2 M) kv2) i
      = mixed1024 (weights1024 S0 M) kv0 i + mixed (weights S1 M) kv1 i + mixed (weights S2 M) kv2 i := fun _ => rfl
  rw [eT, eN, total1024_apply _ h r 0 _ hW0, total_apply _ h r 1024 _ hW1, total_apply _ h r 1280 _ hW2, mixed1024_apply _ _ h r d 0 _ v hW0 hv0,
    mixed_apply _ _ h r d 1024 _ v hW1 hv1, mixed_apply _ _ h r d 1280 _ v hW2 hv2, Finset.sum_Ico_consecutive _ (by decide) (by decide),
    Finset.sum_Ico_consecutive _ (by decide) (by decide), Finset.sum_Ico_consecutive _ (by decide) (by decide),
    Finset.sum_Ico_consecutive _ (by decide) (by decide)]
  rfl

variable (q : Vec Ideal S16x64x512 .bf16)

/-- A range of 1024 keys farther back. -/
theorem far1024_apply (kv : Vec Ideal S1024x512 .f32) (se : Vec Ideal S64x1024 .f32) (b : Vec Ideal S16x1x1 .f32)
    (h : Fin 16) (r : Fin 64) (x : Fin 1024) :
    k0_pay52 (F := Ideal) (k0_pay91 q) kv se b (ix3 h r x)
      = key (se (ix2 r x)) (∑ y : Fin 512, q (ix3 h r y) * kv (ix2 x y)) (b (ix3 h 0 0)) := by
  unfold key
  rw [← Layer.Sparse.masked_eq]
  unfold k0_pay52 k0_pay51 k0_pay91
  pointwise

/-- A point that has 1024 keys before the block before. -/
theorem point1024 (kv0 : Vec Ideal S1024x512 .f32) (kv1 kv2 : Vec Ideal S256x512 .f32) (se0 : Vec Ideal S64x1024 .f32)
    (se1 se2 : Vec Ideal S64x256 .f32) (b0 : Vec Ideal S16x1x1 .f32) (b1 b2 : Vec Ideal S1x16x64x256 .f32) :
    ∃ M, M = maximumf (maximumf (greatest1024 (k0_pay52 (k0_pay91 q) kv0 se0 b0)) (greatest (k0_pay3 (k0_pay91 q) kv1 se1 b1)))
        (greatest (k0_pay3 (k0_pay91 q) kv2 se2 b2))
      ∧ k0_pay97 (F := Ideal) (k0_pay56 kv2) (k0_pay57 (k0_pay91 q) kv2 se2 (k0_pay50 b2))
          (k0_pay58 (k0_pay91 q) se1 (k0_pay49 b1) kv2 se2 (k0_pay50 b2) (k0_pay52 (k0_pay91 q) kv0 se0 b0) (k0_pay54 (k0_pay91 q) kv1))
          (k0_pay61 (k0_pay91 q) se1 (k0_pay49 b1) kv2 se2 (k0_pay50 b2) (k0_pay52 (k0_pay91 q) kv0 se0 b0) (k0_pay54 (k0_pay91 q) kv1))
          (k0_pay62 (k0_pay91 q) se1 (k0_pay49 b1) kv2 se2 (k0_pay50 b2) (k0_pay51 kv0) (k0_pay52 (k0_pay91 q) kv0 se0 b0) (k0_pay53 kv1)
            (k0_pay54 (k0_pay91 q) kv1))
        = quotient (addf (addf (total1024 (weights1024 (k0_pay52 (k0_pay91 q) kv0 se0 b0) M)) (total (weights (k0_pay3 (k0_pay91 q) kv1 se1 b1) M)))
              (total (weights (k0_pay3 (k0_pay91 q) kv2 se2 b2) M)))
            (addf (addf (mixed1024 (weights1024 (k0_pay52 (k0_pay91 q) kv0 se0 b0) M) (k0_pay51 kv0))
              (mixed (weights (k0_pay3 (k0_pay91 q) kv1 se1 b1) M) (k0_pay2 kv1)))
              (mixed (weights (k0_pay3 (k0_pay91 q) kv2 se2 b2) M) (k0_pay2 kv2))) :=
  ⟨_, rfl, rfl⟩

end

variable (m : (ℓ : Loc nD τ sig) → Buf (Elt Ideal) ℓ)

/-- The keys of the range of 1024. -/
theorem keys1024 (c : Dev nD) (t : Fin cfg0.N) (r : Fin 64)
    (hb : ∀ a, (![0, 0] : Fin 2 → ℕ) a + S1024x512.size a ≤ S2048x512.size a) (x : Fin 1024) (y : Fin 512) :
    View.ld (iblk m c 2 t) (Rect.unit (s := S2048x512) ![0, 0] S1024x512.size hb) (ix2 x y)
      = m ((c : Thread nD τ).loc main_arg2) (ix2 (Layer.Sparse.keyRow (row t r).val (0 + x.val)) y) := by
  rw [Nat.zero_add]
  refine Eq.trans ?_ (keys_apply m c t r ⟨x.val, by omega⟩ y)
  refine congrArg (iblk m c 2 t) (funext fun a => Fin.ext ?_)
  match a with
  | ⟨0, _⟩ => change 0 + 1 * x.val = x.val; omega
  | ⟨1, _⟩ => change 0 + 1 * y.val = y.val; omega

/-- The selection of the range of 1024. -/
theorem selection1024 (c : Dev nD) (t : Fin cfg0.N) (r : Fin 64)
    (hb : ∀ a, (![0, 0] : Fin 2 → ℕ) a + S64x1024.size a ≤ S64x2048.size a) (x : Fin 1024) :
    View.ld (iblk m c 3 t) (Rect.unit (s := S64x2048) ![0, 0] S64x1024.size hb) (ix2 r x)
      = m ((c : Thread nD τ).loc main_arg3) (ix2 (row t r) (⟨(0 + x.val) % 2048, Nat.mod_lt _ (by decide)⟩ : Fin 2048)) := by
  refine Eq.trans ?_ (selection_apply m c t r _)
  refine congrArg (iblk m c 3 t) (funext fun a => Fin.ext ?_)
  match a with
  | ⟨0, _⟩ => change 0 + 1 * r.val = r.val; omega
  | ⟨1, _⟩ => change 0 + 1 * x.val = (0 + x.val) % 2048; omega

variable (c : Dev nD) (t : Fin cfg0.N) (h : Fin 16) (r : Fin 64) (d : Fin 512)

/-- The range of 1024 keys farther back. -/
theorem score1024 (kv : Vec Ideal S1024x512 .f32) (se : Vec Ideal S64x1024 .f32) (b : Vec Ideal S16x1x1 .f32) (a : ℕ)
    (hkv : ∀ (x : Fin 1024) (y : Fin 512), kv (ix2 x y) = values m c (row t r) y (a + x.val))
    (hse : ∀ x : Fin 1024, se (ix2 r x)
      = m ((c : Thread nD τ).loc main_arg3) (ix2 (row t r) (⟨(a + x.val) % 2048, Nat.mod_lt _ (by decide)⟩ : Fin 2048)))
    (hb : ∀ x : Fin 1024, b (ix3 h 0 0)
      = Layer.Sparse.bias (m ((c : Thread nD τ).loc main_arg0)) h ((row t r).val % 2048) (a + x.val)) (x : Fin 1024) :
    k0_pay52 (F := Ideal) (k0_pay91 (iblk m c 1 t)) kv se b (ix3 h r x) = scores m c h (row t r) (a + x.val) := by
  rw [far1024_apply]
  refine key_score m c h (row t r) (a + x.val) _ _ _ (hse x) (Finset.sum_congr rfl fun y _ => ?_) (hb x)
  rw [queries_apply, hkv]
  exact mul_comm (query m c h (row t r) y) (values m c (row t r) y (a + x.val))

/-- What a point leaves where 1024 keys are before the block before. -/
theorem leaves1024 (h0 : 20 ≤ t.val % 32 ∧ t.val % 32 ≤ 23) :
    outsAt0 m c t.val t.isLt (ix3 h r d) = Layer.Attend.attend (Finset.Ico 0 1536) (scores m c h (row t r)) (values m c (row t r) d) := by
  rw [outsAt0_F m c t (by omega) (by omega) (by omega) (by omega) (by omega) h0 (by omega) (by omega)]
  frame_out
  obtain ⟨M, hM, e⟩ := point1024 (iblk m c 1 t) _ _ _ _ _ _ _ _ _
  refine (congrFun e _).trans ?_
  exact ranges1024 _ _ h r d _ _ _ _ _ _ M hM
    (score1024 m c t h r _ _ _ 0 (keys1024 m c t r _) (selection1024 m c t r _) fun x => far_bias m c t h r _ (by omega) (by omega))
    (fun x => keys1024 m c t r _ x d)
    (near_score m c t h r _ _ _ 1024 (range_keys m c t r 1024 _) (range_selection m c t r 1024 _) (before_bias m c t h r 1024 (by omega)))
    (fun x => range_keys m c t r 1024 _ x d)
    (near_score m c t h r _ _ _ 1280 (range_keys m c t r 1280 _) (range_selection m c t r 1280 _) (own_bias m c t h r 1280 (by omega)))
    fun x => range_keys m c t r 1280 _ x d

end Cert.Kernel12Ideal.Sparse

end
-- ==== Proof.SparseAttnRange1280.lean ====
/- The sparse attention's kernel where a query's sequence has 1280 keys before the block before the query's: the parts of that range,
   what a point computes, and what it leaves. -/
module

public import proofs.«01_k».proof.Proof.SparseAttnBlocks

@[expose] public section

set_option maxRecDepth 16384

noncomputable section

namespace Cert.Kernel12Ideal.Sparse

open Idealize.ShloMosaic Idealize.ShloMosaic.TcCoe
open Cert.Kernel12Ideal Cert.Kernel12Ideal.Gen

/-! ## The parts of a range of 1280 keys -/

/-- The greatest score of each row. -/
def greatest1280 (S : FVec Ideal S16x64x1280 .f32) : FVec Ideal S16x64x1 .f32 :=
  shapeCast S16x64x1 (multiReduction .maximumf [2] S16x64 S 0xFF800000#32 reduces_S16x64x1280_S16x64 (.inl rfl) rfl) shapeCasts_S16x64_S16x64x1

theorem greatest1280_apply (S : FVec Ideal S16x64x1280 .f32) (h : Fin 16) (r : Fin 64) (a : ℕ) (s : ℕ → EReal)
    (hS : ∀ x : Fin 1280, S (ix3 h r x) = s (a + x.val)) : greatest1280 S (ix3 h r 0) = (Finset.Ico a (a + 1280)).sup s := by
  have e : greatest1280 S (ix3 h r 0) = Finset.fold max (Ideal.ofBits FTy.f32 0xFF800000#32) (fun x : Fin 1280 => S (ix3 h r x)) Finset.univ := by
    unfold greatest1280
    pointwise
  rw [e, Layer.Sparse.masked_eq, ← Layer.Attend.fold_max]
  simp only [hS]

/-- The weights of the keys. -/
def weights1280 (S : FVec Ideal S16x64x1280 .f32) (M : FVec Ideal S16x64x1 .f32) : FVec Ideal S16x64x1280 .f32 :=
  exp (subf S (broadcastTo S16x64x1280 M broadcasts_S16x64x1_S16x64x1280))

theorem weights1280_apply (S : FVec Ideal S16x64x1280 .f32) (M : FVec Ideal S16x64x1 .f32) (h : Fin 16) (r : Fin 64) (x : Fin 1280) :
    weights1280 S M (ix3 h r x) = Ideal.exp (S (ix3 h r x) - M (ix3 h r 0)) := by
  unfold weights1280
  pointwise

/-- The sum of each row's weights. -/
def total1280 (W : FVec Ideal S16x64x1280 .f32) : FVec Ideal S16x64x1 .f32 :=
  shapeCast S16x64x1 (multiReduction .add [2] S16x64 W 0x00000000#32 reduces_S16x64x1280_S16x64 (.inl rfl) rfl) shapeCasts_S16x64_S16x64x1

theorem total1280_apply (W : FVec Ideal S16x64x1280 .f32) (h : Fin 16) (r : Fin 64) (a : ℕ) (f : ℕ → EReal)
    (hW : ∀ x : Fin 1280, W (ix3 h r x) = f (a + x.val)) : total1280 W (ix3 h r 0) = ∑ k ∈ Finset.Ico a (a + 1280), f k := by
  have e : total1280 W (ix3 h r 0) = ∑ x : Fin 1280, W (ix3 h r x) := by
    unfold total1280
    pointwise
  rw [e, ← Layer.Attend.sum_axis]
  simp only [hW]

/-- The values mixed by the weights. -/
def mixed1280 (W : FVec Ideal S16x64x1280 .f32) (v : FVec Ideal S1280x512 .bf16) : FVec Ideal S1024x512 .f32 :=
  matmul dot_S1024x1280_S1280x512_S1024x512_1_0_0_1_n_n none
    (truncf .bf16 (shapeCast S1024x1280 W shapeCasts_S16x64x1280_S1024x1280) bitsLt_bf16_f32) v (constant S1024x512 .f32 0x00000000#32)

theorem mixed1280_apply (W : FVec Ideal S16x64x1280 .f32) (v : FVec Ideal S1280x512 .bf16) (h : Fin 16) (r : Fin 64) (d : Fin 512)
    (a : ℕ) (f g : ℕ → EReal) (hW : ∀ x : Fin 1280, W (ix3 h r x) = f (a + x.val)) (hv : ∀ x : Fin 1280, v (ix2 x d) = g (a + x.val)) :
    mixed1280 W v (ix2 (⟨h.val * 64 + r.val, by omega⟩ : Fin 1024) d) = ∑ k ∈ Finset.Ico a (a + 1280), f k * g k := by
  have e : mixed1280 W v (ix2 (⟨h.val * 64 + r.val, by omega⟩ : Fin 1024) d) = ∑ x : Fin 1280, W (ix3 h r x) * v (ix2 x d) := by
    unfold mixed1280
    pointwise
  rw [e, ← Layer.Attend.sum_axis a 1280 fun k => f k * g k]
  simp only [hW, hv]

section

variable (s v : ℕ → EReal) (h : Fin 16) (r : Fin 64) (d : Fin 512)

/-- The attention over three ranges, the first of 1280 keys. -/
theorem ranges1280 (S0 : FVec Ideal S16x64x1280 .f32) (S1 S2 : FVec Ideal S16x64x256 .f32) (kv0 : FVec Ideal S1280x512 .bf16)
    (kv1 kv2 : FVec Ideal S256x512 .bf16) (M : FVec Ideal S16x64x1 .f32)
    (hM : M = maximumf (maximumf (greatest1280 S0) (greatest S1)) (greatest S2))
    (hS0 : ∀ x : Fin 1280, S0 (ix3 h r x) = s (0 + x.val)) (hv0 : ∀ x : Fin 1280, kv0 (ix2 x d) = v (0 + x.val))
    (hS1 : ∀ x : Fin 256, S1 (ix3 h r x) = s (1280 + x.val)) (hv1 : ∀ x : Fin 256, kv1 (ix2 x d) = v (1280 + x.val))
    (hS2 : ∀ x : Fin 256, S2 (ix3 h r x) = s (1536 + x.val)) (hv2 : ∀ x : Fin 256, kv2 (ix2 x d) = v (1536 + x.val)) :
    quotient (addf (addf (total1280 (weights1280 S0 M)) (total (weights S1 M))) (total (weights S2 M)))
        (addf (addf (mixed1280 (weights1280 S0 M) kv0) (mixed (weights S1 M) kv1)) (mixed (weights S2 M) kv2)) (ix3 h r d)
      = Layer.Attend.attend (Finset.Ico 0 1792) s v := by
  have hm : M (ix3 h r 0) = (Finset.Ico 0 1792).sup s := by
    have e : M (ix3 h r 0) = max (max (greatest1280 S0 (ix3 h r 0)) (greatest S1 (ix3 h r 0))) (greatest S2 (ix3 h r 0)) := by rw [hM]; rfl
    rw [e, greatest1280_apply S0 h r 0 s hS0, greatest_apply S1 h r 1280 s hS1, greatest_apply S2 h r 1536 s hS2,
      Layer.Attend.sup_consecutive (by decide) (by decide) s]
    exact Layer.Attend.sup_consecutive (by decide) (by decide) s
  clear hM
  have hW0 : ∀ x : Fin 1280, weights1280 S0 M (ix3 h r x) = soft 1792 s (0 + x.val) := fun x => by
    rw [weights1280_apply, hS0, hm]; rfl
  have hW1 : ∀ x : Fin 256, weights S1 M (ix3 h r x) = soft 1792 s (1280 + x.val) := fun x => by
    rw [weights_apply, hS1, hm]; rfl
  have hW2 : ∀ x : Fin 256, weights S2 M (ix3 h r x) = soft 1792 s (1536 + x.val) := fun x => by
    rw [weights_apply, hS2, hm]; rfl
  rw [quotient_apply]
  have eT : addf (addf (total1280 (weights1280 S0 M)) (total (weights S1 M))) (total (weights S2 M)) (ix3 h r 0)
      = total1280 (weights1280 S0 M) (ix3 h r 0) + total (weights S1 M) (ix3 h r 0) + total (weights S2 M) (ix3 h r 0) := rfl
  have eN : ∀ i, addf (addf (mixed1280 (weights1280 S0 M) kv0) (mixed (weights S1 M) kv1)) (mixed (weights S2 M) kv2) i
      = mixed1280 (weights1280 S0 M) kv0 i + mixed (weights S1 M) kv1 i + mixed (weights S2 M) kv2 i := fun _ => rfl
  rw [eT, eN, total1280_apply _ h r 0 _ hW0, total_apply _ h r 1280 _ hW1, total_apply _ h r 1536 _ hW2, mixed1280_apply _ _ h r d 0 _ v hW0 hv0,
    mixed_apply _ _ h r d 1280 _ v hW1 hv1, mixed_apply _ _ h r d 1536 _ v hW2 hv2, Finset.sum_Ico_consecutive _ (by decide) (by decide),
    Finset.sum_Ico_consecutive _ (by decide) (by decide), Finset.sum_Ico_consecutive _ (by decide) (by decide),
    Finset.sum_Ico_consecutive _ (by decide) (by decide)]
  rfl

variable (q : Vec Ideal S16x64x512 .bf16)

/-- A range of 1280 keys farther back. -/
theorem far1280_apply (kv : Vec Ideal S1280x512 .f32) (se : Vec Ideal S64x1280 .f32) (b : Vec Ideal S16x1x1 .f32)
    (h : Fin 16) (r : Fin 64) (x : Fin 1280) :
    k0_pay66 (F := Ideal) (k0_pay91 q) kv se b (ix3 h r x)
      = key (se (ix2 r x)) (∑ y : Fin 512, q (ix3 h r y) * kv (ix2 x y)) (b (ix3 h 0 0)) := by
  unfold key
  rw [← Layer.Sparse.masked_eq]
  unfold k0_pay66 k0_pay65 k0_pay91
  pointwise

/-- A point that has 1280 keys before the block before. -/
theorem point1280 (kv0 : Vec Ideal S1280x512 .f32) (kv1 kv2 : Vec Ideal S256x512 .f32) (se0 : Vec Ideal S64x1280 .f32)
    (se1 se2 : Vec Ideal S64x256 .f32) (b0 : Vec Ideal S16x1x1 .f32) (b1 b2 : Vec Ideal S1x16x64x256 .f32) :
    ∃ M, M = maximumf (maximumf (greatest1280 (k0_pay66 (k0_pay91 q) kv0 se0 b0)) (greatest (k0_pay3 (k0_pay91 q) kv1 se1 b1)))
        (greatest (k0_pay3 (k0_pay91 q) kv2 se2 b2))
      ∧ k0_pay98 (F := Ideal) (k0_pay70 kv2) (k0_pay71 (k0_pay91 q) kv2 se2 (k0_pay64 b2))
          (k0_pay72 (k0_pay91 q) se1 (k0_pay63 b1) kv2 se2 (k0_pay64 b2) (k0_pay66 (k0_pay91 q) kv0 se0 b0) (k0_pay68 (k0_pay91 q) kv1))
          (k0_pay75 (k0_pay91 q) se1 (k0_pay63 b1) kv2 se2 (k0_pay64 b2) (k0_pay66 (k0_pay91 q) kv0 se0 b0) (k0_pay68 (k0_pay91 q) kv1))
          (k0_pay76 (k0_pay91 q) se1 (k0_pay63 b1) kv2 se2 (k0_pay64 b2) (k0_pay65 kv0) (k0_pay66 (k0_pay91 q) kv0 se0 b0) (k0_pay67 kv1)
            (k0_pay68 (k0_pay91 q) kv1))
        = quotient (addf (addf (total1280 (weights1280 (k0_pay66 (k0_pay91 q) kv0 se0 b0) M)) (total (weights (k0_pay3 (k0_pay91 q) kv1 se1 b1) M)))
              (total (weights (k0_pay3 (k0_pay91 q) kv2 se2 b2) M)))
            (addf (addf (mixed1280 (weights1280 (k0_pay66 (k0_pay91 q) kv0 se0 b0) M) (k0_pay65 kv0))
              (mixed (weights (k0_pay3 (k0_pay91 q) kv1 se1 b1) M) (k0_pay2 kv1)))
              (mixed (weights (k0_pay3 (k0_pay91 q) kv2 se2 b2) M) (k0_pay2 kv2))) :=
  ⟨_, rfl, rfl⟩

end

variable (m : (ℓ : Loc nD τ sig) → Buf (Elt Ideal) ℓ)

/-- The keys of the range of 1280. -/
theorem keys1280 (c : Dev nD) (t : Fin cfg0.N) (r : Fin 64)
    (hb : ∀ a, (![0, 0] : Fin 2 → ℕ) a + S1280x512.size a ≤ S2048x512.size a) (x : Fin 1280) (y : Fin 512) :
    View.ld (iblk m c 2 t) (Rect.unit (s := S2048x512) ![0, 0] S1280x512.size hb) (ix2 x y)
      = m ((c : Thread nD τ).loc main_arg2) (ix2 (Layer.Sparse.keyRow (row t r).val (0 + x.val)) y) := by
  rw [Nat.zero_add]
  refine Eq.trans ?_ (keys_apply m c t r ⟨x.val, by omega⟩ y)
  refine congrArg (iblk m c 2 t) (funext fun a => Fin.ext ?_)
  match a with
  | ⟨0, _⟩ => change 0 + 1 * x.val = x.val; omega
  | ⟨1, _⟩ => change 0 + 1 * y.val = y.val; omega

/-- The selection of the range of 1280. -/
theorem selection1280 (c : Dev nD) (t : Fin cfg0.N) (r : Fin 64)
    (hb : ∀ a, (![0, 0] : Fin 2 → ℕ) a + S64x1280.size a ≤ S64x2048.size a) (x : Fin 1280) :
    View.ld (iblk m c 3 t) (Rect.unit (s := S64x2048) ![0, 0] S64x1280.size hb) (ix2 r x)
      = m ((c : Thread nD τ).loc main_arg3) (ix2 (row t r) (⟨(0 + x.val) % 2048, Nat.mod_lt _ (by decide)⟩ : Fin 2048)) := by
  refine Eq.trans ?_ (selection_apply m c t r _)
  refine congrArg (iblk m c 3 t) (funext fun a => Fin.ext ?_)
  match a with
  | ⟨0, _⟩ => change 0 + 1 * r.val = r.val; omega
  | ⟨1, _⟩ => change 0 + 1 * x.val = (0 + x.val) % 2048; omega

variable (c : Dev nD) (t : Fin cfg0.N) (h : Fin 16) (r : Fin 64) (d : Fin 512)

/-- The range of 1280 keys farther back. -/
theorem score1280 (kv : Vec Ideal S1280x512 .f32) (se : Vec Ideal S64x1280 .f32) (b : Vec Ideal S16x1x1 .f32) (a : ℕ)
    (hkv : ∀ (x : Fin 1280) (y : Fin 512), kv (ix2 x y) = values m c (row t r) y (a + x.val))
    (hse : ∀ x : Fin 1280, se (ix2 r x)
      = m ((c : Thread nD τ).loc main_arg3) (ix2 (row t r) (⟨(a + x.val) % 2048, Nat.mod_lt _ (by decide)⟩ : Fin 2048)))
    (hb : ∀ x : Fin 1280, b (ix3 h 0 0)
      = Layer.Sparse.bias (m ((c : Thread nD τ).loc main_arg0)) h ((row t r).val % 2048) (a + x.val)) (x : Fin 1280) :
    k0_pay66 (F := Ideal) (k0_pay91 (iblk m c 1 t)) kv se b (ix3 h r x) = scores m c h (row t r) (a + x.val) := by
  rw [far1280_apply]
  refine key_score m c h (row t r) (a + x.val) _ _ _ (hse x) (Finset.sum_congr rfl fun y _ => ?_) (hb x)
  rw [queries_apply, hkv]
  exact mul_comm (query m c h (row t r) y) (values m c (row t r) y (a + x.val))

/-- What a point leaves where 1280 keys are before the block before. -/
theorem leaves1280 (h0 : 24 ≤ t.val % 32 ∧ t.val % 32 ≤ 27) :
    outsAt0 m c t.val t.isLt (ix3 h r d) = Layer.Attend.attend (Finset.Ico 0 1792) (scores m c h (row t r)) (values m c (row t r) d) := by
  rw [outsAt0_G m c t (by omega) (by omega) (by omega) (by omega) (by omega) (by omega) h0 (by omega)]
  frame_out
  obtain ⟨M, hM, e⟩ := point1280 (iblk m c 1 t) _ _ _ _ _ _ _ _ _
  refine (congrFun e _).trans ?_
  exact ranges1280 _ _ h r d _ _ _ _ _ _ M hM
    (score1280 m c t h r _ _ _ 0 (keys1280 m c t r _) (selection1280 m c t r _) fun x => far_bias m c t h r _ (by omega) (by omega))
    (fun x => keys1280 m c t r _ x d)
    (near_score m c t h r _ _ _ 1280 (range_keys m c t r 1280 _) (range_selection m c t r 1280 _) (before_bias m c t h r 1280 (by omega)))
    (fun x => range_keys m c t r 1280 _ x d)
    (near_score m c t h r _ _ _ 1536 (range_keys m c t r 1536 _) (range_selection m c t r 1536 _) (own_bias m c t h r 1536 (by omega)))
    fun x => range_keys m c t r 1536 _ x d

end Cert.Kernel12Ideal.Sparse

end
-- ==== Proof.SparseAttnRange1536.lean ====
/- The sparse attention's kernel where a query's sequence has 1536 keys before the block before the query's: the parts of that range,
   what a point computes, and what it leaves. -/
module

public import proofs.«01_k».proof.Proof.SparseAttnBlocks

@[expose] public section

set_option maxRecDepth 16384

noncomputable section

namespace Cert.Kernel12Ideal.Sparse

open Idealize.ShloMosaic Idealize.ShloMosaic.TcCoe
open Cert.Kernel12Ideal Cert.Kernel12Ideal.Gen

/-! ## The parts of a range of 1536 keys -/

/-- The greatest score of each row. -/
def greatest1536 (S : FVec Ideal S16x64x1536 .f32) : FVec Ideal S16x64x1 .f32 :=
  shapeCast S16x64x1 (multiReduction .maximumf [2] S16x64 S 0xFF800000#32 reduces_S16x64x1536_S16x64 (.inl rfl) rfl) shapeCasts_S16x64_S16x64x1

theorem greatest1536_apply (S : FVec Ideal S16x64x1536 .f32) (h : Fin 16) (r : Fin 64) (a : ℕ) (s : ℕ → EReal)
    (hS : ∀ x : Fin 1536, S (ix3 h r x) = s (a + x.val)) : greatest1536 S (ix3 h r 0) = (Finset.Ico a (a + 1536)).sup s := by
  have e : greatest1536 S (ix3 h r 0) = Finset.fold max (Ideal.ofBits FTy.f32 0xFF800000#32) (fun x : Fin 1536 => S (ix3 h r x)) Finset.univ := by
    unfold greatest1536
    pointwise
  rw [e, Layer.Sparse.masked_eq, ← Layer.Attend.fold_max]
  simp only [hS]

/-- The weights of the keys. -/
def weights1536 (S : FVec Ideal S16x64x1536 .f32) (M : FVec Ideal S16x64x1 .f32) : FVec Ideal S16x64x1536 .f32 :=
  exp (subf S (broadcastTo S16x64x1536 M broadcasts_S16x64x1_S16x64x1536))

theorem weights1536_apply (S : FVec Ideal S16x64x1536 .f32) (M : FVec Ideal S16x64x1 .f32) (h : Fin 16) (r : Fin 64) (x : Fin 1536) :
    weights1536 S M (ix3 h r x) = Ideal.exp (S (ix3 h r x) - M (ix3 h r 0)) := by
  unfold weights1536
  pointwise

/-- The sum of each row's weights. -/
def total1536 (W : FVec Ideal S16x64x1536 .f32) : FVec Ideal S16x64x1 .f32 :=
  shapeCast S16x64x1 (multiReduction .add [2] S16x64 W 0x00000000#32 reduces_S16x64x1536_S16x64 (.inl rfl) rfl) shapeCasts_S16x64_S16x64x1

theorem total1536_apply (W : FVec Ideal S16x64x1536 .f32) (h : Fin 16) (r : Fin 64) (a : ℕ) (f : ℕ → EReal)
    (hW : ∀ x : Fin 1536, W (ix3 h r x) = f (a + x.val)) : total1536 W (ix3 h r 0) = ∑ k ∈ Finset.Ico a (a + 1536), f k := by
  have e : total1536 W (ix3 h r 0) = ∑ x : Fin 1536, W (ix3 h r x) := by
    unfold total1536
    pointwise
  rw [e, ← Layer.Attend.sum_axis]
  simp only [hW]

/-- The values mixed by the weights. -/
def mixed1536 (W : FVec Ideal S16x64x1536 .f32) (v : FVec Ideal S1536x512 .bf16) : FVec Ideal S1024x512 .f32 :=
  matmul dot_S1024x1536_S1536x512_S1024x512_1_0_0_1_n_n none
    (truncf .bf16 (shapeCast S1024x1536 W shapeCasts_S16x64x1536_S1024x1536) bitsLt_bf16_f32) v (constant S1024x512 .f32 0x00000000#32)

theorem mixed1536_apply (W : FVec Ideal S16x64x1536 .f32) (v : FVec Ideal S1536x512 .bf16) (h : Fin 16) (r : Fin 64) (d : Fin 512)
    (a : ℕ) (f g : ℕ → EReal) (hW : ∀ x : Fin 1536, W (ix3 h r x) = f (a + x.val)) (hv : ∀ x : Fin 1536, v (ix2 x d) = g (a + x.val)) :
    mixed1536 W v (ix2 (⟨h.val * 64 + r.val, by omega⟩ : Fin 1024) d) = ∑ k ∈ Finset.Ico a (a + 1536), f k * g k := by
  have e : mixed1536 W v (ix2 (⟨h.val * 64 + r.val, by omega⟩ : Fin 1024) d) = ∑ x : Fin 1536, W (ix3 h r x) * v (ix2 x d) := by
    unfold mixed1536
    pointwise
  rw [e, ← Layer.Attend.sum_axis a 1536 fun k => f k * g k]
  simp only [hW, hv]

section

variable (s v : ℕ → EReal) (h : Fin 16) (r : Fin 64) (d : Fin 512)

/-- The attention over three ranges, the first of 1536 keys. -/
theorem ranges1536 (S0 : FVec Ideal S16x64x1536 .f32) (S1 S2 : FVec Ideal S16x64x256 .f32) (kv0 : FVec Ideal S1536x512 .bf16)
    (kv1 kv2 : FVec Ideal S256x512 .bf16) (M : FVec Ideal S16x64x1 .f32)
    (hM : M = maximumf (maximumf (greatest1536 S0) (greatest S1)) (greatest S2))
    (hS0 : ∀ x : Fin 1536, S0 (ix3 h r x) = s (0 + x.val)) (hv0 : ∀ x : Fin 1536, kv0 (ix2 x d) = v (0 + x.val))
    (hS1 : ∀ x : Fin 256, S1 (ix3 h r x) = s (1536 + x.val)) (hv1 : ∀ x : Fin 256, kv1 (ix2 x d) = v (1536 + x.val))
    (hS2 : ∀ x : Fin 256, S2 (ix3 h r x) = s (1792 + x.val)) (hv2 : ∀ x : Fin 256, kv2 (ix2 x d) = v (1792 + x.val)) :
    quotient (addf (addf (total1536 (weights1536 S0 M)) (total (weights S1 M))) (total (weights S2 M)))
        (addf (addf (mixed1536 (weights1536 S0 M) kv0) (mixed (weights S1 M) kv1)) (mixed (weights S2 M) kv2)) (ix3 h r d)
      = Layer.Attend.attend (Finset.Ico 0 2048) s v := by
  have hm : M (ix3 h r 0) = (Finset.Ico 0 2048).sup s := by
    have e : M (ix3 h r 0) = max (max (greatest1536 S0 (ix3 h r 0)) (greatest S1 (ix3 h r 0))) (greatest S2 (ix3 h r 0)) := by rw [hM]; rfl
    rw [e, greatest1536_apply S0 h r 0 s hS0, greatest_apply S1 h r 1536 s hS1, greatest_apply S2 h r 1792 s hS2,
      Layer.Attend.sup_consecutive (by decide) (by decide) s]
    exact Layer.Attend.sup_consecutive (by decide) (by decide) s
  clear hM
  have hW0 : ∀ x : Fin 1536, weights1536 S0 M (ix3 h r x) = soft 2048 s (0 + x.val) := fun x => by
    rw [weights1536_apply, hS0, hm]; rfl
  have hW1 : ∀ x : Fin 256, weights S1 M (ix3 h r x) = soft 2048 s (1536 + x.val) := fun x => by
    rw [weights_apply, hS1, hm]; rfl
  have hW2 : ∀ x : Fin 256, weights S2 M (ix3 h r x) = soft 2048 s (1792 + x.val) := fun x => by
    rw [weights_apply, hS2, hm]; rfl
  rw [quotient_apply]
  have eT : addf (addf (total1536 (weights1536 S0 M)) (total (weights S1 M))) (total (weights S2 M)) (ix3 h r 0)
      = total1536 (weights1536 S0 M) (ix3 h r 0) + total (weights S1 M) (ix3 h r 0) + total (weights S2 M) (ix3 h r 0) := rfl
  have eN : ∀ i, addf (addf (mixed1536 (weights1536 S0 M) kv0) (mixed (weights S1 M) kv1)) (mixed (weights S2 M) kv2) i
      = mixed1536 (weights1536 S0 M) kv0 i + mixed (weights S1 M) kv1 i + mixed (weights S2 M) kv2 i := fun _ => rfl
  rw [eT, eN, total1536_apply _ h r 0 _ hW0, total_apply _ h r 1536 _ hW1, total_apply _ h r 1792 _ hW2, mixed1536_apply _ _ h r d 0 _ v hW0 hv0,
    mixed_apply _ _ h r d 1536 _ v hW1 hv1, mixed_apply _ _ h r d 1792 _ v hW2 hv2, Finset.sum_Ico_consecutive _ (by decide) (by decide),
    Finset.sum_Ico_consecutive _ (by decide) (by decide), Finset.sum_Ico_consecutive _ (by decide) (by decide),
    Finset.sum_Ico_consecutive _ (by decide) (by decide)]
  rfl

variable (q : Vec Ideal S16x64x512 .bf16)

/-- A range of 1536 keys farther back. -/
theorem far1536_apply (kv : Vec Ideal S1536x512 .f32) (se : Vec Ideal S64x1536 .f32) (b : Vec Ideal S16x1x1 .f32)
    (h : Fin 16) (r : Fin 64) (x : Fin 1536) :
    k0_pay80 (F := Ideal) (k0_pay91 q) kv se b (ix3 h r x)
      = key (se (ix2 r x)) (∑ y : Fin 512, q (ix3 h r y) * kv (ix2 x y)) (b (ix3 h 0 0)) := by
  unfold key
  rw [← Layer.Sparse.masked_eq]
  unfold k0_pay80 k0_pay79 k0_pay91
  pointwise

/-- A point that has 1536 keys before the block before. -/
theorem point1536 (kv0 : Vec Ideal S1536x512 .f32) (kv1 kv2 : Vec Ideal S256x512 .f32) (se0 : Vec Ideal S64x1536 .f32)
    (se1 se2 : Vec Ideal S64x256 .f32) (b0 : Vec Ideal S16x1x1 .f32) (b1 b2 : Vec Ideal S1x16x64x256 .f32) :
    ∃ M, M = maximumf (maximumf (greatest1536 (k0_pay80 (k0_pay91 q) kv0 se0 b0)) (greatest (k0_pay3 (k0_pay91 q) kv1 se1 b1)))
        (greatest (k0_pay3 (k0_pay91 q) kv2 se2 b2))
      ∧ k0_pay1 (F := Ideal) (k0_pay84 kv2) (k0_pay85 (k0_pay91 q) kv2 se2 (k0_pay78 b2))
          (k0_pay86 (k0_pay91 q) se1 (k0_pay77 b1) kv2 se2 (k0_pay78 b2) (k0_pay80 (k0_pay91 q) kv0 se0 b0) (k0_pay82 (k0_pay91 q) kv1))
          (k0_pay89 (k0_pay91 q) se1 (k0_pay77 b1) kv2 se2 (k0_pay78 b2) (k0_pay80 (k0_pay91 q) kv0 se0 b0) (k0_pay82 (k0_pay91 q) kv1))
          (k0_pay90 (k0_pay91 q) se1 (k0_pay77 b1) kv2 se2 (k0_pay78 b2) (k0_pay79 kv0) (k0_pay80 (k0_pay91 q) kv0 se0 b0) (k0_pay81 kv1)
            (k0_pay82 (k0_pay91 q) kv1))
        = quotient (addf (addf (total1536 (weights1536 (k0_pay80 (k0_pay91 q) kv0 se0 b0) M)) (total (weights (k0_pay3 (k0_pay91 q) kv1 se1 b1) M)))
              (total (weights (k0_pay3 (k0_pay91 q) kv2 se2 b2) M)))
            (addf (addf (mixed1536 (weights1536 (k0_pay80 (k0_pay91 q) kv0 se0 b0) M) (k0_pay79 kv0))
              (mixed (weights (k0_pay3 (k0_pay91 q) kv1 se1 b1) M) (k0_pay2 kv1)))
              (mixed (weights (k0_pay3 (k0_pay91 q) kv2 se2 b2) M) (k0_pay2 kv2))) :=
  ⟨_, rfl, rfl⟩

end

variable (m : (ℓ : Loc nD τ sig) → Buf (Elt Ideal) ℓ)

/-- The keys of the range of 1536. -/
theorem keys1536 (c : Dev nD) (t : Fin cfg0.N) (r : Fin 64)
    (hb : ∀ a, (![0, 0] : Fin 2 → ℕ) a + S1536x512.size a ≤ S2048x512.size a) (x : Fin 1536) (y : Fin 512) :
    View.ld (iblk m c 2 t) (Rect.unit (s := S2048x512) ![0, 0] S1536x512.size hb) (ix2 x y)
      = m ((c : Thread nD τ).loc main_arg2) (ix2 (Layer.Sparse.keyRow (row t r).val (0 + x.val)) y) := by
  rw [Nat.zero_add]
  refine Eq.trans ?_ (keys_apply m c t r ⟨x.val, by omega⟩ y)
  refine congrArg (iblk m c 2 t) (funext fun a => Fin.ext ?_)
  match a with
  | ⟨0, _⟩ => change 0 + 1 * x.val = x.val; omega
  | ⟨1, _⟩ => change 0 + 1 * y.val = y.val; omega

/-- The selection of the range of 1536. -/
theorem selection1536 (c : Dev nD) (t : Fin cfg0.N) (r : Fin 64)
    (hb : ∀ a, (![0, 0] : Fin 2 → ℕ) a + S64x1536.size a ≤ S64x2048.size a) (x : Fin 1536) :
    View.ld (iblk m c 3 t) (Rect.unit (s := S64x2048) ![0, 0] S64x1536.size hb) (ix2 r x)
      = m ((c : Thread nD τ).loc main_arg3) (ix2 (row t r) (⟨(0 + x.val) % 2048, Nat.mod_lt _ (by decide)⟩ : Fin 2048)) := by
  refine Eq.trans ?_ (selection_apply m c t r _)
  refine congrArg (iblk m c 3 t) (funext fun a => Fin.ext ?_)
  match a with
  | ⟨0, _⟩ => change 0 + 1 * r.val = r.val; omega
  | ⟨1, _⟩ => change 0 + 1 * x.val = (0 + x.val) % 2048; omega

variable (c : Dev nD) (t : Fin cfg0.N) (h : Fin 16) (r : Fin 64) (d : Fin 512)

/-- The range of 1536 keys farther back. -/
theorem score1536 (kv : Vec Ideal S1536x512 .f32) (se : Vec Ideal S64x1536 .f32) (b : Vec Ideal S16x1x1 .f32) (a : ℕ)
    (hkv : ∀ (x : Fin 1536) (y : Fin 512), kv (ix2 x y) = values m c (row t r) y (a + x.val))
    (hse : ∀ x : Fin 1536, se (ix2 r x)
      = m ((c : Thread nD τ).loc main_arg3) (ix2 (row t r) (⟨(a + x.val) % 2048, Nat.mod_lt _ (by decide)⟩ : Fin 2048)))
    (hb : ∀ x : Fin 1536, b (ix3 h 0 0)
      = Layer.Sparse.bias (m ((c : Thread nD τ).loc main_arg0)) h ((row t r).val % 2048) (a + x.val)) (x : Fin 1536) :
    k0_pay80 (F := Ideal) (k0_pay91 (iblk m c 1 t)) kv se b (ix3 h r x) = scores m c h (row t r) (a + x.val) := by
  rw [far1536_apply]
  refine key_score m c h (row t r) (a + x.val) _ _ _ (hse x) (Finset.sum_congr rfl fun y _ => ?_) (hb x)
  rw [queries_apply, hkv]
  exact mul_comm (query m c h (row t r) y) (values m c (row t r) y (a + x.val))

/-- What a point leaves where 1536 keys are before the block before. -/
theorem leaves1536 (h0 : 28 ≤ t.val % 32) :
    outsAt0 m c t.val t.isLt (ix3 h r d) = Layer.Attend.attend (Finset.Ico 0 2048) (scores m c h (row t r)) (values m c (row t r) d) := by
  rw [outsAt0_H m c t (by omega) (by omega) (by omega) (by omega) (by omega) (by omega) (by omega) h0]
  frame_out
  obtain ⟨M, hM, e⟩ := point1536 (iblk m c 1 t) _ _ _ _ _ _ _ _ _
  refine (congrFun e _).trans ?_
  exact ranges1536 _ _ h r d _ _ _ _ _ _ M hM
    (score1536 m c t h r _ _ _ 0 (keys1536 m c t r _) (selection1536 m c t r _) fun x => far_bias m c t h r _ (by omega) (by omega))
    (fun x => keys1536 m c t r _ x d)
    (near_score m c t h r _ _ _ 1536 (range_keys m c t r 1536 _) (range_selection m c t r 1536 _) (before_bias m c t h r 1536 (by omega)))
    (fun x => range_keys m c t r 1536 _ x d)
    (near_score m c t h r _ _ _ 1792 (range_keys m c t r 1792 _) (range_selection m c t r 1792 _) (own_bias m c t h r 1792 (by omega)))
    fun x => range_keys m c t r 1792 _ x d

end Cert.Kernel12Ideal.Sparse

end
-- ==== Proof.SparseAttnValue.lean ====
/- What the sparse attention's kernel leaves in its result array: the attention of every head and query, where no key of a block
   after the query's is selected. -/
module

public import proofs.«01_k».proof.Proof.SparseAttnRange512
public import proofs.«01_k».proof.Proof.SparseAttnRange768
public import proofs.«01_k».proof.Proof.SparseAttnRange1024
public import proofs.«01_k».proof.Proof.SparseAttnRange1280
public import proofs.«01_k».proof.Proof.SparseAttnRange1536

@[expose] public section

set_option maxRecDepth 16384

noncomputable section

namespace Cert.Kernel12Ideal.Sparse

open Idealize.ShloMosaic Idealize.ShloMosaic.TcCoe
open Cert.Kernel12Ideal Cert.Kernel12Ideal.Gen

variable (m : (ℓ : Loc nD τ sig) → Buf (Elt Ideal) ℓ) (c : Dev nD) (t : Fin cfg0.N) (h : Fin 16) (r : Fin 64) (d : Fin 512)

/-! ## The result array -/

/-- No key of a block of 256 after the query's is selected. -/
def causal (sel : Vec Ideal S16384x2048 .f32) : Prop :=
  ∀ (r : Fin 16384) (k : ℕ), k < 2048 → r.val % 2048 / 256 < k / 256 → ¬ Layer.Sparse.selected sel r k

/-- Where only the first `n` keys can be selected, attending to them is attending to all. -/
theorem all_keys (sel : causal (m ((c : Thread nD τ).loc main_arg3))) (n : ℕ) (hn : n ≤ 2048)
    (later : ∀ k, n ≤ k → (row t r).val % 2048 / 256 < k / 256) :
    Layer.Attend.attend (Finset.Ico 0 n) (scores m c h (row t r)) (values m c (row t r) d)
      = Layer.Sparse.out (m ((c : Thread nD τ).loc main_arg0)) (m ((c : Thread nD τ).loc main_arg1))
          (m ((c : Thread nD τ).loc main_arg2)) (m ((c : Thread nD τ).loc main_arg3)) h (row t r) d := by
  refine Layer.Attend.attend_subset (Finset.Ico_subset_Ico_right hn) _ _ fun k hk hnk => ?_
  rw [Finset.mem_Ico] at hk hnk
  exact if_neg (sel _ k hk.2 (later k (by omega)))

/-- What a point leaves. -/
theorem leaves_eq (sel : causal (m ((c : Thread nD τ).loc main_arg3))) :
    outsAt0 m c t.val t.isLt (ix3 h r d)
      = Layer.Sparse.out (m ((c : Thread nD τ).loc main_arg0)) (m ((c : Thread nD τ).loc main_arg1))
          (m ((c : Thread nD τ).loc main_arg2)) (m ((c : Thread nD τ).loc main_arg3)) h (row t r) d := by
  have e : (row t r).val % 2048 = t.val % 32 * 64 + r.val := by
    unfold row
    dsimp only
    omega
  by_cases h1 : t.val % 32 ≤ 3
  · rw [leaves_one m c t h r d h1, all_keys m c t h r d sel 256 (by decide)]
    intro k hk
    omega
  by_cases h2 : t.val % 32 ≤ 7
  · rw [leaves_two m c t h r d (by omega), all_keys m c t h r d sel 512 (by decide)]
    intro k hk
    omega
  by_cases h3 : t.val % 32 ≤ 11
  · rw [leaves_three m c t h r d (by omega), all_keys m c t h r d sel 768 (by decide)]
    intro k hk
    omega
  by_cases h4 : t.val % 32 ≤ 15
  · rw [leaves512 m c t h r d (by omega), all_keys m c t h r d sel 1024 (by decide)]
    intro k hk
    omega
  by_cases h5 : t.val % 32 ≤ 19
  · rw [leaves768 m c t h r d (by omega), all_keys m c t h r d sel 1280 (by decide)]
    intro k hk
    omega
  by_cases h6 : t.val % 32 ≤ 23
  · rw [leaves1024 m c t h r d (by omega), all_keys m c t h r d sel 1536 (by decide)]
    intro k hk
    omega
  by_cases h7 : t.val % 32 ≤ 27
  · rw [leaves1280 m c t h r d (by omega), all_keys m c t h r d sel 1792 (by decide)]
    intro k hk
    omega
  · rw [leaves1536 m c t h r d (by omega), all_keys m c t h r d sel 2048 le_rfl]
    intro k hk
    omega

/-- What the result array is shown to hold. -/
def value (c : Dev nD) : Buf (Elt Ideal) ((c : Thread nD τ).loc main_v120) := fun (i : S16x16384x512.Idx) =>
  Layer.Sparse.out (m ((c : Thread nD τ).loc main_arg0)) (m ((c : Thread nD τ).loc main_arg1))
    (m ((c : Thread nD τ).loc main_arg2)) (m ((c : Thread nD τ).loc main_arg3)) (i 0) (i 1) (i 2)

/-- The result array at the end of the run. -/
theorem final (sel : causal (m ((c : Thread nD τ).loc main_arg3))) : (dats m 0 c).arrAt 6 cfg0.N = value m c := by
  refine (dats m 0 c).arrAt_eq_of_covers 6 _ (by decide +kernel) fun t hf (y : S16x64x512.Idx) => ?_
  obtain ⟨-, -, -, -, -, -, e0, e1, e2⟩ := index_facts t
  blk_simp
  rw [after0_6]
  obtain ⟨h, r, d, rfl⟩ : ∃ (h : Fin 16) (r : Fin 64) (d : Fin 512), y = ix3 h r d := ⟨y 0, y 1, y 2, eq_ix3 y⟩
  rw [leaves_eq m c t h r d sel]
  unfold value
  unfold row
  refine congr (congr (congrArg _ (Fin.ext ?_)) (Fin.ext ?_)) (Fin.ext ?_) <;> (blk_simp; (try dsimp only); omega)

end Cert.Kernel12Ideal.Sparse

end
-- ==== Proof.SparseAttnBias.lean ====
/- The bias of the sparse attention's reference, read at an entry. -/
module

public import proofs.«01_k».proof.Proof.SparseAttnSpec
public import proofs.«01_k».proof.Proof.Gen.Reference12Ideal.Read
public import Idealize.ShloMosaic.Lib.Pointwise
public import Idealize.ShloMosaic.PureOps.Ideal.Laws

@[expose] public section

set_option maxRecDepth 16384

noncomputable section

namespace Cert.Reference12Ideal.Sparse

open Idealize.ShloMosaic Idealize.ShloMosaic.TcCoe
open Cert.Reference12Ideal Cert.Reference12Ideal.Gen Cert.Reference12Ideal.Read

variable (x0 : Vec Ideal S32x16 .f32)

/-- The bucket of a key and a query. -/
theorem bucket_apply (q k : Fin 2048) :
    val_main_v32 (F := Ideal) (ix2 q k) = Layer.Relative.bucket (IntOp.subi (BitVec.ofNat 32 k.val) (BitVec.ofNat 32 q.val)) := by
  unfold val_main_v32 val_main_v31 val_main_v30 val_main_v29 val_main_v28 val_main_c_7 val_main_v27 val_main_call0_v1
    val_main_call0_v0 val_main_c_6 val_main_c_5 val_main_v26 val_main_v25 val_main_c_4 val_main_v24 val_main_v23
    val_main_c_3 val_main_v22 val_main_v21 val_main_c_2 val_main_v20 val_main_v19 val_main_v18 val_main_cst_1
    val_main_v17 val_main_v16 val_main_cst_0 val_main_v15 val_main_v14 val_main_v13 val_main_cst val_main_v12
    val_main_v11 val_main_v10 val_main_c val_main_v9 val_main_v8 val_main_v7 val_main_v6 val_main_v5 val_main_v4
    val_main_v0
  pointwise
  rfl

/-- The row of the table that is read for a key and a query. -/
theorem row_apply (q k : Fin 2048) :
    val_main_v38 (F := Ideal) (ix3 q k 0) = Layer.Relative.bucket (IntOp.subi (BitVec.ofNat 32 k.val) (BitVec.ofNat 32 q.val)) := by
  have hb := bucket_apply q k
  have hlt := Layer.Relative.bucket_lt k.val q.val k.isLt q.isLt
  unfold val_main_v38 val_main_v37 val_main_v36 val_main_v35 val_main_v34 val_main_v33 val_main_c_8
  generalize val_main_v32 (F := Ideal) = B at hb
  pointwise
  rw [hb]
  generalize Layer.Relative.bucket _ = u at hlt
  have hn : u.slt 0#32 = false := by
    rw [BitVec.slt_eq_decide, BitVec.toInt_eq_toNat_of_lt (by omega)]
    exact decide_eq_false (by simp)
  unfold Scalar.select IntOp.cmpi
  dsimp only
  rw [hn, if_neg (by decide)]

/-- The gather reads the row of the table that the index names, where there is such a row. -/
theorem gather_apply (B : IVec S2048x2048x1 32) (q k : Fin 2048) (h : Fin 16) (u : BitVec 32) (hB : B (ix3 q k 0) = u) (hlt : u.toNat < 32) :
    Host.gather gather_S32x16_S2048x2048x1_S2048x2048x16_2_0_n_n_0_2_116 x0 B (ix3 q k h)
      = x0 (ix2 ⟨u.toNat % 32, Nat.mod_lt _ (by decide)⟩ h) := by
  unfold Host.gather GatherDims.operandIdx
  refine congrArg x0 (funext fun a => Fin.ext ?_)
  dsimp only
  obtain rfl | rfl : a = 0 ∨ a = 1 := by
    match a with
    | ⟨0, _⟩ => exact Or.inl rfl
    | ⟨1, _⟩ => exact Or.inr rfl
  · rw [GatherDims.batchCoord_eq_zero _ _ _ (by decide), GatherDims.offCoord_eq_zero _ _ _ (by decide)]
    unfold GatherDims.start
    rw [dif_pos (by decide)]
    have hi : gather_S32x16_S2048x2048x1_S2048x2048x16_2_0_n_n_0_2_116.siIdx (ix3 q k h) ⟨0, by decide⟩ = ix3 q k 0 :=
      funext fun b => Fin.ext (by
        match b with
        | ⟨0, _⟩ => rfl
        | ⟨1, _⟩ => rfl
        | ⟨2, _⟩ => rfl)
    have hu : B (gather_S32x16_S2048x2048x1_S2048x2048x16_2_0_n_n_0_2_116.siIdx (ix3 q k h) ⟨0, by decide⟩) = u := by rw [hi, hB]
    refine (congrArg (fun w : BitVec 32 => min w.toInt.toNat 31 + 0 + 0) hu).trans ?_
    change min u.toInt.toNat 31 + 0 + 0 = u.toNat % 32
    rw [BitVec.toInt_eq_toNat_of_lt (by omega)]
    omega
  · rw [GatherDims.batchCoord_eq_zero _ _ _ (by decide)]
    unfold GatherDims.start
    rw [dif_neg (by decide)]
    unfold GatherDims.offCoord
    rw [dif_pos (by decide)]
    change 0 + 0 + h.val = h.val
    omega

/-- The bias, at a key and a query. -/
theorem bias_apply (q k : Fin 2048) (h : Fin 16) :
    val_main_v40 (F := Ideal) x0 (ix3 h q k) = Layer.Sparse.bias x0 h q.val k.val := by
  have hi : idx_main_v40 (ix3 h q k) = ix3 q k h := funext fun a => Fin.ext (by
    match a with
    | ⟨0, _⟩ => rfl
    | ⟨1, _⟩ => rfl
    | ⟨2, _⟩ => rfl)
  rw [val_main_v40_apply, hi]
  exact gather_apply x0 _ q k h _ (row_apply q k) (Layer.Relative.bucket_lt k.val q.val k.isLt q.isLt)

end Cert.Reference12Ideal.Sparse

end
-- ==== Proof.SparseAttnScores.lean ====
/- The scores of the sparse attention's reference, read at an entry. -/
module

public import proofs.«01_k».proof.Proof.SparseAttnBias
public import proofs.«01_k».proof.Proof.Gen.Reference12Ideal.Read
public import Idealize.ShloMosaic.Lib.Pointwise
public import Idealize.ShloMosaic.PureOps.Ideal.Laws

@[expose] public section

set_option maxRecDepth 16384

noncomputable section

namespace Cert.Reference12Ideal.Sparse

open Idealize.ShloMosaic Idealize.ShloMosaic.TcCoe
open Cert.Reference12Ideal Cert.Reference12Ideal.Gen Cert.Reference12Ideal.Read

variable (x0 : Vec Ideal S32x16 .f32) (x1 : Vec Ideal S16x16384x512 .bf16) (x2 : Vec Ideal S16384x512 .f32) (x3 : Vec Ideal S16384x2048 .f32)

/-- A score. -/
theorem score_apply (h : Fin 16) (b : Fin 8) (q k : Fin 2048) :
    val_main_v52 (F := Ideal) x0 x1 x2 x3 (ix4 h b q k)
      = Layer.Sparse.score x0 x1 x2 x3 h ⟨b.val * 2048 + q.val, by omega⟩ k.val := by
  have hb := bias_apply x0 q k h
  unfold val_main_v52 val_main_call2_v2 val_main_call2_v1 val_main_call2_v0 val_main_cst_12 val_main_v51 val_main_v50
    val_main_cst_11 val_main_v49 val_main_v48 val_main_v47 val_main_v46 val_main_v45 val_main_v44 val_main_v43
    val_main_cst_10 val_main_v42 val_main_v41 val_main_v2 val_main_v1 val_main_v3
  generalize val_main_v40 (F := Ideal) x0 = B at hb
  pointwise
  rw [hb]
  have hk := k.isLt
  have hq := q.isLt
  have e : (⟨k.val % 2048, Nat.mod_lt _ (by decide)⟩ : Fin 2048) = k := Fin.ext (Nat.mod_eq_of_lt hk)
  have eq : (b.val * 2048 + q.val) % 2048 = q.val := by omega
  have er : Layer.Sparse.keyRow (b.val * 2048 + q.val) k.val = ⟨b.val * 2048 + k.val, by omega⟩ :=
    Fin.ext (by unfold Layer.Sparse.keyRow; dsimp only; omega)
  unfold Layer.Sparse.score Layer.Sparse.selected Layer.Sparse.raw
  dsimp only
  rw [e, eq, er]
  by_cases hs : 0 < x3 (ix2 (⟨b.val * 2048 + q.val, by omega⟩ : Fin 16384) k)
  · rw [if_pos hs, if_pos hs]
  · rw [if_neg hs, if_neg hs]
    exact Layer.Sparse.masked_eq

end Cert.Reference12Ideal.Sparse

end
-- ==== Proof.SparseAttnReference.lean ====
/- The reference of the sparse attention, read at an entry. -/
module

public import proofs.«01_k».proof.Proof.SparseAttnScores
public import proofs.«01_k».proof.Proof.Gen.Reference12Ideal.Read
public import Idealize.ShloMosaic.Lib.Pointwise
public import Idealize.ShloMosaic.PureOps.Ideal.Laws

@[expose] public section

set_option maxRecDepth 16384

noncomputable section

namespace Cert.Reference12Ideal.Sparse

open Idealize.ShloMosaic Idealize.ShloMosaic.TcCoe
open Cert.Reference12Ideal Cert.Reference12Ideal.Gen Cert.Reference12Ideal.Read

variable (x0 : Vec Ideal S32x16 .f32) (x1 : Vec Ideal S16x16384x512 .bf16) (x2 : Vec Ideal S16384x512 .f32) (x3 : Vec Ideal S16384x2048 .f32)

/-- A maximum along the last of four axes. -/
theorem reduce_max {n0 n1 n2 n3 : ℕ} {u : Shape} (v : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2)
    (g : Fin n3 → EReal) (hg : ∀ k, v (ix4 a b c k) = g k) (e : EReal) (he : init (Shape.Idx.first hu) = e) :
    Host.reduce FloatOps.maximumf v init h hu (ix3 a b c) = Finset.fold (max : EReal → EReal → EReal) e g Finset.univ := by
  subst he
  obtain rfl : (fun k => v (ix4 a b c k)) = g := funext hg
  pointwise

/-- What a maximum starts from masks a key out. -/
theorem start_eq : val_main_cst_13 (F := Ideal) (Shape.Idx.first h_S_) = (⊥ : EReal) := by
  unfold val_main_cst_13
  exact Layer.Sparse.masked_eq

/-- The greatest score of a query. -/
theorem top_apply (h : Fin 16) (b : Fin 8) (q : Fin 2048) (g : Fin 2048 → EReal)
    (hg : ∀ k, val_main_v52 (F := Ideal) x0 x1 x2 x3 (ix4 h b q k) = g k) :
    val_main_v53 (F := Ideal) x0 x1 x2 x3 (ix3 h b q) = Finset.fold max (⊥ : EReal) g Finset.univ := by
  unfold val_main_v53
  exact reduce_max _ _ _ _ h b q g hg ⊥ start_eq

/-- The greatest score of a query, once more compared with what masks a key out. -/
theorem max_apply (h : Fin 16) (b : Fin 8) (q : Fin 2048) (M : EReal) (hM : val_main_v53 (F := Ideal) x0 x1 x2 x3 (ix3 h b q) = M) :
    val_main_v55 (F := Ideal) x0 x1 x2 x3 (ix3 h b q) = max ⊥ M := by
  rw [val_main_v55_apply, hM, val_main_v54_apply]
  unfold val_main_cst_14
  exact congrArg (fun a : EReal => max a M) Layer.Sparse.masked_eq

/-- The weight of a key, before the division. -/
theorem weight_apply (h : Fin 16) (b : Fin 8) (q k : Fin 2048) :
    val_main_v59 (F := Ideal) x0 x1 x2 x3 (ix4 h b q k)
      = Ideal.exp (val_main_v52 (F := Ideal) x0 x1 x2 x3 (ix4 h b q k) - val_main_v55 (F := Ideal) x0 x1 x2 x3 (ix3 h b q)) := by
  unfold val_main_v59 val_main_v58 val_main_v57 val_main_v56
  generalize val_main_v55 (F := Ideal) x0 x1 x2 x3 = M
  generalize val_main_v52 (F := Ideal) x0 x1 x2 x3 = B
  pointwise

/-- The sum of the weights of a query. -/
theorem total_apply (h : Fin 16) (b : Fin 8) (q : Fin 2048) :
    val_main_v60 (F := Ideal) x0 x1 x2 x3 (ix3 h b q) = ∑ k : Fin 2048, val_main_v59 (F := Ideal) x0 x1 x2 x3 (ix4 h b q k) := by
  unfold val_main_v60 val_main_cst_15
  generalize val_main_v59 (F := Ideal) x0 x1 x2 x3 = E
  pointwise

/-- The weight of a key. -/
theorem share_apply (h : Fin 16) (b : Fin 8) (q k : Fin 2048) :
    val_main_v63 (F := Ideal) x0 x1 x2 x3 (ix4 h b q k)
      = Ideal.div (val_main_v59 (F := Ideal) x0 x1 x2 x3 (ix4 h b q k)) (val_main_v60 (F := Ideal) x0 x1 x2 x3 (ix3 h b q)) := by
  unfold val_main_v63 val_main_v62 val_main_v61
  generalize val_main_v60 (F := Ideal) x0 x1 x2 x3 = M
  generalize val_main_v59 (F := Ideal) x0 x1 x2 x3 = B
  pointwise

/-- The weighted values. -/
theorem mean_apply (h : Fin 16) (b : Fin 8) (q : Fin 2048) (d : Fin 512) :
    val_main_v65 (F := Ideal) x0 x1 x2 x3 (ix4 h b q d)
      = ∑ k : Fin 2048, x2 (ix2 (⟨b.val * 2048 + k.val, by omega⟩ : Fin 16384) d) * val_main_v63 (F := Ideal) x0 x1 x2 x3 (ix4 h b q k) := by
  rw [val_main_v65_apply, val_main_v64_apply]
  generalize val_main_v63 (F := Ideal) x0 x1 x2 x3 = P
  refine Finset.sum_congr rfl fun k _ => congrArg₂ (fun a b : EReal => a * b) ?_ (congrArg P (funext fun a => Fin.ext ?_))
  · unfold val_main_v3
    pointwise
    rfl
  · match a with
    | ⟨0, _⟩ => rfl
    | ⟨1, _⟩ => rfl
    | ⟨2, _⟩ => rfl
    | ⟨3, _⟩ => rfl

/-- The result of the reference, as its rows by sequence. -/
theorem split_apply (h : Fin 16) (r : Fin 16384) (d : Fin 512) :
    val_main_v67 (F := Ideal) x0 x1 x2 x3 (ix3 h r d)
      = val_main_v65 (F := Ideal) x0 x1 x2 x3 (ix4 h (⟨r.val / 2048, by omega⟩ : Fin 8) (⟨r.val % 2048, by omega⟩ : Fin 2048) d) := by
  unfold val_main_v67 val_main_v66
  generalize val_main_v65 (F := Ideal) x0 x1 x2 x3 = B
  pointwise

/-- The reference computes the sparse attention, where no score is infinitely great and each query has a key. -/
theorem result_apply (h : Fin 16) (r : Fin 16384) (d : Fin 512)
    (top : ∀ k < 2048, Layer.Sparse.score x0 x1 x2 x3 h r k ≠ ⊤) (some : ∃ k < 2048, Layer.Sparse.score x0 x1 x2 x3 h r k ≠ ⊥) :
    val_main_v67 (F := Ideal) x0 x1 x2 x3 (ix3 h r d) = Layer.Sparse.out x0 x1 x2 x3 h r d := by
  have hr : (⟨r.val / 2048 * 2048 + r.val % 2048, by omega⟩ : Fin 16384) = r := Fin.ext (by dsimp only; omega)
  rw [split_apply, mean_apply]
  unfold Layer.Sparse.out
  obtain ⟨j, hj, hs⟩ := some
  rw [← Layer.Attend.softmax_attend _ _ _ (fun k hk => top k (Finset.mem_Ico.1 hk).2) ⟨j, Finset.mem_Ico.2 ⟨Nat.zero_le _, hj⟩, hs⟩]
  have hmax : val_main_v55 (F := Ideal) x0 x1 x2 x3 (ix3 h (⟨r.val / 2048, by omega⟩ : Fin 8) (⟨r.val % 2048, by omega⟩ : Fin 2048))
      = (Finset.Ico 0 2048).sup (Layer.Sparse.score x0 x1 x2 x3 h r) := by
    rw [max_apply x0 x1 x2 x3 h _ _ _
      (top_apply x0 x1 x2 x3 h _ _ (fun k => Layer.Sparse.score x0 x1 x2 x3 h r k.val) fun k => by rw [score_apply, hr]), max_eq_right bot_le]
    exact Layer.Attend.fold_max_zero 2048 _
  have hw : ∀ k : Fin 2048, val_main_v59 (F := Ideal) x0 x1 x2 x3 (ix4 h (⟨r.val / 2048, by omega⟩ : Fin 8) (⟨r.val % 2048, by omega⟩ : Fin 2048) k)
      = Ideal.exp (Layer.Sparse.score x0 x1 x2 x3 h r k.val - (Finset.Ico 0 2048).sup (Layer.Sparse.score x0 x1 x2 x3 h r)) := fun k => by
    rw [weight_apply, hmax, score_apply, hr]
  refine Eq.trans (Finset.sum_congr rfl fun k _ => ?_) (Layer.Attend.sum_axis_zero 2048 fun k => _)
  rw [share_apply, total_apply]
  simp only [hw]
  rw [Layer.Attend.sum_axis_zero 2048 fun k => Ideal.exp (Layer.Sparse.score x0 x1 x2 x3 h r k - (Finset.Ico 0 2048).sup (Layer.Sparse.score x0 x1 x2 x3 h r))]
  refine congrArg₂ (fun a b : EReal => a * b) (congrArg x2 (congrArg (ix2 · d) (Fin.ext ?_))) rfl
  unfold Layer.Sparse.keyRow
  have := k.isLt
  dsimp only
  omega

end Cert.Reference12Ideal.Sparse

end
-- ==== Proof.SparseAttnPre.lean ====
/- What the sparse attention's precondition says: the biases, queries and keys are reals, no key of a block after the query's is
   selected, and every query has a key selected. From it, every score that counts is a real. -/
module

public import proofs.«01_k».proof.Defs
public import proofs.«01_k».proof.Proof.SparseAttnSpec
public import proofs.«01_k».proof.Proof.SparseSoftmax
public import proofs.«01_k».proof.Proof.Gen.Pre_pre12
public import Idealize.ShloMosaic.Lib.ReduceAll
public import Idealize.ShloMosaic.Lib.Pointwise
public import Idealize.ShloMosaic.PureOps.Ideal.Laws

@[expose] public section

set_option maxRecDepth 16384

noncomputable section

namespace Layer.Sparse

open Idealize.ShloMosaic Idealize.ShloMosaic.TcCoe
open Cert.Pre_pre12 Cert.Pre_pre12.Gen

/-- Two conditions that hold together. -/
theorem both {S : Shape} (a b : IVec S 1) (i : S.Idx) (e : andi a b i = 1#1) : a i = 1#1 ∧ b i = 1#1 := by
  change IntOp.andi (a i) (b i) = 1#1 at e
  generalize a i = p at e
  generalize b i = q at e
  revert p q
  decide

/-- A truth value that is 1. -/
theorem ofBool_one {p : Bool} (e : BitVec.ofBool p = 1#1) : p = true := by
  cases p
  · exact absurd e (by decide)
  · rfl

/-- What no real reaches. -/
theorem top_eq : Ideal.ofBits FTy.f32 0x7F800000#32 = ⊤ := by
  simp only [Ideal.ofBits, Ideal.ieee, show (BitVec.extractLsb' (8 + 23) 1 0x7F800000#32 == 1#1) = false by decide,
    show (BitVec.extractLsb' 23 8 0x7F800000#32).toNat = 255 by decide, show (BitVec.extractLsb' 0 23 0x7F800000#32).toNat = 0 by decide]
  norm_num

/-- A number whose absolute value is below the infinite is a real. -/
theorem real_of_abs (x : EReal) (e : Ideal.cmp .olt (max x (-x)) (Ideal.ofBits FTy.f32 0x7F800000#32) = 1#1) : ∃ c : ℝ, x = (c : EReal) := by
  rw [top_eq] at e
  have h : max x (-x) < ⊤ := of_decide_eq_true (ofBool_one e)
  have h1 : x ≠ ⊤ := fun hx => by rw [hx] at h; simp at h
  have h2 : x ≠ ⊥ := fun hx => by rw [hx] at h; simp at h
  exact ⟨x.toReal, (EReal.coe_toReal h1 h2).symm⟩

/-- An array that passes the check for infinities holds reals. -/
theorem real_of_check {S : Shape} {axes : List (Fin S.rank)} (x : FVec Ideal S .f32) (b : S_.BroadcastsInDim S ![]) (h : S.ReducesTo axes S_)
    (init : IVec S_ 1) (hu : 0 < S_.numel) (i0 : S_.Idx)
    (e : Host.reduce IntOp.andi (cmpf .olt (Host.absf x) (broadcastInDim S ![] b (constant (F := Ideal) S_ .f32 0x7F800000#32))) init h hu i0 = 1#1)
    (i : S.Idx) : ∃ c : ℝ, x i = (c : EReal) := by
  have : Subsingleton S_.Idx := ⟨fun a b => funext fun k => k.elim0⟩
  exact real_of_abs _ (Host.reduce_andi_all _ _ _ _ _ e i)

/-- The check that no key of a later block is selected. -/
def checkCausal (sel : FVec Ideal S16384x2048 .f32) : IVec S8x2048x2048 1 :=
  ori (broadcastInDim S8x2048x2048 ![0, 1, 2] bcast_S1x2048x2048_S8x2048x2048_0_1_2
      (broadcastInDim S1x2048x2048 ![1, 2] bcast_S2048x2048_S1x2048x2048_1_2 (cmpi .sle
        (broadcastInDim S2048x2048 ![0, 1] bcast_S1x2048_S2048x2048_0_1 (broadcastInDim S1x2048 ![1] bcast_S2048_S1x2048_1
          (shapeCast S2048 (iotaInDim S8x256 32 0) shapeCasts_S8x256_S2048)))
        (broadcastInDim S2048x2048 ![0, 1] bcast_S2048x1_S2048x2048_0_1 (broadcastInDim S2048x1 ![0] bcast_S2048_S2048x1_0
          (shapeCast S2048 (iotaInDim S8x256 32 0) shapeCasts_S8x256_S2048))))))
    (cmpf .ole (shapeCast S8x2048x2048 sel shapeCasts_S16384x2048_S8x2048x2048)
      (broadcastInDim S8x2048x2048 ![] bcast_S_S8x2048x2048 (constant (F := Ideal) S_ .f32 0x00000000#32)))

theorem checkCausal_apply (sel : FVec Ideal S16384x2048 .f32) (b : Fin 8) (q k : Fin 2048) :
    checkCausal sel (ix3 b q k)
      = IntOp.ori (IntOp.cmpi .sle (BitVec.ofNat 32 (k.val / 256)) (BitVec.ofNat 32 (q.val / 256)))
          (Ideal.cmp .ole (sel (ix2 (⟨b.val * 2048 + q.val, by omega⟩ : Fin 16384) k)) 0) := by
  unfold checkCausal
  pointwise

/-- A key of a later block that passes the check is not selected. -/
theorem not_selected (sel : FVec Ideal S16384x2048 .f32) (e : ∀ i, checkCausal sel i = 1#1) (r : Fin 16384) (k : ℕ) (hk : k < 2048)
    (later : r.val % 2048 / 256 < k / 256) : ¬ selected sel r k := by
  have h := (checkCausal_apply sel ⟨r.val / 2048, by omega⟩ ⟨r.val % 2048, by omega⟩ ⟨k % 2048, by omega⟩).symm.trans (e _)
  have hr : (⟨r.val / 2048 * 2048 + r.val % 2048, by omega⟩ : Fin 16384) = r := Fin.ext (by dsimp only; omega)
  dsimp only at h
  rw [hr] at h
  have hc : IntOp.cmpi .sle (BitVec.ofNat 32 (k % 2048 / 256)) (BitVec.ofNat 32 (r.val % 2048 / 256)) = 0#1 := by
    unfold IntOp.cmpi
    dsimp only
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat, decide_eq_false (by omega)]
    rfl
  rw [hc] at h
  have h' : Ideal.cmp .ole (sel (ix2 r (⟨k % 2048, Nat.mod_lt _ (by decide)⟩ : Fin 2048))) 0 = 1#1 := by
    generalize Ideal.cmp .ole (sel (ix2 r (⟨k % 2048, Nat.mod_lt _ (by decide)⟩ : Fin 2048))) 0 = p at h
    revert p
    decide
  have hle := of_decide_eq_true (ofBool_one h')
  exact not_lt.2 hle

/-- The greatest entry of a row. -/
theorem reduce_row {n0 n1 : ℕ} {u : Shape} (v : FVec Ideal ⟨2, ![n0, n1]⟩ .f32) (init : FVec Ideal u .f32)
    (h : (⟨2, ![n0, n1]⟩ : Shape).ReducesTo [1] ⟨1, ![n0]⟩) (hu : 0 < u.numel) (a : Fin n0)
    (g : Fin n1 → EReal) (hg : ∀ k, v (ix2 a k) = g k) (e : EReal) (he : init (Shape.Idx.first hu) = e) :
    Host.reduce FloatOps.maximumf v init h hu (ix1 a) = Finset.fold (max : EReal → EReal → EReal) e g Finset.univ := by
  subst he
  obtain rfl : (fun k => v (ix2 a k)) = g := funext hg
  pointwise

/-- A row whose greatest entry is above zero has an entry above zero. -/
theorem some_selected (sel : FVec Ideal S16384x2048 .f32) (r : Fin 16384) (M : FVec Ideal S16384 .f32)
    (hM : M (ix1 r) = Finset.fold (max : EReal → EReal → EReal) ⊥ (fun k : Fin 2048 => (sel (ix2 r k) : EReal)) Finset.univ)
    (e : cmpf .ogt M (broadcastInDim S16384 ![] bcast_S_S16384 (constant (F := Ideal) S_ .f32 0x00000000#32)) (ix1 r) = 1#1) :
    ∃ k < 2048, selected sel r k := by
  change Ideal.cmp .ogt (M (ix1 r)) (Ideal.ofBits FTy.f32 0x00000000#32) = 1#1 at e
  rw [hM, Ideal.ofBits_zero_f32] at e
  have hlt : (0 : EReal) < Finset.univ.sup (fun k : Fin 2048 => (sel (ix2 r k) : EReal)) := of_decide_eq_true (ofBool_one e)
  by_contra hno
  refine absurd hlt (not_lt.2 (Finset.sup_le fun k _ => ?_))
  by_contra hk
  refine hno ⟨k.val, k.isLt, ?_⟩
  have hkk : (⟨k.val % 2048, Nat.mod_lt _ (by decide)⟩ : Fin 2048) = k := Fin.ext (Nat.mod_eq_of_lt k.isLt)
  unfold selected
  rw [hkk]
  exact not_le.1 hk

/-- The precondition, read. -/
structure Holds (table : FVec Ideal S32x16 .f32) (q : FVec Ideal S16x16384x512 .bf16) (kv : FVec Ideal S16384x512 .f32)
    (sel : FVec Ideal S16384x2048 .f32) : Prop where
  /-- The biases are reals. -/
  table_real : ∀ i, ∃ c : ℝ, table i = (c : EReal)
  /-- The queries are reals. -/
  q_real : ∀ i, ∃ c : ℝ, q i = (c : EReal)
  /-- The keys are reals. -/
  kv_real : ∀ i, ∃ c : ℝ, kv i = (c : EReal)
  /-- No key of a later block is selected. -/
  later : ∀ (r : Fin 16384) (k : ℕ), k < 2048 → r.val % 2048 / 256 < k / 256 → ¬ selected sel r k
  /-- Every query has a key selected. -/
  some : ∀ r : Fin 16384, ∃ k < 2048, selected sel r k

theorem holds (table : FVec Ideal S32x16 .f32) (q : FVec Ideal S16x16384x512 .bf16) (kv : FVec Ideal S16384x512 .f32)
    (sel : FVec Ideal S16384x2048 .f32) (e : Cert.Pre_pre12.fn (F := Ideal) table q kv sel = fun _ => 1#1) : Holds table q kv sel := by
  have : Subsingleton S_.Idx := ⟨fun a b => funext fun k => k.elim0⟩
  have e0 := congrFun e ValueIdx.ix0
  dsimp only [Cert.Pre_pre12.fn, Cert.Pre_pre12.fn_part1] at e0
  obtain ⟨e1, eSome⟩ := both _ _ _ e0
  obtain ⟨e2, eLater⟩ := both _ _ _ e1
  obtain ⟨e3, eKv⟩ := both _ _ _ e2
  obtain ⟨eTable, eQ⟩ := both _ _ _ e3
  clear e e0 e1 e2 e3
  have f0 : ∀ i, ∃ c : ℝ, table i = (c : EReal) := by
    clear eSome eLater eKv eQ
    exact real_of_check table _ _ _ _ _ eTable
  have f1 : ∀ i, ∃ c : ℝ, q i = (c : EReal) := by
    clear eSome eLater eKv eTable f0
    exact real_of_check (extf .f32 q _) _ _ _ _ _ eQ
  have f2 : ∀ i, ∃ c : ℝ, kv i = (c : EReal) := by
    clear eSome eLater eQ eTable f0 f1
    exact real_of_check kv _ _ _ _ _ eKv
  clear eQ eKv eTable
  have f3 := not_selected sel (Host.reduce_andi_all _ _ _ _ _ eLater)
  clear eLater
  exact ⟨f0, f1, f2, f3, fun r => some_selected sel r _
    (reduce_row _ _ _ _ r _ (fun _ => rfl) ⊥ masked_eq) (Host.reduce_andi_all _ _ _ _ _ eSome (ix1 r))⟩

variable {table : FVec Ideal S32x16 .f32} {q : FVec Ideal S16x16384x512 .bf16} {kv : FVec Ideal S16384x512 .f32}
  {sel : FVec Ideal S16384x2048 .f32}

/-- A key's score is a real where the key counts. -/
theorem Holds.raw_real (hp : Holds table q kv sel) (h : Fin 16) (r : Fin 16384) (k : ℕ) : ∃ c : ℝ, raw table q kv h r k = (c : EReal) := by
  obtain ⟨κ, hκ⟩ := scale_real
  choose f hf using fun x : Fin 512 => hp.kv_real (ix2 (keyRow r.val k) x)
  choose g hg using fun x : Fin 512 => hp.q_real (ix3 h r x)
  obtain ⟨b, hb⟩ : ∃ b : ℝ, bias table h (r.val % 2048) k = (b : EReal) := hp.table_real _
  have hs : (∑ x : Fin 512, (kv (ix2 (keyRow r.val k) x) : EReal) * (q (ix3 h r x) : EReal)) = ((∑ x : Fin 512, f x * g x : ℝ) : EReal) :=
    Layer.Attend.sum_real _ _ _ fun x _ => (congrArg₂ (fun a b : EReal => a * b) (hf x) (hg x)).trans (EReal.coe_mul _ _).symm
  refine ⟨(∑ x : Fin 512, f x * g x) * κ + b, ?_⟩
  unfold raw
  rw [EReal.coe_add, EReal.coe_mul, ← hs, ← hκ, ← hb]

/-- No score is the infinite. -/
theorem Holds.top (hp : Holds table q kv sel) (h : Fin 16) (r : Fin 16384) : ∀ k < 2048, score table q kv sel h r k ≠ ⊤ := fun k _ => by
  obtain ⟨c, hc⟩ := hp.raw_real h r k
  unfold score
  split
  · rw [hc]; exact EReal.coe_ne_top c
  · exact bot_ne_top

/-- Every query has a key that counts. -/
theorem Holds.counts (hp : Holds table q kv sel) (h : Fin 16) (r : Fin 16384) : ∃ k < 2048, score table q kv sel h r k ≠ ⊥ := by
  obtain ⟨k, hk, hs⟩ := hp.some r
  obtain ⟨c, hc⟩ := hp.raw_real h r k
  refine ⟨k, hk, ?_⟩
  unfold score
  rw [if_pos hs, hc]
  exact EReal.coe_ne_bot c

end Layer.Sparse

end
-- ==== Proof.SparseAttnClaims.lean ====
/- The claims about the sparse attention. -/
module

public import proofs.«01_k».proof.Defs
public import proofs.«01_k».proof.Proof.SparseAttnValue
public import proofs.«01_k».proof.Proof.SparseAttnReference
public import proofs.«01_k».proof.Proof.SparseAttnPre
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace Cert.Proof.SparseAttn

open Idealize.ShloMosaic Idealize.SL.Sem Idealize.ShloMosaic.TcCoe

/-- The reference's frame: it is a line of operations, no one of them writing an argument, and has no semaphore. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The value claim: kernel and reference end with equal results. -/
theorem equal_results : Cert.algebraic_Kernel12Ideal_Reference12Ideal_pre_pre12 := fun m ρ m' ρ' hpre hag => by
  have hp := Layer.Sparse.holds _ _ _ _ (hpre 0)
  refine ⟨fun c => Cert.Kernel12Ideal.Sparse.value m c,
    (θ_run Cert.Kernel12Ideal.defs _ _).mono (fun r hr c => ?_) (Cert.Kernel12Ideal.Value.run_blocks (F := Ideal) m ρ),
    (θ_run Cert.Reference12Ideal.defs _ _).mono (fun r hr c => ?_) (Cert.Reference12Ideal.Value.run (F := Ideal) m' ρ')⟩
  · obtain rfl : c = 0 := Subsingleton.elim _ _
    exact ⟨(hr 0).1.trans (Cert.Kernel12Ideal.Sparse.final m 0 hp.later), (hr 0).2⟩
  · obtain rfl : c = 0 := Subsingleton.elim _ _
    refine ⟨((hr 0).1.trans (Cert.Reference12Ideal.Read.val_main_v67_eq _ _)).trans ?_, (hr 0).2⟩
    obtain ⟨h0, h1, h2, h3⟩ := hag 0
    rw [h0, h1, h2, h3]
    refine funext fun (i : Cert.Reference12Ideal.S16x16384x512.Idx) => ?_
    obtain ⟨h, r, d, rfl⟩ : ∃ (h : Fin 16) (r : Fin 16384) (d : Fin 512), i = ix3 h r d := ⟨i 0, i 1, i 2, eq_ix3 i⟩
    exact Cert.Reference12Ideal.Sparse.result_apply _ _ _ _ h r d (hp.top h r) (hp.counts h r)

end Cert.Proof.SparseAttn

end
-- ==== Proof.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_pre2
public import proofs.«01_k».proof.Proof.Gen.Pre_pre12
public import proofs.«01_k».proof.Proof.ExpertsClaims
public import proofs.«01_k».proof.Proof.QkvClaims
public import proofs.«01_k».proof.Proof.OutProjClaims
public import proofs.«01_k».proof.Proof.QueryUpClaims
public import proofs.«01_k».proof.Proof.AbsorbClaims
public import proofs.«01_k».proof.Proof.ExpandClaims
public import proofs.«01_k».proof.Proof.SparseInClaims
public import proofs.«01_k».proof.Proof.NormInClaims
public import proofs.«01_k».proof.Proof.FinalNormClaims
public import proofs.«01_k».proof.Proof.LatentNormClaims
public import proofs.«01_k».proof.Proof.SparseAttnClaims

@[expose] public section

noncomputable section

namespace Cert.Proof

open Idealize.ShloMosaic Idealize.SL.Sem

/-- All that is claimed. -/
theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_pre2.Gen.facts, Cert.Pre_pre12.Gen.facts,
  Experts.frame_kernel, Experts.frame_ideal, Experts.frame_reference,
  fun m ρ _ => Cert.Kernel3.Gen.frame m ρ, fun m ρ _ => Cert.Kernel3Ideal.Gen.frame m ρ, Qkv.frame_reference,
  fun m ρ _ => Cert.Kernel4.Gen.frame m ρ, fun m ρ _ => Cert.Kernel4Ideal.Gen.frame m ρ, OutProj.frame_reference,
  fun m ρ _ => Cert.Kernel5.Gen.frame m ρ, fun m ρ _ => Cert.Kernel5Ideal.Gen.frame m ρ, QueryUp.frame_reference,
  fun m ρ _ => Cert.Kernel6.Gen.frame m ρ, fun m ρ _ => Cert.Kernel6Ideal.Gen.frame m ρ, Absorb.frame_reference,
  fun m ρ _ => Cert.Kernel7.Gen.frame m ρ, fun m ρ _ => Cert.Kernel7Ideal.Gen.frame m ρ, Expand.frame_reference,
  fun m ρ _ => Cert.Kernel8.Gen.frame m ρ, fun m ρ _ => Cert.Kernel8Ideal.Gen.frame m ρ, SparseIn.frame_reference,
  fun m ρ _ => Cert.Kernel9.Gen.frame m ρ, fun m ρ _ => Cert.Kernel9Ideal.Gen.frame m ρ, NormIn.frame_reference,
  fun m ρ _ => Cert.Kernel10.Gen.frame m ρ, fun m ρ _ => Cert.Kernel10Ideal.Gen.frame m ρ, FinalNorm.frame_reference,
  fun m ρ _ => Cert.Kernel11.Gen.frame m ρ, fun m ρ _ => Cert.Kernel11Ideal.Gen.frame m ρ, LatentNorm.frame_reference,
  fun m ρ _ => Cert.Kernel12.Gen.frame m ρ, fun m ρ _ => Cert.Kernel12Ideal.Gen.frame m ρ,
  fun m ρ _ => Cert.Kernel12Ideal.Gen.frame m ρ, SparseAttn.frame_reference, fun m ρ _ => SparseAttn.frame_reference m ρ trivial,
  trivial, Experts.equal_results,
  trivial, Qkv.equal_results,
  trivial, OutProj.equal_results,
  trivial, QueryUp.equal_results,
  trivial, Absorb.equal_results,
  trivial, Expand.equal_results,
  trivial, SparseIn.equal_results,
  trivial, NormIn.equal_results,
  trivial, FinalNorm.equal_results,
  trivial, LatentNorm.equal_results,
  trivial, SparseAttn.equal_results⟩

end Cert.Proof

end
